-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_range [hPre_within_range : Cert.Pre_within_range.Facts] (m : (ℓ : Loc Cert.KernelIdeal.nD Cert.KernelIdeal.τ Cert.KernelIdeal.sig) → Buf (Elt Ideal) ℓ) : Prop :=
  ∀ c : Dev Cert.KernelIdeal.nD,
    (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_within_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_range [hPre_within_range : Cert.Pre_within_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_within_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_within_range [hKernelIdeal : Cert.KernelIdeal.Facts] [hPre_within_range : Cert.Pre_within_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_within_range [hReferenceIdeal : Cert.ReferenceIdeal.Facts] [hPre_within_range : Cert.Pre_within_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_within_range [hKernelIdeal : Cert.KernelIdeal.Facts] [hReferenceIdeal : Cert.ReferenceIdeal.Facts] [hPre_within_range : Cert.Pre_within_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_within_range : Cert.Pre_within_range.Facts),
    quiescent_Kernel (hKernel := hKernel)
    ∧ quiescent_KernelIdeal (hKernelIdeal := hKernelIdeal)
    ∧ quiescent_KernelIdeal_pre_within_range (hKernelIdeal := hKernelIdeal) (hPre_within_range := hPre_within_range)
    ∧ quiescent_ReferenceIdeal (hReferenceIdeal := hReferenceIdeal)
    ∧ quiescent_ReferenceIdeal_pre_within_range (hReferenceIdeal := hReferenceIdeal) (hPre_within_range := hPre_within_range)
    ∧ preserves_Kernel_KernelIdeal
    ∧ algebraic_KernelIdeal_ReferenceIdeal_pre_within_range (hKernelIdeal := hKernelIdeal) (hReferenceIdeal := hReferenceIdeal) (hPre_within_range := hPre_within_range)
-- ==== Pre_within_range.lean ====
abbrev S128x512 : Shape := ⟨2, ![128, 512]⟩
abbrev S32x32x512 : Shape := ⟨3, ![32, 32, 512]⟩
abbrev S32x512 : Shape := ⟨2, ![32, 512]⟩
abbrev S512x512 : Shape := ⟨2, ![512, 512]⟩
abbrev S512 : Shape := ⟨1, ![512]⟩
abbrev S1536x1024 : Shape := ⟨2, ![1536, 1024]⟩
abbrev S1536x512 : Shape := ⟨2, ![1536, 512]⟩
abbrev S1536 : Shape := ⟨1, ![1536]⟩
abbrev S128 : Shape := ⟨1, ![128]⟩
abbrev S32x256 : Shape := ⟨2, ![32, 256]⟩
abbrev S_ : Shape := ⟨0, ![]⟩

class Facts : Prop where
  bcast_S_S32x256 : S_.BroadcastsInDim S32x256 (![] : Fin 0 → Fin S32x256.rank)
  bcast_S_S32x512 : S_.BroadcastsInDim S32x512 (![] : Fin 0 → Fin S32x512.rank)
  bcast_S_S512x512 : S_.BroadcastsInDim S512x512 (![] : Fin 0 → Fin S512x512.rank)
  bcast_S_S512 : S_.BroadcastsInDim S512 (![] : Fin 0 → Fin S512.rank)
  bcast_S_S128x512 : S_.BroadcastsInDim S128x512 (![] : Fin 0 → Fin S128x512.rank)
  bcast_S_S128 : S_.BroadcastsInDim S128 (![] : Fin 0 → Fin S128.rank)

variable [Facts]

def fn_part2 {F : FTy → Type} [FloatOps F] (main_arg13 : FVec F S512 .f32) (main_v4 : IVec S32x256 1) (main_v9 : IVec S32x256 1) (main_v14 : IVec S32x256 1) (main_v19 : IVec S32x256 1) (main_v22 : IVec S32x512 1) (main_v25 : IVec S512x512 1) (main_v28 : IVec S512 1) (main_v31 : IVec S128x512 1) (main_v34 : IVec S128 1) : IVec S32x256 1 × IVec S32x256 1 × IVec S32x256 1 × IVec S32x256 1 × IVec S32x512 1 × IVec S512x512 1 × IVec S512 1 × IVec S128x512 1 × IVec S128 1 × IVec S512 1 :=
  let main_v35 : FVec F S512 .f32 := Host.absf main_arg13
  let main_cst_11 : FVec F S_ .f32 := constant S_ .f32 0x7F800000#32
  let main_v36 : FVec F S512 .f32 := broadcastInDim S512 ![] bcast_S_S512 main_cst_11
  let main_v37 : IVec S512 1 := cmpf .olt main_v35 main_v36
  (main_v4, main_v9, main_v14, main_v19, main_v22, main_v25, main_v28, main_v31, main_v34, main_v37)

def fn_part1 {F : FTy → Type} [FloatOps F] (main_arg2 : FVec F S32x512 .f32) (main_arg3 : FVec F S512x512 .f32) (main_arg4 : FVec F S512 .f32) (main_arg9 : FVec F S128x512 .f32) (main_arg10 : FVec F S128 .f32) (main_arg13 : FVec F S512 .f32) (main_arg17 : IVec S32x256 32) (main_v4 : IVec S32x256 1) (main_v9 : IVec S32x256 1) (main_v14 : IVec S32x256 1) (main_v16 : IVec S32x256 1) : IVec S32x256 1 × IVec S32x256 1 × IVec S32x256 1 × IVec S32x256 1 × IVec S32x512 1 × IVec S512x512 1 × IVec S512 1 × IVec S128x512 1 × IVec S128 1 × IVec S512 1 :=
  let main_c_6 : IVec S_ 32 := constantI S_ 32 32#32
  let main_v17 : IVec S32x256 32 := broadcastInDim S32x256 ![] bcast_S_S32x256 main_c_6
  let main_v18 : IVec S32x256 1 := cmpi .slt main_arg17 main_v17
  let main_v19 : IVec S32x256 1 := andi main_v16 main_v18
  let main_v20 : FVec F S32x512 .f32 := Host.absf main_arg2
  let main_cst : FVec F S_ .f32 := constant S_ .f32 0x7F800000#32
  let main_v21 : FVec F S32x512 .f32 := broadcastInDim S32x512 ![] bcast_S_S32x512 main_cst
  let main_v22 : IVec S32x512 1 := cmpf .olt main_v20 main_v21
  let main_v23 : FVec F S512x512 .f32 := Host.absf main_arg3
  let main_cst_7 : FVec F S_ .f32 := constant S_ .f32 0x7F800000#32
  let main_v24 : FVec F S512x512 .f32 := broadcastInDim S512x512 ![] bcast_S_S512x512 main_cst_7
  let main_v25 : IVec S512x512 1 := cmpf .olt main_v23 main_v24
  let main_v26 : FVec F S512 .f32 := Host.absf main_arg4
  let main_cst_8 : FVec F S_ .f32 := constant S_ .f32 0x7F800000#32
  let main_v27 : FVec F S512 .f32 := broadcastInDim S512 ![] bcast_S_S512 main_cst_8
  let main_v28 : IVec S512 1 := cmpf .olt main_v26 main_v27
  let main_v29 : FVec F S128x512 .f32 := Host.absf main_arg9
  let main_cst_9 : FVec F S_ .f32 := constant S_ .f32 0x7F800000#32
  let main_v30 : FVec F S128x512 .f32 := broadcastInDim S128x512 ![] bcast_S_S128x512 main_cst_9
  let main_v31 : IVec S128x512 1 := cmpf .olt main_v29 main_v30
  let main_v32 : FVec F S128 .f32 := Host.absf main_arg10
  let main_cst_10 : FVec F S_ .f32 := constant S_ .f32 0x7F800000#32
  let main_v33 : FVec F S128 .f32 := broadcastInDim S128 ![] bcast_S_S128 main_cst_10
  let main_v34 : IVec S128 1 := cmpf .olt main_v32 main_v33
  fn_part2 (F := F) main_arg13 main_v4 main_v9 main_v14 main_v19 main_v22 main_v25 main_v28 main_v31 main_v34

def fn {F : FTy → Type} [FloatOps F] (main_arg0 : FVec F S128x512 .f32) (main_arg1 : FVec F S32x32x512 .f32) (main_arg2 : FVec F S32x512 .f32) (main_arg3 : FVec F S512x512 .f32) (main_arg4 : FVec F S512 .f32) (main_arg5 : FVec F S1536x1024 .f32) (main_arg6 : FVec F S1536x512 .f32) (main_arg7 : FVec F S1536 .f32) (main_arg8 : FVec F S1536 .f32) (main_arg9 : FVec F S128x512 .f32) (main_arg10 : FVec F S128 .f32) (main_arg11 : FVec F S512x512 .f32) (main_arg12 : FVec F S512x512 .f32) (main_arg13 : FVec F S512 .f32) (main_arg14 : IVec S32x256 32) (main_arg15 : IVec S32x256 32) (main_arg16 : IVec S32x256 32) (main_arg17 : IVec S32x256 32) (main_arg18 : IVec S32x256 1) : IVec S32x256 1 × IVec S32x256 1 × IVec S32x256 1 × IVec S32x256 1 × IVec S32x512 1 × IVec S512x512 1 × IVec S512 1 × IVec S128x512 1 × IVec S128 1 × IVec S512 1 :=
  let main_c : IVec S_ 32 := constantI S_ 32 0#32
  let main_v0 : IVec S32x256 32 := broadcastInDim S32x256 ![] bcast_S_S32x256 main_c
  let main_v1 : IVec S32x256 1 := cmpi .sge main_arg14 main_v0
  let main_c_0 : IVec S_ 32 := constantI S_ 32 128#32
  let main_v2 : IVec S32x256 32 := broadcastInDim S32x256 ![] bcast_S_S32x256 main_c_0
  let main_v3 : IVec S32x256 1 := cmpi .slt main_arg14 main_v2
  let main_v4 : IVec S32x256 1 := andi main_v1 main_v3
  let main_c_1 : IVec S_ 32 := constantI S_ 32 0#32
  let main_v5 : IVec S32x256 32 := broadcastInDim S32x256 ![] bcast_S_S32x256 main_c_1
  let main_v6 : IVec S32x256 1 := cmpi .sge main_arg15 main_v5
  let main_c_2 : IVec S_ 32 := constantI S_ 32 128#32
  let main_v7 : IVec S32x256 32 := broadcastInDim S32x256 ![] bcast_S_S32x256 main_c_2
  let main_v8 : IVec S32x256 1 := cmpi .slt main_arg15 main_v7
  let main_v9 : IVec S32x256 1 := andi main_v6 main_v8
  let main_c_3 : IVec S_ 32 := constantI S_ 32 0#32
  let main_v10 : IVec S32x256 32 := broadcastInDim S32x256 ![] bcast_S_S32x256 main_c_3
  let main_v11 : IVec S32x256 1 := cmpi .sge main_arg16 main_v10
  let main_c_4 : IVec S_ 32 := constantI S_ 32 32#32
  let main_v12 : IVec S32x256 32 := broadcastInDim S32x256 ![] bcast_S_S32x256 main_c_4
  let main_v13 : IVec S32x256 1 := cmpi .slt main_arg16 main_v12
  let main_v14 : IVec S32x256 1 := andi main_v11 main_v13
  let main_c_5 : IVec S_ 32 := constantI S_ 32 0#32
  let main_v15 : IVec S32x256 32 := broadcastInDim S32x256 ![] bcast_S_S32x256 main_c_5
  let main_v16 : IVec S32x256 1 := cmpi .sge main_arg17 main_v15
  fn_part1 (F := F) main_arg2 main_arg3 main_arg4 main_arg9 main_arg10 main_arg13 main_arg17 main_v4 main_v9 main_v14 main_v16
-- ==== Kernel.lean ====
abbrev S128x512 : Shape := ⟨2, ![128, 512]⟩
abbrev S32x32x512 : Shape := ⟨3, ![32, 32, 512]⟩
abbrev S32x512 : Shape := ⟨2, ![32, 512]⟩
abbrev S512x512 : Shape := ⟨2, ![512, 512]⟩
abbrev S512 : Shape := ⟨1, ![512]⟩
abbrev S1536x1024 : Shape := ⟨2, ![1536, 1024]⟩
abbrev S1536x512 : Shape := ⟨2, ![1536, 512]⟩
abbrev S1536 : Shape := ⟨1, ![1536]⟩
abbrev S128 : Shape := ⟨1, ![128]⟩
abbrev S32x256 : Shape := ⟨2, ![32, 256]⟩
abbrev S512x1536 : Shape := ⟨2, ![512, 1536]⟩
abbrev S512x128 : Shape := ⟨2, ![512, 128]⟩
abbrev S16x32x512 : Shape := ⟨3, ![16, 32, 512]⟩
abbrev S32x16x512 : Shape := ⟨3, ![32, 16, 512]⟩
abbrev S1x1536 : Shape := ⟨2, ![1, 1536]⟩
abbrev S1x128 : Shape := ⟨2, ![1, 128]⟩
abbrev S1x512 : Shape := ⟨2, ![1, 512]⟩
abbrev S32x8x32 : Shape := ⟨3, ![32, 8, 32]⟩
abbrev S8x32x32 : Shape := ⟨3, ![8, 32, 32]⟩
abbrev S32x128 : Shape := ⟨2, ![32, 128]⟩
abbrev S1x32x32 : Shape := ⟨3, ![1, 32, 32]⟩
abbrev S128x1536 : Shape := ⟨2, ![128, 1536]⟩
abbrev S32x32x1536 : Shape := ⟨3, ![32, 32, 1536]⟩
abbrev S32x32 : Shape := ⟨2, ![32, 32]⟩
abbrev S32x16 : Shape := ⟨2, ![32, 16]⟩
abbrev S32x16x1 : Shape := ⟨3, ![32, 16, 1]⟩
abbrev S32x16x128 : Shape := ⟨3, ![32, 16, 128]⟩
abbrev S32x16x1536 : Shape := ⟨3, ![32, 16, 1536]⟩
abbrev S1x32x1536 : Shape := ⟨3, ![1, 32, 1536]⟩
abbrev S32x1536 : Shape := ⟨2, ![32, 1536]⟩
abbrev S1x32x512 : Shape := ⟨3, ![1, 32, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S32x32x1 : Shape := ⟨3, ![32, 32, 1]⟩
abbrev S32x32x128 : Shape := ⟨3, ![32, 32, 128]⟩
abbrev S1x1x512 : Shape := ⟨3, ![1, 1, 512]⟩
abbrev S32x32x32 : Shape := ⟨3, ![32, 32, 32]⟩
abbrev S32x1 : Shape := ⟨2, ![32, 1]⟩
abbrev S32 : Shape := ⟨1, ![32]⟩

abbrev nBuf : Space → Nat
  | .hbm => 62
  | .vmem => 35
  | .smem => 0
  | _ => 0

abbrev bufTy : (tb : Table) → Fin (tcTables nBuf tb) → BufTy
  | .hbm, ⟨0, _⟩ => ⟨S128x512, .f32⟩
  | .hbm, ⟨1, _⟩ => ⟨S32x32x512, .f32⟩
  | .hbm, ⟨2, _⟩ => ⟨S32x512, .f32⟩
  | .hbm, ⟨3, _⟩ => ⟨S512x512, .f32⟩
  | .hbm, ⟨4, _⟩ => ⟨S512, .f32⟩
  | .hbm, ⟨5, _⟩ => ⟨S1536x1024, .f32⟩
  | .hbm, ⟨6, _⟩ => ⟨S1536x512, .f32⟩
  | .hbm, ⟨7, _⟩ => ⟨S1536, .f32⟩
  | .hbm, ⟨8, _⟩ => ⟨S1536, .f32⟩
  | .hbm, ⟨9, _⟩ => ⟨S128x512, .f32⟩
  | .hbm, ⟨10, _⟩ => ⟨S128, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S32x256, .i32⟩
  | .hbm, ⟨15, _⟩ => ⟨S32x256, .i32⟩
  | .hbm, ⟨16, _⟩ => ⟨S32x256, .i32⟩
  | .hbm, ⟨17, _⟩ => ⟨S32x256, .i32⟩
  | .hbm, ⟨18, _⟩ => ⟨S32x256, .i1⟩
  | .hbm, ⟨19, _⟩ => ⟨S1536x512, .f32⟩
  | .hbm, ⟨20, _⟩ => ⟨S512x1536, .f32⟩
  | .hbm, ⟨21, _⟩ => ⟨S512x1536, .bf16⟩
  | .hbm, ⟨22, _⟩ => ⟨S1536x512, .f32⟩
  | .hbm, ⟨23, _⟩ => ⟨S512x1536, .f32⟩
  | .hbm, ⟨24, _⟩ => ⟨S512x1536, .bf16⟩
  | .hbm, ⟨25, _⟩ => ⟨S512x1536, .f32⟩
  | .hbm, ⟨26, _⟩ => ⟨S512x1536, .bf16⟩
  | .hbm, ⟨27, _⟩ => ⟨S512x512, .f32⟩
  | .hbm, ⟨28, _⟩ => ⟨S512x512, .bf16⟩
  | .hbm, ⟨29, _⟩ => ⟨S512x128, .f32⟩
  | .hbm, ⟨30, _⟩ => ⟨S512x128, .bf16⟩
  | .hbm, ⟨31, _⟩ => ⟨S512x512, .f32⟩
  | .hbm, ⟨32, _⟩ => ⟨S512x512, .bf16⟩
  | .hbm, ⟨33, _⟩ => ⟨S512x512, .f32⟩
  | .hbm, ⟨34, _⟩ => ⟨S512x512, .bf16⟩
  | .hbm, ⟨35, _⟩ => ⟨S32x512, .bf16⟩
  | .hbm, ⟨36, _⟩ => ⟨S16x32x512, .f32⟩
  | .hbm, ⟨37, _⟩ => ⟨S32x16x512, .f32⟩
  | .hbm, ⟨38, _⟩ => ⟨S32x16x512, .bf16⟩
  | .hbm, ⟨39, _⟩ => ⟨S16x32x512, .f32⟩
  | .hbm, ⟨40, _⟩ => ⟨S32x16x512, .f32⟩
  | .hbm, ⟨41, _⟩ => ⟨S32x16x512, .bf16⟩
  | .hbm, ⟨42, _⟩ => ⟨S128x512, .bf16⟩
  | .hbm, ⟨43, _⟩ => ⟨S1x1536, .f32⟩
  | .hbm, ⟨44, _⟩ => ⟨S1x1536, .f32⟩
  | .hbm, ⟨45, _⟩ => ⟨S1x128, .f32⟩
  | .hbm, ⟨46, _⟩ => ⟨S1x512, .f32⟩
  | .hbm, ⟨47, _⟩ => ⟨S1x512, .f32⟩
  | .hbm, ⟨48, _⟩ => ⟨S32x8x32, .i32⟩
  | .hbm, ⟨49, _⟩ => ⟨S8x32x32, .i32⟩
  | .hbm, ⟨50, _⟩ => ⟨S32x8x32, .i32⟩
  | .hbm, ⟨51, _⟩ => ⟨S8x32x32, .i32⟩
  | .hbm, ⟨52, _⟩ => ⟨S32x8x32, .i32⟩
  | .hbm, ⟨53, _⟩ => ⟨S8x32x32, .i32⟩
  | .hbm, ⟨54, _⟩ => ⟨S32x8x32, .i32⟩
  | .hbm, ⟨55, _⟩ => ⟨S8x32x32, .i32⟩
  | .hbm, ⟨56, _⟩ => ⟨S32x256, .i32⟩
  | .hbm, ⟨57, _⟩ => ⟨S32x8x32, .i32⟩
  | .hbm, ⟨58, _⟩ => ⟨S8x32x32, .i32⟩
  | .hbm, ⟨59, _⟩ => ⟨S32x128, .f32⟩
  | .hbm, ⟨60, _⟩ => ⟨S32x1, .f32⟩
  | .hbm, ⟨61, _⟩ => ⟨S32, .f32⟩
  | .local _ .vmem, ⟨0, _⟩ => ⟨S32x512, .bf16⟩
  | .local _ .vmem, ⟨1, _⟩ => ⟨S32x16x512, .bf16⟩
  | .local _ .vmem, ⟨2, _⟩ => ⟨S32x16x512, .bf16⟩
  | .local _ .vmem, ⟨3, _⟩ => ⟨S128x512, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x512, .bf16⟩
  | .local _ .vmem, ⟨8, _⟩ => ⟨S512x128, .bf16⟩
  | .local _ .vmem, ⟨9, _⟩ => ⟨S512x512, .bf16⟩
  | .local _ .vmem, ⟨10, _⟩ => ⟨S512x512, .bf16⟩
  | .local _ .vmem, ⟨11, _⟩ => ⟨S1x1536, .f32⟩
  | .local _ .vmem, ⟨12, _⟩ => ⟨S1x1536, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S1x32x32, .i32⟩
  | .local _ .vmem, ⟨17, _⟩ => ⟨S1x32x32, .i32⟩
  | .local _ .vmem, ⟨18, _⟩ => ⟨S1x32x32, .i32⟩
  | .local _ .vmem, ⟨19, _⟩ => ⟨S1x32x32, .i32⟩
  | .local _ .vmem, ⟨20, _⟩ => ⟨S1x32x32, .i32⟩
  | .local _ .vmem, ⟨21, _⟩ => ⟨S1x32x32, .i32⟩
  | .local _ .vmem, ⟨22, _⟩ => ⟨S1x32x32, .i32⟩
  | .local _ .vmem, ⟨23, _⟩ => ⟨S1x32x32, .i32⟩
  | .local _ .vmem, ⟨24, _⟩ => ⟨S1x32x32, .i32⟩
  | .local _ .vmem, ⟨25, _⟩ => ⟨S1x32x32, .i32⟩
  | .local _ .vmem, ⟨26, _⟩ => ⟨S32x128, .f32⟩
  | .local _ .vmem, ⟨27, _⟩ => ⟨S128x1536, .bf16⟩
  | .local _ .vmem, ⟨28, _⟩ => ⟨S512x1536, .bf16⟩
  | .local _ .vmem, ⟨29, _⟩ => ⟨S512x1536, .bf16⟩
  | .local _ .vmem, ⟨30, _⟩ => ⟨S32x32x512, .f32⟩
  | .local _ .vmem, ⟨31, _⟩ => ⟨S32x512, .f32⟩
  | .local _ .vmem, ⟨32, _⟩ => ⟨S32x32x1536, .f32⟩
  | .local _ .vmem, ⟨33, _⟩ => ⟨S32x32x512, .f32⟩
  | .local _ .vmem, ⟨34, _⟩ => ⟨S32x128, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg16_1 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem16_1 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_41 : BitVec 32 := 0#32
  let c32_i32 : BitVec 32 := 32#32
  let v95 : BitVec 32 := Scalar.addi c0_i32_41 c32_i32
  let c1_i32 : BitVec 32 := 1#32
  ⟨c0_i32_41, v95, c1_i32⟩
def k0_off1 (k0_t1 : Fin k0_t1_loop.trips) : Fin 3 → Nat :=
  let c0_i32_41 : BitVec 32 := 0#32
  let c1_i32 : BitVec 32 := 1#32
  let arg31 : BitVec 32 := Scf.iv c0_i32_41 c1_i32 k0_t1
  let v500 : Index := Scalar.indexCast arg31
  let c0_179 : Index := 0#32
  let c0_180 : Index := 0#32
  ![v500.toNat, 0, 0]
def k0_off2 (k0_t1 : Fin k0_t1_loop.trips) : Fin 3 → Nat :=
  let c0_i32_41 : BitVec 32 := 0#32
  let c1_i32 : BitVec 32 := 1#32
  let arg31 : BitVec 32 := Scf.iv c0_i32_41 c1_i32 k0_t1
  let v533 : Index := Scalar.indexCast arg31
  let c0_191 : Index := 0#32
  let c0_192 : Index := 0#32
  ![v533.toNat, 0, 0]
def k0_cond2 (i : grid0.Coords) : BitVec 1 :=
  let arg0 : BitVec 32 := BitVec.ofNat 32 (i 0).val
  let c7_i32 : BitVec 32 := 7#32
  let v497 : BitVec 1 := Scalar.cmpi .eq arg0 c7_i32
  let v498 : BitVec 32 := Scalar.extui v497
  let c0_i32_178 : BitVec 32 := 0#32
  let v499 : BitVec 1 := Scalar.cmpi .ne v498 c0_i32_178
  v499

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x16x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x16x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x32x32 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x32x32 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x32x32 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x32x32 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x32x32 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S32x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S128x512 : Shape := ⟨2, ![128, 512]⟩
abbrev S32x32x512 : Shape := ⟨3, ![32, 32, 512]⟩
abbrev S32x512 : Shape := ⟨2, ![32, 512]⟩
abbrev S512x512 : Shape := ⟨2, ![512, 512]⟩
abbrev S512 : Shape := ⟨1, ![512]⟩
abbrev S1536x1024 : Shape := ⟨2, ![1536, 1024]⟩
abbrev S1536x512 : Shape := ⟨2, ![1536, 512]⟩
abbrev S1536 : Shape := ⟨1, ![1536]⟩
abbrev S128 : Shape := ⟨1, ![128]⟩
abbrev S32x256 : Shape := ⟨2, ![32, 256]⟩
abbrev S1x512 : Shape := ⟨2, ![1, 512]⟩
abbrev S_ : Shape := ⟨0, ![]⟩
abbrev S32x256x1 : Shape := ⟨3, ![32, 256, 1]⟩
abbrev S32x256x512 : Shape := ⟨3, ![32, 256, 512]⟩
abbrev S32x256x1024 : Shape := ⟨3, ![32, 256, 1024]⟩
abbrev S1024x1536 : Shape := ⟨2, ![1024, 1536]⟩
abbrev S32x256x1536 : Shape := ⟨3, ![32, 256, 1536]⟩
abbrev S1x1x1536 : Shape := ⟨3, ![1, 1, 1536]⟩
abbrev S256x32x1536 : Shape := ⟨3, ![256, 32, 1536]⟩
abbrev S256x32x512 : Shape := ⟨3, ![256, 32, 512]⟩
abbrev S1x32x1536 : Shape := ⟨3, ![1, 32, 1536]⟩
abbrev S32x1536 : Shape := ⟨2, ![32, 1536]⟩
abbrev S512x1536 : Shape := ⟨2, ![512, 1536]⟩
abbrev S1x1536 : Shape := ⟨2, ![1, 1536]⟩
abbrev S1x32x512 : Shape := ⟨3, ![1, 32, 512]⟩
abbrev S512x128 : Shape := ⟨2, ![512, 128]⟩
abbrev S32x256x128 : Shape := ⟨3, ![32, 256, 128]⟩
abbrev S1x1x128 : Shape := ⟨3, ![1, 1, 128]⟩
abbrev S32x256x1x1 : Shape := ⟨4, ![32, 256, 1, 1]⟩
abbrev S1 : Shape := ⟨1, ![1]⟩
abbrev S1x1x1x1 : Shape := ⟨4, ![1, 1, 1, 1]⟩
abbrev S32 : Shape := ⟨1, ![32]⟩
abbrev S32x256x1x512 : Shape := ⟨4, ![32, 256, 1, 512]⟩
abbrev S32x1x32x512 : Shape := ⟨4, ![32, 1, 32, 512]⟩
abbrev S32x256x32x512 : Shape := ⟨4, ![32, 256, 32, 512]⟩
abbrev S32x256x32 : Shape := ⟨3, ![32, 256, 32]⟩

abbrev nBuf : Space → Nat
  | .hbm => 218
  | .vmem => 0
  | .smem => 0
  | _ => 0

abbrev hbmTy0_0 (i : Nat) : BufTy := match i % 128 with
  | 0 => ⟨S128x512, .f32⟩
  | 1 => ⟨S32x32x512, .f32⟩
  | 2 => ⟨S32x512, .f32⟩
  | 3 => ⟨S512x512, .f32⟩
  | 4 => ⟨S512, .f32⟩
  | 5 => ⟨S1536x1024, .f32⟩
  | 6 => ⟨S1536x512, .f32⟩
  | 7 => ⟨S1536, .f32⟩
  | 8 => ⟨S1536, .f32⟩
  | 9 => ⟨S128x512, .f32⟩
  | 10 => ⟨S128, .f32⟩
  | 11 => ⟨S512x512, .f32⟩
  | 12 => ⟨S512x512, .f32⟩
  | 13 => ⟨S512, .f32⟩
  | 14 => ⟨S32x256, .i32⟩
  | 15 => ⟨S32x256, .i32⟩
  | 16 => ⟨S32x256, .i32⟩
  | 17 => ⟨S32x256, .i32⟩
  | 18 => ⟨S32x256, .i1⟩
  | 19 => ⟨S512x512, .f32⟩
  | 20 => ⟨S32x512, .f32⟩
  | 21 => ⟨S1x512, .f32⟩
  | 22 => ⟨S32x512, .f32⟩
  | 23 => ⟨S32x512, .f32⟩
  | 24 => ⟨S_, .i32⟩
  | 25 => ⟨S32x256, .i32⟩
  | 26 => ⟨S32x256, .i1⟩
  | 27 => ⟨S_, .i32⟩
  | 28 => ⟨S32x256, .i32⟩
  | 29 => ⟨S32x256, .i32⟩
  | 30 => ⟨S32x256, .i32⟩
  | 31 => ⟨S32x256x1, .i32⟩
  | 32 => ⟨S32x256x512, .f32⟩
  | 33 => ⟨S_, .i32⟩
  | 34 => ⟨S32x256, .i32⟩
  | 35 => ⟨S32x256, .i1⟩
  | 36 => ⟨S_, .i32⟩
  | 37 => ⟨S32x256, .i32⟩
  | 38 => ⟨S32x256, .i32⟩
  | 39 => ⟨S32x256, .i32⟩
  | 40 => ⟨S32x256x1, .i32⟩
  | 41 => ⟨S32x256x512, .f32⟩
  | 42 => ⟨S32x256x1, .i1⟩
  | 43 => ⟨S_, .f32⟩
  | 44 => ⟨S_, .f32⟩
  | 45 => ⟨S32x256x512, .i1⟩
  | 46 => ⟨S32x256x512, .f32⟩
  | 47 => ⟨S32x256x512, .f32⟩
  | 48 => ⟨S32x256x1024, .f32⟩
  | 49 => ⟨S1024x1536, .f32⟩
  | 50 => ⟨S32x256x1536, .f32⟩
  | 51 => ⟨S1x1x1536, .f32⟩
  | 52 => ⟨S32x256x1536, .f32⟩
  | 53 => ⟨S32x256x1536, .f32⟩
  | 54 => ⟨S256x32x1536, .f32⟩
  | 55 => ⟨S_, .f32⟩
  | 56 => ⟨S256x32x512, .f32⟩
  | 57 => ⟨S_, .i32⟩
  | 58 => ⟨S256x32x1536, .f32⟩
  | 59 => ⟨S1536x512, .f32⟩
  | 60 => ⟨S1536, .f32⟩
  | 61 => ⟨S_, .i32⟩
  | 62 => ⟨S32x512, .f32⟩
  | 63 => ⟨S256x32x512, .f32⟩
  | 64 => ⟨S_, .i32⟩
  | 65 => ⟨S_, .i1⟩
  | 66 => ⟨S_, .i32⟩
  | 67 => ⟨S_, .i32⟩
  | 68 => ⟨S1x32x1536, .f32⟩
  | 69 => ⟨S32x1536, .f32⟩
  | 70 => ⟨S512x1536, .f32⟩
  | 71 => ⟨S32x1536, .f32⟩
  | 72 => ⟨S1x1536, .f32⟩
  | 73 => ⟨S32x1536, .f32⟩
  | 74 => ⟨S32x1536, .f32⟩
  | 75 => ⟨S32x512, .f32⟩
  | 76 => ⟨S32x512, .f32⟩
  | 77 => ⟨S32x512, .f32⟩
  | 78 => ⟨S32x512, .f32⟩
  | 79 => ⟨S32x512, .f32⟩
  | 80 => ⟨S32x512, .f32⟩
  | 81 => ⟨S32x512, .f32⟩
  | 82 => ⟨S32x512, .f32⟩
  | 83 => ⟨S32x512, .f32⟩
  | 84 => ⟨S_, .f32⟩
  | 85 => ⟨S32x512, .f32⟩
  | 86 => ⟨S32x512, .f32⟩
  | 87 => ⟨S_, .f32⟩
  | 88 => ⟨S32x512, .f32⟩
  | 89 => ⟨S32x512, .f32⟩
  | 90 => ⟨S32x512, .f32⟩
  | 91 => ⟨S32x512, .f32⟩
  | 92 => ⟨S32x512, .f32⟩
  | 93 => ⟨S_, .f32⟩
  | 94 => ⟨S32x512, .f32⟩
  | 95 => ⟨S32x512, .f32⟩
  | 96 => ⟨S_, .f32⟩
  | 97 => ⟨S32x512, .f32⟩
  | 98 => ⟨S32x512, .f32⟩
  | 99 => ⟨S32x512, .f32⟩
  | 100 => ⟨S32x512, .f32⟩
  | 101 => ⟨S32x512, .f32⟩
  | 102 => ⟨S_, .f32⟩
  | 103 => ⟨S32x512, .f32⟩
  | 104 => ⟨S32x512, .f32⟩
  | 105 => ⟨S32x512, .f32⟩
  | 106 => ⟨S32x512, .f32⟩
  | 107 => ⟨S32x512, .f32⟩
  | 108 => ⟨S1x32x512, .f32⟩
  | 109 => ⟨S_, .i32⟩
  | 110 => ⟨S_, .i32⟩
  | 111 => ⟨S256x32x512, .f32⟩
  | 112 => ⟨S_, .i32⟩
  | 113 => ⟨S_, .i32⟩
  | 114 => ⟨S32x256x512, .f32⟩
  | 115 => ⟨S512x128, .f32⟩
  | 116 => ⟨S32x256x128, .f32⟩
  | 117 => ⟨S1x1x128, .f32⟩
  | 118 => ⟨S32x256x128, .f32⟩
  | 119 => ⟨S32x256x128, .f32⟩
  | 120 => ⟨S_, .f32⟩
  | 121 => ⟨S32x256, .f32⟩
  | 122 => ⟨S_, .f32⟩
  | 123 => ⟨S32x256, .f32⟩
  | 124 => ⟨S32x256, .f32⟩
  | 125 => ⟨S32x256x1, .f32⟩
  | 126 => ⟨S32x256x128, .f32⟩
  | 127 => ⟨S32x256x128, .f32⟩
  | _ => ⟨S128x512, .f32⟩

abbrev hbmTy0_1 (i : Nat) : BufTy := match i % 128 with
  | 0 => ⟨S32x256x128, .f32⟩
  | 1 => ⟨S_, .f32⟩
  | 2 => ⟨S32x256, .f32⟩
  | 3 => ⟨S32x256x1, .f32⟩
  | 4 => ⟨S32x256x1, .f32⟩
  | 5 => ⟨S32x256x128, .f32⟩
  | 6 => ⟨S32x256x128, .f32⟩
  | 7 => ⟨S32x256x1, .i32⟩
  | 8 => ⟨S_, .i32⟩
  | 9 => ⟨S32x256x1, .i32⟩
  | 10 => ⟨S32x256x1, .i1⟩
  | 11 => ⟨S_, .i32⟩
  | 12 => ⟨S32x256x1, .i32⟩
  | 13 => ⟨S32x256x1, .i32⟩
  | 14 => ⟨S32x256x1, .i32⟩
  | 15 => ⟨S32x256x1x1, .i32⟩
  | 16 => ⟨S1, .i32⟩
  | 17 => ⟨S_, .i32⟩
  | 18 => ⟨S32x256x1x1, .i32⟩
  | 19 => ⟨S32x256x1x1, .i1⟩
  | 20 => ⟨S1x1x1x1, .i32⟩
  | 21 => ⟨S32x256x1x1, .i32⟩
  | 22 => ⟨S32x256x1x1, .i1⟩
  | 23 => ⟨S32x256x1x1, .i1⟩
  | 24 => ⟨S_, .i1⟩
  | 25 => ⟨S32x256x1, .i1⟩
  | 26 => ⟨S32x256x1, .f32⟩
  | 27 => ⟨S_, .f32⟩
  | 28 => ⟨S32x256x1, .f32⟩
  | 29 => ⟨S32x256x1, .f32⟩
  | 30 => ⟨S32x256, .f32⟩
  | 31 => ⟨S_, .f32⟩
  | 32 => ⟨S32, .f32⟩
  | 33 => ⟨S512x512, .f32⟩
  | 34 => ⟨S32x256x512, .f32⟩
  | 35 => ⟨S512x512, .f32⟩
  | 36 => ⟨S32x32x512, .f32⟩
  | 37 => ⟨S32x256x1x512, .f32⟩
  | 38 => ⟨S32x1x32x512, .f32⟩
  | 39 => ⟨S32x256x32x512, .f32⟩
  | 40 => ⟨S32x256x32x512, .f32⟩
  | 41 => ⟨S32x256x32x512, .f32⟩
  | 42 => ⟨S32x256x32x512, .f32⟩
  | 43 => ⟨S32x256x32, .f32⟩
  | 44 => ⟨S_, .f32⟩
  | 45 => ⟨S32x256, .f32⟩
  | 46 => ⟨S_, .f32⟩
  | 47 => ⟨S32x256, .f32⟩
  | 48 => ⟨S32x256, .f32⟩
  | 49 => ⟨S32x256x1, .f32⟩
  | 50 => ⟨S32x256x32, .f32⟩
  | 51 => ⟨S32x256x32, .f32⟩
  | 52 => ⟨S32x256x32, .f32⟩
  | 53 => ⟨S_, .f32⟩
  | 54 => ⟨S32x256, .f32⟩
  | 55 => ⟨S32x256x1, .f32⟩
  | 56 => ⟨S32x256x1, .f32⟩
  | 57 => ⟨S32x256x32, .f32⟩
  | 58 => ⟨S32x256x32, .f32⟩
  | 59 => ⟨S32x256x1, .i32⟩
  | 60 => ⟨S_, .i32⟩
  | 61 => ⟨S32x256x1, .i32⟩
  | 62 => ⟨S32x256x1, .i1⟩
  | 63 => ⟨S_, .i32⟩
  | 64 => ⟨S32x256x1, .i32⟩
  | 65 => ⟨S32x256x1, .i32⟩
  | 66 => ⟨S32x256x1, .i32⟩
  | 67 => ⟨S32x256x1x1, .i32⟩
  | 68 => ⟨S1, .i32⟩
  | 69 => ⟨S_, .i32⟩
  | 70 => ⟨S32x256x1x1, .i32⟩
  | 71 => ⟨S32x256x1x1, .i1⟩
  | 72 => ⟨S1x1x1x1, .i32⟩
  | 73 => ⟨S32x256x1x1, .i32⟩
  | 74 => ⟨S32x256x1x1, .i1⟩
  | 75 => ⟨S32x256x1x1, .i1⟩
  | 76 => ⟨S_, .i1⟩
  | 77 => ⟨S32x256x1, .i1⟩
  | 78 => ⟨S32x256x1, .f32⟩
  | 79 => ⟨S_, .f32⟩
  | 80 => ⟨S32x256x1, .f32⟩
  | 81 => ⟨S32x256x1, .f32⟩
  | 82 => ⟨S32x256, .f32⟩
  | 83 => ⟨S_, .f32⟩
  | 84 => ⟨S_, .f32⟩
  | 85 => ⟨S32x256, .f32⟩
  | 86 => ⟨S32x256, .f32⟩
  | 87 => ⟨S_, .f32⟩
  | 88 => ⟨S32, .f32⟩
  | 89 => ⟨S32, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_c_4 : Ref sig .tc := ⟨.hbm, 57, rfl⟩
abbrev main_v29_0 : Ref sig .tc := ⟨.hbm, 58, rfl⟩
abbrev main_v29_1 : Ref sig .tc := ⟨.hbm, 59, rfl⟩
abbrev main_v29_2 : Ref sig .tc := ⟨.hbm, 60, rfl⟩
abbrev main_v29_3 : Ref sig .tc := ⟨.hbm, 61, rfl⟩
abbrev main_v29_4 : Ref sig .tc := ⟨.hbm, 62, rfl⟩
abbrev main_v29_5 : Ref sig .tc := ⟨.hbm, 63, rfl⟩
abbrev main_while0c_c_13 : Ref sig .tc := ⟨.hbm, 64, rfl⟩
abbrev main_while0c_v59 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_v0 : Ref sig .tc := ⟨.hbm, 68, rfl⟩
abbrev main_while0b_v59 : Ref sig .tc := ⟨.hbm, 69, rfl⟩
abbrev main_while0b_v60 : Ref sig .tc := ⟨.hbm, 70, rfl⟩
abbrev main_while0b_v61 : Ref sig .tc := ⟨.hbm, 71, rfl⟩
abbrev main_while0b_v62 : Ref sig .tc := ⟨.hbm, 72, rfl⟩
abbrev main_while0b_v63 : Ref sig .tc := ⟨.hbm, 73, rfl⟩
abbrev main_while0b_v64 : Ref sig .tc := ⟨.hbm, 74, rfl⟩
abbrev main_while0b_v65 : Ref sig .tc := ⟨.hbm, 75, rfl⟩
abbrev main_while0b_v66 : Ref sig .tc := ⟨.hbm, 76, rfl⟩
abbrev main_while0b_v67 : Ref sig .tc := ⟨.hbm, 77, rfl⟩
abbrev main_while0b_v68 : Ref sig .tc := ⟨.hbm, 78, rfl⟩
abbrev main_while0b_v69 : Ref sig .tc := ⟨.hbm, 79, rfl⟩
abbrev main_while0b_v70 : Ref sig .tc := ⟨.hbm, 80, rfl⟩
abbrev main_while0b_v71 : Ref sig .tc := ⟨.hbm, 81, rfl⟩
abbrev main_while0b_v72 : Ref sig .tc := ⟨.hbm, 82, rfl⟩
abbrev main_while0b_v73 : Ref sig .tc := ⟨.hbm, 83, rfl⟩
abbrev main_while0b_cst_13 : Ref sig .tc := ⟨.hbm, 84, rfl⟩
abbrev main_while0b_v74 : Ref sig .tc := ⟨.hbm, 85, rfl⟩
abbrev main_while0b_v75 : Ref sig .tc := ⟨.hbm, 86, rfl⟩
abbrev main_while0b_cst_14 : Ref sig .tc := ⟨.hbm, 87, rfl⟩
abbrev main_while0b_v76 : Ref sig .tc := ⟨.hbm, 88, rfl⟩
abbrev main_while0b_v77 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_cst_15 : Ref sig .tc := ⟨.hbm, 93, rfl⟩
abbrev main_while0b_v81 : Ref sig .tc := ⟨.hbm, 94, rfl⟩
abbrev main_while0b_v82 : Ref sig .tc := ⟨.hbm, 95, rfl⟩
abbrev main_while0b_cst_16 : Ref sig .tc := ⟨.hbm, 96, rfl⟩
abbrev main_while0b_v83 : Ref sig .tc := ⟨.hbm, 97, rfl⟩
abbrev main_while0b_v84 : Ref sig .tc := ⟨.hbm, 98, rfl⟩
abbrev main_while0b_v85 : Ref sig .tc := ⟨.hbm, 99, rfl⟩
abbrev main_while0b_v86 : Ref sig .tc := ⟨.hbm, 100, rfl⟩
abbrev main_while0b_v87 : Ref sig .tc := ⟨.hbm, 101, rfl⟩
abbrev main_while0b_cst_17 : Ref sig .tc := ⟨.hbm, 102, rfl⟩
abbrev main_while0b_v88 : Ref sig .tc := ⟨.hbm, 103, rfl⟩
abbrev main_while0b_v89 : Ref sig .tc := ⟨.hbm, 104, rfl⟩
abbrev main_while0b_v90 : Ref sig .tc := ⟨.hbm, 105, rfl⟩
abbrev main_while0b_v91 : Ref sig .tc := ⟨.hbm, 106, rfl⟩
abbrev main_while0b_v92 : Ref sig .tc := ⟨.hbm, 107, rfl⟩
abbrev main_while0b_call2_v0 : Ref sig .tc := ⟨.hbm, 108, rfl⟩
abbrev main_while0b_call2_c : Ref sig .tc := ⟨.hbm, 109, rfl⟩
abbrev main_while0b_call2_c_0 : Ref sig .tc := ⟨.hbm, 110, rfl⟩
abbrev main_while0b_v93 : Ref sig .tc := ⟨.hbm, 111, rfl⟩
abbrev main_while0b_c_18 : Ref sig .tc := ⟨.hbm, 112, rfl⟩
abbrev main_while0b_v94 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_call3_cst : Ref sig .tc := ⟨.hbm, 120, rfl⟩
abbrev main_call3_v0 : Ref sig .tc := ⟨.hbm, 121, rfl⟩
abbrev main_call3_cst_0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_cst_1 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_v36 : Ref sig .tc := ⟨.hbm, 134, rfl⟩
abbrev main_v37 : Ref sig .tc := ⟨.hbm, 135, rfl⟩
abbrev main_call4_c : Ref sig .tc := ⟨.hbm, 136, rfl⟩
abbrev main_call4_v0 : Ref sig .tc := ⟨.hbm, 137, rfl⟩
abbrev main_call4_v1 : Ref sig .tc := ⟨.hbm, 138, rfl⟩
abbrev main_call4_c_0 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_c_1 : Ref sig .tc := ⟨.hbm, 144, rfl⟩
abbrev main_call4_c_2 : Ref sig .tc := ⟨.hbm, 145, rfl⟩
abbrev main_call4_v6 : Ref sig .tc := ⟨.hbm, 146, rfl⟩
abbrev main_call4_v7 : Ref sig .tc := ⟨.hbm, 147, rfl⟩
abbrev main_call4_v8 : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_c_3 : Ref sig .tc := ⟨.hbm, 152, rfl⟩
abbrev main_call4_v12 : Ref sig .tc := ⟨.hbm, 153, rfl⟩
abbrev main_call4_v13 : Ref sig .tc := ⟨.hbm, 154, rfl⟩
abbrev main_call4_cst : Ref sig .tc := ⟨.hbm, 155, rfl⟩
abbrev main_call4_v14 : Ref sig .tc := ⟨.hbm, 156, rfl⟩
abbrev main_v38 : Ref sig .tc := ⟨.hbm, 157, rfl⟩
abbrev main_v39 : Ref sig .tc := ⟨.hbm, 158, rfl⟩
abbrev main_cst_5 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_call5_cst : Ref sig .tc := ⟨.hbm, 172, rfl⟩
abbrev main_call5_v0 : Ref sig .tc := ⟨.hbm, 173, rfl⟩
abbrev main_call5_cst_0 : Ref sig .tc := ⟨.hbm, 174, rfl⟩
abbrev main_call5_v1 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_v5 : Ref sig .tc := ⟨.hbm, 179, rfl⟩
abbrev main_call5_v6 : Ref sig .tc := ⟨.hbm, 180, rfl⟩
abbrev main_call5_cst_1 : Ref sig .tc := ⟨.hbm, 181, rfl⟩
abbrev main_call5_v7 : Ref sig .tc := ⟨.hbm, 182, rfl⟩
abbrev main_call5_v8 : Ref sig .tc := ⟨.hbm, 183, rfl⟩
abbrev main_call5_v9 : Ref sig .tc := ⟨.hbm, 184, rfl⟩
abbrev main_call5_v10 : Ref sig .tc := ⟨.hbm, 185, rfl⟩
abbrev main_v52 : Ref sig .tc := ⟨.hbm, 186, rfl⟩
abbrev main_v53 : Ref sig .tc := ⟨.hbm, 187, rfl⟩
abbrev main_call6_c : Ref sig .tc := ⟨.hbm, 188, rfl⟩
abbrev main_call6_v0 : Ref sig .tc := ⟨.hbm, 189, rfl⟩
abbrev main_call6_v1 : Ref sig .tc := ⟨.hbm, 190, rfl⟩
abbrev main_call6_c_0 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_call6_v5 : Ref sig .tc := ⟨.hbm, 195, rfl⟩
abbrev main_call6_c_1 : Ref sig .tc := ⟨.hbm, 196, rfl⟩
abbrev main_call6_c_2 : Ref sig .tc := ⟨.hbm, 197, rfl⟩
abbrev main_call6_v6 : Ref sig .tc := ⟨.hbm, 198, rfl⟩
abbrev main_call6_v7 : Ref sig .tc := ⟨.hbm, 199, rfl⟩
abbrev main_call6_v8 : Ref sig .tc := ⟨.hbm, 200, rfl⟩
abbrev main_call6_v9 : Ref sig .tc := ⟨.hbm, 201, rfl⟩
abbrev main_call6_v10 : Ref sig .tc := ⟨.hbm, 202, rfl⟩
abbrev main_call6_v11 : Ref sig .tc := ⟨.hbm, 203, rfl⟩
abbrev main_call6_c_3 : Ref sig .tc := ⟨.hbm, 204, rfl⟩
abbrev main_call6_v12 : Ref sig .tc := ⟨.hbm, 205, rfl⟩
abbrev main_call6_v13 : Ref sig .tc := ⟨.hbm, 206, rfl⟩
abbrev main_call6_cst : Ref sig .tc := ⟨.hbm, 207, rfl⟩
abbrev main_call6_v14 : Ref sig .tc := ⟨.hbm, 208, rfl⟩
abbrev main_v54 : Ref sig .tc := ⟨.hbm, 209, rfl⟩
abbrev main_v55 : Ref sig .tc := ⟨.hbm, 210, rfl⟩
abbrev main_cst_6 : Ref sig .tc := ⟨.hbm, 211, rfl⟩
abbrev main_call7_v0 : Ref sig .tc := ⟨.hbm, 212, rfl⟩
abbrev main_call7_v1 : Ref sig .tc := ⟨.hbm, 213, rfl⟩
abbrev main_v56 : Ref sig .tc := ⟨.hbm, 214, rfl⟩
abbrev main_cst_7 : Ref sig .tc := ⟨.hbm, 215, rfl⟩
abbrev main_v57 : Ref sig .tc := ⟨.hbm, 216, rfl⟩
abbrev main_v58 : Ref sig .tc := ⟨.hbm, 217, rfl⟩

abbrev nD : Nat := 1
abbrev τ : Topo := Topo.v7x

variable {F : FTy → Type} [FloatOps F]

abbrev main_while0_count : Scf.Loop 32 := ⟨0#32, 256#32, 1#32⟩
-- ==== Proof.Kernel.Frame.lean ====
/- The frame: the arguments end unchanged and every counter at zero. -/
module

public import proofs.«01_k».proof.Proof.Kernel.Launch
public import proofs.«01_k».proof.Defs

@[expose] public section

noncomputable section

namespace Cert.Kernel.Hand

open Idealize.ShloMosaic Idealize.ShloMosaic.TcCoe Idealize.SL.Sem
open Cert.Kernel Cert.Kernel.Gen

theorem quiescent : Cert.quiescent_Kernel (hKernel := facts) := fun m ρ _ =>
  θ_run_and (frame_of m ρ (dats m) (A_eq m) ((θ_run defs _ _).mono (fun _ h => h.1) (run_main_quiescent m ρ)))
    ((θ_run defs _ _).mono (fun _ h => h.2) (run_main_quiescent m ρ))

end Cert.Kernel.Hand

end
-- ==== Proof.Maths.Spec.lean ====
/- What both programs compute, in plain sums over the extended reals: the recurrent cell, its states, the two
   log-softmaxes and the per-row total. The lemmas at the end are the arithmetic the two programs do differently. -/
module

public import Idealize.ShloMosaic.Lib.Pointwise

@[expose] public section

noncomputable section

namespace Cert.Maths

open Idealize.ShloMosaic

/-- The arguments, each read at its coordinates. -/
structure Args where
  emb : Fin 128 → Fin 512 → EReal
  sc : Fin 32 → Fin 32 → Fin 512 → EReal
  spec : Fin 32 → Fin 512 → EReal
  wi : Fin 512 → Fin 512 → EReal
  bi : Fin 512 → EReal
  wih : Fin 1536 → Fin 1024 → EReal
  whh : Fin 1536 → Fin 512 → EReal
  bih : Fin 1536 → EReal
  bhh : Fin 1536 → EReal
  wo : Fin 128 → Fin 512 → EReal
  bo : Fin 128 → EReal
  wd : Fin 512 → Fin 512 → EReal
  we : Fin 512 → Fin 512 → EReal
  va : Fin 512 → EReal
  ti : Fin 32 → Fin 256 → BitVec 32
  tt : Fin 32 → Fin 256 → BitVec 32
  pi : Fin 32 → Fin 256 → BitVec 32
  pt : Fin 32 → Fin 256 → BitVec 32
  pm : Fin 32 → Fin 256 → BitVec 1

/-- The arguments, off the arrays that hold them. -/
def Args.of (a0 : Vec Ideal ⟨2, ![128, 512]⟩ .f32) (a1 : Vec Ideal ⟨3, ![32, 32, 512]⟩ .f32) (a2 : Vec Ideal ⟨2, ![32, 512]⟩ .f32)
    (a3 : Vec Ideal ⟨2, ![512, 512]⟩ .f32) (a4 : Vec Ideal ⟨1, ![512]⟩ .f32) (a5 : Vec Ideal ⟨2, ![1536, 1024]⟩ .f32)
    (a6 : Vec Ideal ⟨2, ![1536, 512]⟩ .f32) (a7 a8 : Vec Ideal ⟨1, ![1536]⟩ .f32) (a9 : Vec Ideal ⟨2, ![128, 512]⟩ .f32)
    (a10 : Vec Ideal ⟨1, ![128]⟩ .f32) (a11 a12 : Vec Ideal ⟨2, ![512, 512]⟩ .f32) (a13 : Vec Ideal ⟨1, ![512]⟩ .f32)
    (a14 a15 a16 a17 : Vec Ideal ⟨2, ![32, 256]⟩ .i32) (a18 : Vec Ideal ⟨2, ![32, 256]⟩ .i1) : Args where
  emb v d := a0 (ix2 v d)
  sc b s d := a1 (ix3 b s d)
  spec b d := a2 (ix2 b d)
  wi e d := a3 (ix2 e d)
  bi e := a4 (ix1 e)
  wih g d := a5 (ix2 g d)
  whh g d := a6 (ix2 g d)
  bih g := a7 (ix1 g)
  bhh g := a8 (ix1 g)
  wo v d := a9 (ix2 v d)
  bo v := a10 (ix1 v)
  wd e d := a11 (ix2 e d)
  we e d := a12 (ix2 e d)
  va e := a13 (ix1 e)
  ti b t := a14 (ix2 b t)
  tt b t := a15 (ix2 b t)
  pi b t := a16 (ix2 b t)
  pt b t := a17 (ix2 b t)
  pm b t := a18 (ix2 b t)

/-- A value that is a real number. -/
def Fin' (x : EReal) : Prop := ∃ r : ℝ, x = r

/-- The range the arguments are in. -/
structure Args.Ok (A : Args) : Prop where
  ti : ∀ b t, (A.ti b t).toNat < 128
  tt : ∀ b t, (A.tt b t).toNat < 128
  pi : ∀ b t, (A.pi b t).toNat < 32
  pt : ∀ b t, (A.pt b t).toNat < 32
  spec : ∀ b e, Fin' (A.spec b e)
  wi : ∀ e d, Fin' (A.wi e d)
  bi : ∀ e, Fin' (A.bi e)
  wo : ∀ v d, Fin' (A.wo v d)
  bo : ∀ v, Fin' (A.bo v)
  va : ∀ e, Fin' (A.va e)

/-- A word as an index below `n`. -/
def idx (n : ℕ) [NeZero n] (w : BitVec 32) : Fin n := Fin.ofNat n w.toNat

theorem idx_val {n : ℕ} [NeZero n] {w : BitVec 32} (h : w.toNat < n) : (idx n w).val = w.toNat := Nat.mod_eq_of_lt h

variable (A : Args)

/-- The input projection of row `b` at time `t`: the token's, the pointer's where there is one, and the bias. -/
def X (b : Fin 32) (t : Fin 256) (g : Fin 1536) : EReal :=
  (∑ d : Fin 512, A.emb (idx 128 (A.ti b t)) d * A.wih g ⟨d.val, by omega⟩)
    + (if A.pm b t = 1#1 then ∑ d : Fin 512, A.sc b (idx 32 (A.pi b t)) d * A.wih g ⟨512 + d.val, by omega⟩ else 0)
    + A.bih g

/-- The state's projection. -/
def GH (h : Fin 512 → EReal) (g : Fin 1536) : EReal := (∑ d : Fin 512, h d * A.whh g d) + A.bhh g

/-- The recurrent cell, of the input's projection `x`, the state's projection `y` and the state `h`. -/
def cell (x y : Fin 1536 → EReal) (h : Fin 512 → EReal) (j : Fin 512) : EReal :=
  (1 - Ideal.logistic (x ⟨512 + j.val, by omega⟩ + y ⟨512 + j.val, by omega⟩))
      * Ideal.tanh (x ⟨1024 + j.val, by omega⟩
          + Ideal.logistic (x ⟨j.val, by omega⟩ + y ⟨j.val, by omega⟩) * y ⟨1024 + j.val, by omega⟩)
    + Ideal.logistic (x ⟨512 + j.val, by omega⟩ + y ⟨512 + j.val, by omega⟩) * h j

/-- Time `n`, as one of the 256. -/
def tm (n : ℕ) : Fin 256 := Fin.ofNat 256 n

/-- The state of row `b` after `n` steps. -/
def H (b : Fin 32) : ℕ → Fin 512 → EReal
  | 0 => fun e => (∑ d : Fin 512, A.spec b d * A.wi e d) + A.bi e
  | n + 1 => cell (X A b (tm n)) (GH A (H b n)) (H b n)

/-- The token scores of a state. -/
def tokOf (h : Fin 512 → EReal) (v : Fin 128) : EReal := (∑ d : Fin 512, h d * A.wo v d) + A.bo v

/-- The attention scores of a state over the scope of row `b`. -/
def attOf (b : Fin 32) (h : Fin 512 → EReal) (s : Fin 32) : EReal :=
  ∑ e : Fin 512, Ideal.tanh ((∑ d : Fin 512, h d * A.wd e d) + ∑ d : Fin 512, A.sc b s d * A.we e d) * A.va e

/-- The largest of a row of scores. -/
def mx {n : ℕ} (f : Fin n → EReal) : EReal := Finset.univ.fold max ⊥ f

/-- The logarithm of the sum of a row's exponentials, each score taken less the largest. -/
def lse {n : ℕ} (f : Fin n → EReal) : EReal := Ideal.log (∑ x : Fin n, Ideal.exp (f x - mx f))

/-- The log-softmax of a row of scores, at one of them. -/
def lsm {n : ℕ} (f : Fin n → EReal) (a : Fin n) : EReal := (f a - mx f) - lse f

/-- The token's log-probability at time `t`. -/
def tokLL (b : Fin 32) (t : Fin 256) : EReal := lsm (tokOf A (H A b (t.val + 1))) (idx 128 (A.tt b t))

/-- The pointer's log-probability at time `t`, zero where there is none. -/
def ptrLL (b : Fin 32) (t : Fin 256) : EReal :=
  if A.pm b t = 1#1 then lsm (attOf A b (H A b (t.val + 1))) (idx 32 (A.pt b t)) else 0

/-- The result. -/
def R (b : Fin 32) : EReal := (∑ t : Fin 256, tokLL A b t) + ∑ t : Fin 256, ptrLL A b t

/-! ## Finite values -/

theorem Fin'.add {x y : EReal} : Fin' x → Fin' y → Fin' (x + y) := by
  rintro ⟨a, rfl⟩ ⟨b, rfl⟩; exact ⟨a + b, (EReal.coe_add a b).symm⟩

theorem Fin'.sub {x y : EReal} : Fin' x → Fin' y → Fin' (x - y) := by
  rintro ⟨a, rfl⟩ ⟨b, rfl⟩; exact ⟨a - b, (EReal.coe_sub a b).symm⟩

theorem Fin'.mul {x y : EReal} : Fin' x → Fin' y → Fin' (x * y) := by
  rintro ⟨a, rfl⟩ ⟨b, rfl⟩; exact ⟨a * b, (EReal.coe_mul a b).symm⟩

theorem Fin'.sum {ι : Type} (s : Finset ι) {f : ι → EReal} (h : ∀ i, Fin' (f i)) : Fin' (∑ i ∈ s, f i) :=
  Finset.sum_induction f Fin' (fun _ _ => Fin'.add) ⟨0, rfl⟩ fun i _ => h i

theorem Fin'.logistic (x : EReal) : Fin' (Ideal.logistic x) := by
  induction x with
  | bot => exact ⟨0, Ideal.logistic_bot⟩
  | top => exact ⟨1, Ideal.logistic_top⟩
  | coe r => exact ⟨_, Ideal.logistic_coe r⟩

theorem Fin'.tanh (x : EReal) : Fin' (Ideal.tanh x) := by
  induction x with
  | bot => exact ⟨-1, by simp⟩
  | top => exact ⟨1, Ideal.tanh_top⟩
  | coe r => exact ⟨_, Ideal.tanh_coe r⟩

theorem cell_fin (x y : Fin 1536 → EReal) {h : Fin 512 → EReal} (hh : ∀ j, Fin' (h j)) (j : Fin 512) : Fin' (cell x y h j) :=
  ((Fin'.sub ⟨1, rfl⟩ (.logistic _)).mul (.tanh _)).add ((Fin'.logistic _).mul (hh j))

variable {A}

theorem H_fin (hA : A.Ok) (b : Fin 32) (n : ℕ) (j : Fin 512) : Fin' (H A b n j) := by
  induction n generalizing j with
  | zero => exact (Fin'.sum _ fun d => (hA.spec b d).mul (hA.wi j d)).add (hA.bi j)
  | succ n ih => exact cell_fin _ _ ih j

theorem tok_fin (hA : A.Ok) (b : Fin 32) (n : ℕ) (v : Fin 128) : Fin' (tokOf A (H A b n) v) :=
  (Fin'.sum _ fun d => (H_fin hA b n d).mul (hA.wo v d)).add (hA.bo v)

theorem att_fin (hA : A.Ok) (b : Fin 32) (h : Fin 512 → EReal) (s : Fin 32) : Fin' (attOf A b h s) :=
  Fin'.sum _ fun e => (Fin'.tanh _).mul (hA.va e)

theorem mx_fin {n : ℕ} {f : Fin (n + 1) → EReal} (h : ∀ i, Fin' (f i)) : Fin' (mx f) := by
  have ht : mx f < ⊤ := (Finset.fold_max_lt _).2 ⟨bot_lt_top, fun x _ => by
    obtain ⟨r, hr⟩ := h x; rw [hr]; exact EReal.coe_lt_top r⟩
  have hb : ⊥ < mx f := (Finset.lt_fold_max _).2 (Or.inr ⟨0, Finset.mem_univ _, by
    obtain ⟨r, hr⟩ := h 0; rw [hr]; exact EReal.bot_lt_coe r⟩)
  exact ⟨(mx f).toReal, (EReal.coe_toReal ht.ne hb.ne').symm⟩

/-- Taking the largest score away before or after the logarithm is the same, where the scores are finite. -/
theorem sub_add_eq {a m : EReal} (ha : Fin' a) (hm : Fin' m) (L : EReal) : a - (L + m) = (a - m) - L := by
  obtain ⟨a, rfl⟩ := ha
  obtain ⟨m, rfl⟩ := hm
  induction L with
  | bot => rw [EReal.bot_add, EReal.coe_sub_bot, ← EReal.coe_sub, EReal.coe_sub_bot]
  | top => rw [EReal.top_add_coe, EReal.sub_top, EReal.sub_top]
  | coe r => rw [← EReal.coe_add, ← EReal.coe_sub, ← EReal.coe_sub, ← EReal.coe_sub, sub_sub, add_comm]

theorem lsm_eq {n : ℕ} {f : Fin (n + 1) → EReal} (h : ∀ i, Fin' (f i)) (a : Fin (n + 1)) :
    f a - (lse f + mx f) = lsm f a := sub_add_eq (h a) (mx_fin h) _

/-! ## Selections by comparison with a word -/

/-- A sum that keeps the one term whose number is the word's, where the word is in range. -/
theorem sum_pick {n : ℕ} [NeZero n] (hn : n ≤ 4096) {w : BitVec 32} (hw : w.toNat < n) (f : Fin n → EReal) :
    ∑ x : Fin n, Scalar.select (IntOp.cmpi CmpIPredicate.eq w (BitVec.ofNat 32 x.val)) (f x) 0 = f (idx n w) := by
  rw [Finset.sum_eq_single (idx n w)]
  · have : w = BitVec.ofNat 32 (idx n w).val := by rw [idx_val hw]; simp
    rw [← this]; simp [IntOp.cmpi, Scalar.select]
  · intro x _ hx
    have : ¬ w = BitVec.ofNat 32 x.val := fun h => hx (Fin.ext (by
      rw [idx_val hw, h, BitVec.toNat_ofNat, Nat.mod_eq_of_lt (by omega)]))
    simp [IntOp.cmpi, Scalar.select, beq_eq_false_iff_ne.2 this]
  · intro h; exact absurd (Finset.mem_univ _) h

/-- The word of all ones is no term's number. -/
theorem sum_none {n : ℕ} (hn : n ≤ 4096) (f : Fin n → EReal) :
    ∑ x : Fin n, Scalar.select (IntOp.cmpi CmpIPredicate.eq 4294967295#32 (BitVec.ofNat 32 x.val)) (f x) 0 = 0 := by
  refine Finset.sum_eq_zero fun x _ => ?_
  have : ¬ (4294967295#32 : BitVec 32) = BitVec.ofNat 32 x.val := fun h => by
    have h' := congrArg BitVec.toNat h
    rw [BitVec.toNat_ofNat, BitVec.toNat_ofNat, Nat.mod_eq_of_lt, Nat.mod_eq_of_lt] at h' <;> omega
  simp [IntOp.cmpi, Scalar.select, beq_eq_false_iff_ne.2 this]

end Cert.Maths

end
-- ==== Proof.Maths.Range.lean ====
/- What the precondition says of the arguments: the ids in range, the named arrays finite. -/
module

public import proofs.«01_k».proof.Pre_within_range
public import proofs.«01_k».proof.Proof.Maths.Spec

@[expose] public section

noncomputable section

namespace Cert.Maths

open Idealize.ShloMosaic

theorem range_facts : Cert.Pre_within_range.Facts where
  bcast_S_S32x256 := by decide
  bcast_S_S32x512 := by decide
  bcast_S_S512x512 := by decide
  bcast_S_S512 := by decide
  bcast_S_S128x512 := by decide
  bcast_S_S128 := by decide

/-- A word that is at least zero and below `n` as a signed number is below `n` as a natural number. -/
theorem below {w u : BitVec 32} {n : ℕ} (hu : u.toNat = n) (hn : n ≤ 4096)
    (h : IntOp.andi (IntOp.cmpi .sge w 0#32) (IntOp.cmpi .slt w u) = 1#1) : w.toNat < n := by
  have h2 : u.toInt = u.toNat := BitVec.toInt_eq_toNat_of_lt (by omega)
  have h3 : 0 ≤ w.toInt ∧ w.toInt < u.toInt := by
    by_cases p : 0 ≤ w.toInt <;> by_cases q : w.toInt < u.toInt <;>
      simp [IntOp.cmpi, IntOp.andi, BitVec.sle, BitVec.slt, p, q] at h ⊢
  rw [BitVec.toInt_eq_toNat_cond] at h3
  split at h3 <;> omega

theorem top_eq : Ideal.ofBits FTy.f32 0x7F800000#32 = (⊤ : EReal) := by
  simp [Ideal.ofBits, Ideal.ieee]

/-- A value whose magnitude is below infinity is a real number. -/
theorem real_of_lt {x : EReal} (h : Ideal.cmp .olt (max x (-x)) (Ideal.ofBits FTy.f32 0x7F800000#32) = 1#1) : Fin' x := by
  rw [top_eq] at h
  induction x using EReal.rec with
  | bot => simp [Ideal.cmp] at h
  | top => simp [Ideal.cmp] at h
  | coe r => exact ⟨r, rfl⟩

end Cert.Maths

end
-- ==== Proof.KernelIdeal.Blocks.lean ====
/- Each window's block, read at an index, as the arguments read at theirs. -/
module

public import proofs.«01_k».proof.Proof.Gen.KernelIdeal.Frame
public import proofs.«01_k».proof.Proof.Maths.Spec
public import Idealize.ShloMosaic.Lib.Pipeline.ValueKit.Point
public import Idealize.ShloMosaic.Lib.StableHlo.ReadAt

@[expose] public section

set_option maxRecDepth 16384

noncomputable section

namespace Cert.KernelIdeal.Hand

open Cert.KernelIdeal.Gen
open Idealize.ShloMosaic Idealize.ShloMosaic.TcCoe Idealize.SL.Sem
open Cert.Maths (Args tm)

variable (m : (ℓ : Loc nD τ sig) → Buf (Elt Ideal) ℓ) (c : Dev nD)

/-- The arguments, as the memory holds them. -/
def args : Args := Args.of (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) (m (c.tc.loc main_arg8))
  (m (c.tc.loc main_arg9)) (m (c.tc.loc main_arg10)) (m (c.tc.loc main_arg11)) (m (c.tc.loc main_arg12)) (m (c.tc.loc main_arg13))
  (m (c.tc.loc main_arg14)) (m (c.tc.loc main_arg15)) (m (c.tc.loc main_arg16)) (m (c.tc.loc main_arg17)) (m (c.tc.loc main_arg18))

/-- The whole-array windows sit at the origin. -/
theorem at_origin : (∀ t, win0_0.index t = ![0, 0]) ∧ (∀ t, win0_1.index t = ![0, 0, 0]) ∧ (∀ t, win0_2.index t = ![0, 0, 0])
    ∧ (∀ t, win0_3.index t = ![0, 0]) ∧ (∀ t, win0_4.index t = ![0, 0]) ∧ (∀ t, win0_5.index t = ![0, 0])
    ∧ (∀ t, win0_6.index t = ![0, 0]) ∧ (∀ t, win0_7.index t = ![0, 0]) ∧ (∀ t, win0_8.index t = ![0, 0])
    ∧ (∀ t, win0_9.index t = ![0, 0]) ∧ (∀ t, win0_10.index t = ![0, 0]) ∧ (∀ t, win0_11.index t = ![0, 0])
    ∧ (∀ t, win0_12.index t = ![0, 0]) ∧ (∀ t, win0_13.index t = ![0, 0]) ∧ (∀ t, win0_14.index t = ![0, 0])
    ∧ (∀ t, win0_15.index t = ![0, 0]) := by decide +kernel

/-- The time windows move one block a step. -/
theorem at_block : (∀ t, win0_16.index t = ![t.val, 0, 0]) ∧ (∀ t, win0_17.index t = ![t.val, 0, 0])
    ∧ (∀ t, win0_18.index t = ![t.val, 0, 0]) ∧ (∀ t, win0_19.index t = ![t.val, 0, 0])
    ∧ (∀ t, win0_20.index t = ![t.val, 0, 0]) := by decide +kernel

/-- Position `i` of block `t` as a time. -/
theorem tm_mk (t : Fin 8) (i : Fin 32) (h : t.val * 32 + i.val < 256) : (⟨t.val * 32 + i.val, h⟩ : Fin 256) = tm (32 * t.val + i.val) := by
  apply Fin.ext
  simp only [tm, Fin.val_ofNat]
  omega

theorem blk0 (t : Fin cfg0.N) (b : Fin 32) (d : Fin 512) : iblk m c 0 t (ix2 b d) = (args m c).spec b d := by
  have e : V m c main_v16 (ix2 b d) = (args m c).spec b d := by
    unfold V V0
    after_reads_at
    rfl
  rw [← e]
  blk_ext [iblk, at_origin.1 t]

theorem blk1 (t : Fin cfg0.N) (s : Fin 32) (b : Fin 16) (d : Fin 512) : iblk m c 1 t (ix3 s b d) = (args m c).sc ⟨b.val, by omega⟩ s d := by
  have e : V m c main_v19 (ix3 s b d) = (args m c).sc ⟨b.val, by omega⟩ s d := by
    unfold V V0
    after_reads_at
    rfl
  rw [← e]
  blk_ext [iblk, at_origin.2.1 t]

theorem blk2 (t : Fin cfg0.N) (s : Fin 32) (b : Fin 16) (d : Fin 512) : iblk m c 2 t (ix3 s b d) = (args m c).sc ⟨16 + b.val, by omega⟩ s d := by
  have e : V m c main_v22 (ix3 s b d) = (args m c).sc ⟨16 + b.val, by omega⟩ s d := by
    unfold V V0
    after_reads_at
    rfl
  rw [← e]
  blk_ext [iblk, at_origin.2.2.1 t]

theorem blk3 (t : Fin cfg0.N) (v : Fin 128) (d : Fin 512) : iblk m c 3 t (ix2 v d) = (args m c).emb v d := by
  have e : V m c main_v23 (ix2 v d) = (args m c).emb v d := by
    unfold V V0
    after_reads_at
    rfl
  rw [← e]
  blk_ext [iblk, at_origin.2.2.2.1 t]

theorem blk4 (t : Fin cfg0.N) (d : Fin 512) (g : Fin 1536) : iblk m c 4 t (ix2 d g) = (args m c).wih g ⟨d.val, by omega⟩ := by
  have e : V m c main_v2 (ix2 d g) = (args m c).wih g ⟨d.val, by omega⟩ := by
    unfold V V0
    after_reads_at
    rfl
  rw [← e]
  blk_ext [iblk, at_origin.2.2.2.2.1 t]

theorem blk5 (t : Fin cfg0.N) (d : Fin 512) (g : Fin 1536) : iblk m c 5 t (ix2 d g) = (args m c).wih g ⟨512 + d.val, by omega⟩ := by
  have e : V m c main_v5 (ix2 d g) = (args m c).wih g ⟨512 + d.val, by omega⟩ := by
    unfold V V0
    after_reads_at
    rfl
  rw [← e]
  blk_ext [iblk, at_origin.2.2.2.2.2.1 t]

theorem blk6 (t : Fin cfg0.N) (d : Fin 512) (g : Fin 1536) : iblk m c 6 t (ix2 d g) = (args m c).whh g d := by
  have e : V m c main_v7 (ix2 d g) = (args m c).whh g d := by
    unfold V V0
    after_reads_at
    rfl
  rw [← e]
  blk_ext [iblk, at_origin.2.2.2.2.2.2.1 t]

theorem blk7 (t : Fin cfg0.N) (d e : Fin 512) : iblk m c 7 t (ix2 d e) = (args m c).wi e d := by
  have e : V m c main_v9 (ix2 d e) = (args m c).wi e d := by
    unfold V V0
    after_reads_at
    rfl
  rw [← e]
  blk_ext [iblk, at_origin.2.2.2.2.2.2.2.1 t]

theorem blk8 (t : Fin cfg0.N) (d : Fin 512) (v : Fin 128) : iblk m c 8 t (ix2 d v) = (args m c).wo v d := by
  have e : V m c main_v11 (ix2 d v) = (args m c).wo v d := by
    unfold V V0
    after_reads_at
    rfl
  rw [← e]
  blk_ext [iblk, at_origin.2.2.2.2.2.2.2.2.1 t]

theorem blk9 (t : Fin cfg0.N) (d e : Fin 512) : iblk m c 9 t (ix2 d e) = (args m c).wd e d := by
  have e : V m c main_v13 (ix2 d e) = (args m c).wd e d := by
    unfold V V0
    after_reads_at
    rfl
  rw [← e]
  blk_ext [iblk, at_origin.2.2.2.2.2.2.2.2.2.1 t]

theorem blk10 (t : Fin cfg0.N) (d e : Fin 512) : iblk m c 10 t (ix2 d e) = (args m c).we e d := by
  have e : V m c main_v15 (ix2 d e) = (args m c).we e d := by
    unfold V V0
    after_reads_at
    rfl
  rw [← e]
  blk_ext [iblk, at_origin.2.2.2.2.2.2.2.2.2.2.1 t]

theorem blk11 (t : Fin cfg0.N) (g : Fin 1536) : iblk m c 11 t (ix2 0 g) = (args m c).bih g := by
  have e : V m c main_v24 (ix2 0 g) = (args m c).bih g := by
    unfold V V0
    after_reads_at
    rfl
  rw [← e]
  blk_ext [iblk, at_origin.2.2.2.2.2.2.2.2.2.2.2.1 t]

theorem blk12 (t : Fin cfg0.N) (g : Fin 1536) : iblk m c 12 t (ix2 0 g) = (args m c).bhh g := by
  have e : V m c main_v25 (ix2 0 g) = (args m c).bhh g := by
    unfold V V0
    after_reads_at
    rfl
  rw [← e]
  blk_ext [iblk, at_origin.2.2.2.2.2.2.2.2.2.2.2.2.1 t]

theorem blk13 (t : Fin cfg0.N) (v : Fin 128) : iblk m c 13 t (ix2 0 v) = (args m c).bo v := by
  have e : V m c main_v26 (ix2 0 v) = (args m c).bo v := by
    unfold V V0
    after_reads_at
    rfl
  rw [← e]
  blk_ext [iblk, at_origin.2.2.2.2.2.2.2.2.2.2.2.2.2.1 t]

theorem blk14 (t : Fin cfg0.N) (e : Fin 512) : iblk m c 14 t (ix2 0 e) = (args m c).bi e := by
  have e : V m c main_v27 (ix2 0 e) = (args m c).bi e := by
    unfold V V0
    after_reads_at
    rfl
  rw [← e]
  blk_ext [iblk, at_origin.2.2.2.2.2.2.2.2.2.2.2.2.2.2.1 t]

theorem blk15 (t : Fin cfg0.N) (e : Fin 512) : iblk m c 15 t (ix2 0 e) = (args m c).va e := by
  have e : V m c main_v28 (ix2 0 e) = (args m c).va e := by
    unfold V V0
    after_reads_at
    rfl
  rw [← e]
  blk_ext [iblk, at_origin.2.2.2.2.2.2.2.2.2.2.2.2.2.2.2 t]

theorem blk16 (t : Fin cfg0.N) (i b : Fin 32) : iblk m c 16 t (ix3 0 i b) = (args m c).ti b (tm (32 * t.val + i.val)) := by
  have e : V m c main_v30 (ix3 (t : Fin 8) i b) = (args m c).ti b (tm (32 * t.val + i.val)) := by
    unfold V V0
    after_reads_at
    rw [← tm_mk t i]
    rfl
  rw [← e]
  blk_ext [iblk, at_block.1 t]

theorem blk17 (t : Fin cfg0.N) (i b : Fin 32) : iblk m c 17 t (ix3 0 i b) = (args m c).tt b (tm (32 * t.val + i.val)) := by
  have e : V m c main_v32 (ix3 (t : Fin 8) i b) = (args m c).tt b (tm (32 * t.val + i.val)) := by
    unfold V V0
    after_reads_at
    rw [← tm_mk t i]
    rfl
  rw [← e]
  blk_ext [iblk, at_block.2.1 t]

theorem blk18 (t : Fin cfg0.N) (i b : Fin 32) : iblk m c 18 t (ix3 0 i b) = (args m c).pi b (tm (32 * t.val + i.val)) := by
  have e : V m c main_v34 (ix3 (t : Fin 8) i b) = (args m c).pi b (tm (32 * t.val + i.val)) := by
    unfold V V0
    after_reads_at
    rw [← tm_mk t i]
    rfl
  rw [← e]
  blk_ext [iblk, at_block.2.2.1 t]

theorem blk19 (t : Fin cfg0.N) (i b : Fin 32) : iblk m c 19 t (ix3 0 i b) = (args m c).pt b (tm (32 * t.val + i.val)) := by
  have e : V m c main_v36 (ix3 (t : Fin 8) i b) = (args m c).pt b (tm (32 * t.val + i.val)) := by
    unfold V V0
    after_reads_at
    rw [← tm_mk t i]
    rfl
  rw [← e]
  blk_ext [iblk, at_block.2.2.2.1 t]

theorem blk20 (t : Fin cfg0.N) (i b : Fin 32) : iblk m c 20 t (ix3 0 i b) = ((args m c).pm b (tm (32 * t.val + i.val))).setWidth 32 := by
  have e : V m c main_v39 (ix3 (t : Fin 8) i b) = ((args m c).pm b (tm (32 * t.val + i.val))).setWidth 32 := by
    unfold V V0
    after_reads_at
    rw [← tm_mk t i]
    rfl
  rw [← e]
  blk_ext [iblk, at_block.2.2.2.2 t]

end Cert.KernelIdeal.Hand

end
-- ==== Proof.Value.Range.lean ====
/- The precondition, as the kernel's and the reference's arguments see it. -/
module

public import proofs.«01_k».proof.Defs
public import proofs.«01_k».proof.Proof.Maths.Range
public import proofs.«01_k».proof.Proof.KernelIdeal.Blocks

@[expose] public section

noncomputable section

namespace Cert.Value

open Idealize.ShloMosaic Idealize.ShloMosaic.TcCoe Cert.Maths

theorem ok_of_pre (m : (ℓ : Loc Cert.KernelIdeal.nD Cert.KernelIdeal.τ Cert.KernelIdeal.sig) → Buf (Elt Ideal) ℓ)
    (h : Cert.Pre_KernelIdeal_within_range (hPre_within_range := range_facts) m) (c : Dev Cert.KernelIdeal.nD) :
    (Cert.KernelIdeal.Hand.args m c).Ok := by
  obtain ⟨h0, h1, h2, h3, h4, h5, h6, h7, h8, h9⟩ := h c
  exact {
    ti := fun b t => below (u := 128#32) rfl (by decide) (congrFun h0 (ix2 b t))
    tt := fun b t => below (u := 128#32) rfl (by decide) (congrFun h1 (ix2 b t))
    pi := fun b t => below (u := 32#32) rfl (by decide) (congrFun h2 (ix2 b t))
    pt := fun b t => below (u := 32#32) rfl (by decide) (congrFun h3 (ix2 b t))
    spec := fun b e => real_of_lt (congrFun h4 (ix2 b e))
    wi := fun b e => real_of_lt (congrFun h5 (ix2 b e))
    bi := fun e => real_of_lt (congrFun h6 (ix1 e))
    wo := fun b e => real_of_lt (congrFun h7 (ix2 b e))
    bo := fun e => real_of_lt (congrFun h8 (ix1 e))
    va := fun e => real_of_lt (congrFun h9 (ix1 e)) }

end Cert.Value

end
-- ==== Proof.KernelIdeal.Loop.lean ====
/- The recurrent loop of the kernel: what its buffers hold before each of its thirty-two trips. -/
module

public import proofs.«01_k».proof.Proof.Gen.KernelIdeal.Loops

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (arg7 : Memref sig .tc .vmem S512x1536 .bf16) (arg13 : Memref sig .tc .vmem S1x1536 .f32)
  (arg27 : Memref sig .tc .vmem S32x512 .f32) (arg28 : Memref sig .tc .vmem S32x32x1536 .f32)
  (arg29 : Memref sig .tc .vmem S32x32x512 .f32)
  (X7 : BufTy.Contents (Elt F) arg7.view.ty) (X13 : BufTy.Contents (Elt F) arg13.view.ty)
  (X28 : BufTy.Contents (Elt F) arg28.view.ty)

/-- The whole of the hidden state's buffer. -/
abbrev wholeH : Rect S32x512 := Rect.unit (s := S32x512) ![0, 0] S32x512.size inb_S32x512_S32x512_0_0

/-- Row `k` of the input projections' buffer, as the trip loads it. -/
abbrev rowX (k : Fin k0_t1_loop.trips) : Rect S32x32x1536 :=
  Rect.unit (s := S32x32x1536) (k0_off1 k) S1x32x1536.size (k0_off1_inb k)

/-- Row `k` of the hidden states' buffer, as the trip stores it. -/
abbrev rowO (k : Fin k0_t1_loop.trips) : Rect S32x32x512 :=
  Rect.unit (s := S32x32x512) (k0_off2 k) S1x32x512.size (k0_off2_inb k)

/-- The recurrent matrix's buffer whole, and the hidden bias's. -/
abbrev wholeW : Rect S512x1536 := Rect.unit (s := S512x1536) ![0, 0] S512x1536.size inb_S512x1536_S512x1536_0_0
abbrev wholeB : Rect S1x1536 := Rect.unit (s := S1x1536) ![0, 0] S1x1536.size inb_S1x1536_S1x1536_0_0

/-- What trip `k` stores into the hidden state's buffer when it finds `f` there. -/
def newH (k : Fin k0_t1_loop.trips) (f : BufTy.Contents (Elt F) arg27.view.ty) : Vec F S32x512 .f32 :=
  k0_pay21 (arg28.view.readAt (Elt F) (rowX k).toLoadRect X28) (arg27.view.readAt (Elt F) wholeH.toLoadRect f)
    (arg7.view.readAt (Elt F) wholeW.toLoadRect X7) (arg13.view.readAt (Elt F) wholeB.toLoadRect X13)

/-- What it stores into its row of the hidden states' buffer. -/
def newO (k : Fin k0_t1_loop.trips) (f : BufTy.Contents (Elt F) arg27.view.ty) : Vec F S1x32x512 .f32 :=
  k0_pay22 (arg28.view.readAt (Elt F) (rowX k).toLoadRect X28) (arg27.view.readAt (Elt F) wholeH.toLoadRect f)
    (arg7.view.readAt (Elt F) wholeW.toLoadRect X7) (arg13.view.readAt (Elt F) wholeB.toLoadRect X13)

/-- The hidden state's buffer before trip `k`, from its contents `G` at the loop's entry. -/
def hC (G : BufTy.Contents (Elt F) arg27.view.ty) : ℕ → BufTy.Contents (Elt F) arg27.view.ty
  | 0 => G
  | k + 1 => if h : k < k0_t1_loop.trips then
      arg27.view.writes (Elt F) (hC G k) [⟨wholeH, newH arg7 arg13 arg27 arg28 X7 X13 X28 ⟨k, h⟩ (hC G k)⟩] else hC G k

/-- The hidden states' buffer before trip `k`. -/
def oC (G : BufTy.Contents (Elt F) arg27.view.ty) (G' : BufTy.Contents (Elt F) arg29.view.ty) :
    ℕ → BufTy.Contents (Elt F) arg29.view.ty
  | 0 => G'
  | k + 1 => if h : k < k0_t1_loop.trips then
      arg29.view.writes (Elt F) (oC G G' k) [⟨rowO ⟨k, h⟩, newO arg7 arg13 arg27 arg28 X7 X13 X28 ⟨k, h⟩ (hC arg7 arg13 arg27 arg28 X7 X13 X28 G k)⟩]
      else oC G G' k

theorem hC_succ (G : BufTy.Contents (Elt F) arg27.view.ty) (k : Fin k0_t1_loop.trips) :
    hC arg7 arg13 arg27 arg28 X7 X13 X28 G (k.val + 1)
      = arg27.view.writes (Elt F) (hC arg7 arg13 arg27 arg28 X7 X13 X28 G k.val)
          [⟨wholeH, newH arg7 arg13 arg27 arg28 X7 X13 X28 k (hC arg7 arg13 arg27 arg28 X7 X13 X28 G k.val)⟩] := by
  rw [hC, dif_pos k.isLt]

theorem oC_succ (G : BufTy.Contents (Elt F) arg27.view.ty) (G' : BufTy.Contents (Elt F) arg29.view.ty)
    (k : Fin k0_t1_loop.trips) :
    oC arg7 arg13 arg27 arg28 arg29 X7 X13 X28 G G' (k.val + 1)
      = arg29.view.writes (Elt F) (oC arg7 arg13 arg27 arg28 arg29 X7 X13 X28 G G' k.val)
          [⟨rowO k, newO arg7 arg13 arg27 arg28 X7 X13 X28 k (hC arg7 arg13 arg27 arg28 X7 X13 X28 G k.val)⟩] := by
  rw [oC, dif_pos k.isLt]

/-- What the buffers hold before trip `k`: the three read at their contents, the hidden state's and the hidden
    states' at `hC` and `oC`. -/
abbrev loopAt (c : Dev nD) (G : BufTy.Contents (Elt F) arg27.view.ty) (G' : BufTy.Contents (Elt F) arg29.view.ty) (k : ℕ) : sProp 𝕄 :=
  iprop((arg7.view.loc (c : Thread nD τ) ↦[arg7.view.set]{fullShare} X7)
    ∗ (arg13.view.loc (c : Thread nD τ) ↦[arg13.view.set]{fullShare} X13)
    ∗ (arg28.view.loc (c : Thread nD τ) ↦[arg28.view.set]{fullShare} X28)
    ∗ (∃ f, (arg27.view.loc (c : Thread nD τ) ↦[arg27.view.set]{fullShare} f) ∗ ⌜f = hC arg7 arg13 arg27 arg28 X7 X13 X28 G k⌝)
    ∗ (∃ f, (arg29.view.loc (c : Thread nD τ) ↦[arg29.view.set]{fullShare} f) ∗ ⌜f = oC arg7 arg13 arg27 arg28 arg29 X7 X13 X28 G G' k⌝))

end Trip

set_option warn.classDefReducibility false in
set_option maxHeartbeats 2000000 in
/-- The loop by its invariant: each trip takes `loopAt … k` to `loopAt … (k + 1)`. -/
@[sl_loop] def handLoop (𝒱 : Variants) (c : Dev nD) (bd : Option 𝒱.V) (E : Set ℕ) (i : grid0.Coords) (arg1 : Memref sig .tc .vmem S32x512 .bf16) (harg1 : arg1.IsWhole) (arg2 : Memref sig .tc .vmem S32x16x512 .bf16) (harg2 : arg2.IsWhole) (arg3 : Memref sig .tc .vmem S32x16x512 .bf16) (harg3 : arg3.IsWhole) (arg4 : Memref sig .tc .vmem S128x512 .bf16) (harg4 : arg4.IsWhole) (arg5 : Memref sig .tc .vmem S512x1536 .bf16) (harg5 : arg5.IsWhole) (arg6 : Memref sig .tc .vmem S512x1536 .bf16) (harg6 : arg6.IsWhole) (arg7 : Memref sig .tc .vmem S512x1536 .bf16) (harg7 : arg7.IsWhole) (arg8 : Memref sig .tc .vmem S512x512 .bf16) (harg8 : arg8.IsWhole) (arg9 : Memref sig .tc .vmem S512x128 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x32x32 .i32) (harg17 : arg17.IsWhole) (arg18 : Memref sig .tc .vmem S1x32x32 .i32) (harg18 : arg18.IsWhole) (arg19 : Memref sig .tc .vmem S1x32x32 .i32) (harg19 : arg19.IsWhole) (arg20 : Memref sig .tc .vmem S1x32x32 .i32) (harg20 : arg20.IsWhole) (arg21 : Memref sig .tc .vmem S1x32x32 .i32) (harg21 : arg21.IsWhole) (arg22 : Memref sig .tc .vmem S32x128 .f32) (harg22 : arg22.IsWhole) (arg23 : Memref sig .tc .vmem S128x1536 .bf16) (harg23 : arg23.IsWhole) (arg24 : Memref sig .tc .vmem S512x1536 .bf16) (harg24 : arg24.IsWhole) (arg25 : Memref sig .tc .vmem S512x1536 .bf16) (harg25 : arg25.IsWhole) (arg26 : Memref sig .tc .vmem S32x32x512 .f32) (harg26 : arg26.IsWhole) (arg27 : Memref sig .tc .vmem S32x512 .f32) (harg27 : arg27.IsWhole) (arg28 : Memref sig .tc .vmem S32x32x1536 .f32) (harg28 : arg28.IsWhole) (arg29 : Memref sig .tc .vmem S32x32x512 .f32) (harg29 : arg29.IsWhole) (arg30 : Memref sig .tc .vmem S32x128 .f32) (harg30 : arg30.IsWhole)
    (v65 : FVec F S512x1536 .f32) (v78 : IVec S32x16x512 1) (cst_32 : F .f32)
    (X7 : BufTy.Contents (Elt F) arg7.view.ty) (X13 : BufTy.Contents (Elt F) arg13.view.ty)
    (X28 : BufTy.Contents (Elt F) arg28.view.ty)
    (G : BufTy.Contents (Elt F) arg27.view.ty) (G' : BufTy.Contents (Elt F) arg29.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v65 v78 cst_32 where
  inv k _ := loopAt arg7 arg13 arg27 arg28 arg29 X7 X13 X28 c G G' k
  step k acc := by
    have hk : k.val < 32 := Nat.lt_of_lt_of_le k.isLt k0_t1_abs.2.1
    unfold k0_t1_body
    iintro ⟨H7, H13, H28, ⟨%f27, H27, %h27⟩, ⟨%f29, H29, %h29⟩⟩
    subst h27 h29
    sl_exec
    sl_step
    isplitl [H7]; · iexact H7
    isplitl [H13]; · iexact H13
    isplitl [H28]; · iexact H28
    isplitl [H27]
    · iexists _; isplitl [H27]; · iexact H27
      ipureintro; rw [hC_succ]; rfl
    iexists _; isplitl [H29]; · iexact H29
    ipureintro; rw [oC_succ]; rfl

end Cert.KernelIdeal.Hand

end
-- ==== Proof.KernelIdeal.Step.lean ====
/- What one grid point computes, as functions of the values it reads: the input projections of its 32 time steps, the
   hidden states, and the block's log-probabilities added to the accumulator. -/
module

public import proofs.«01_k».proof.Proof.KernelIdeal.Loop
public import proofs.«01_k».proof.Proof.Gen.KernelIdeal.Frame
public import Idealize.ShloMosaic.Lib.VecWindow
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two halves of the batch, in the buffer of input projections. -/
abbrev loX : Rect S32x32x1536 := Rect.unit (s := S32x32x1536) ![0, 0, 0] S32x16x1536.size inb_S32x32x1536_S32x16x1536_0_0_0
abbrev hiX : Rect S32x32x1536 := Rect.unit (s := S32x32x1536) ![0, 16, 0] S32x16x1536.size inb_S32x32x1536_S32x16x1536_0_16_0

/-- The two halves of the batch, in the buffer of attention keys. -/
abbrev loK : Rect S32x32x512 := Rect.unit (s := S32x32x512) ![0, 0, 0] S32x16x512.size inb_S32x32x512_S32x16x512_0_0_0
abbrev hiK : Rect S32x32x512 := Rect.unit (s := S32x32x512) ![0, 16, 0] S32x16x512.size inb_S32x32x512_S32x16x512_0_16_0

/-- The stores that fill the buffer of attention keys, and what it holds after them. -/
def okL (x2 : Vec F S32x16x512 .bf16) (x3 : Vec F S32x16x512 .bf16) (x11 : Vec F S512x512 .bf16) : List (View.Piece (Elt F) S32x32x512 (.f32 : EltTy)) :=
  [⟨hiK, k0_pay8 (k0_pay3 x3) x11⟩, ⟨loK, k0_pay7 (k0_pay2 x2) (k0_pay6 x11) (constant S512x512 .f32 0x00000000#32)⟩]
def okV (x2 : Vec F S32x16x512 .bf16) (x3 : Vec F S32x16x512 .bf16) (x11 : Vec F S512x512 .bf16) : Vec F S32x32x512 .f32 := View.canon (okL x2 x3 x11)

/-- The input projections of one half of the batch. -/
def xpLo (x12 : Vec F S1x1536 .f32) (x17 : Vec F S1x32x32 .i32) (x19 : Vec F S1x32x32 .i32) (x21 : Vec F S1x32x32 .i32) (x23 : Vec F S128x1536 .bf16) (x24 : Vec F S512x1536 .bf16) : FVec F S32x16x1536 .f32 :=
  k0_pay16 (k0_pay14 x17 x23) (k0_pay15 x19 x21) (Scalar.ofBits .f32 0x3F800000#32) x24 x12
def xpHi (x12 : Vec F S1x1536 .f32) (x17 : Vec F S1x32x32 .i32) (x19 : Vec F S1x32x32 .i32) (x21 : Vec F S1x32x32 .i32) (x23 : Vec F S128x1536 .bf16) (x25 : Vec F S512x1536 .bf16) : FVec F S32x16x1536 .f32 :=
  k0_pay19 (k0_pay17 (k0_pay11 x17) x23) (k0_pay18 (k0_pay12 x19) (k0_pay13 x21) (iota .tc S32x16 32 [1] iota_S32x16_d1_w32))
    (Scalar.ofBits .f32 0x3F800000#32) x25 x12

/-- The stores that fill the buffer of input projections, and what it holds after them. -/
def xpL (x12 : Vec F S1x1536 .f32) (x17 : Vec F S1x32x32 .i32) (x19 : Vec F S1x32x32 .i32) (x21 : Vec F S1x32x32 .i32) (x23 : Vec F S128x1536 .bf16) (x24 : Vec F S512x1536 .bf16) (x25 : Vec F S512x1536 .bf16) : List (View.Piece (Elt F) S32x32x1536 (.f32 : EltTy)) :=
  [⟨hiX, xpHi x12 x17 x19 x21 x23 x25⟩, ⟨loX, xpLo x12 x17 x19 x21 x23 x24⟩]
def xpV (x12 : Vec F S1x1536 .f32) (x17 : Vec F S1x32x32 .i32) (x19 : Vec F S1x32x32 .i32) (x21 : Vec F S1x32x32 .i32) (x23 : Vec F S128x1536 .bf16) (x24 : Vec F S512x1536 .bf16) (x25 : Vec F S512x1536 .bf16) : Vec F S32x32x1536 .f32 := View.canon (xpL x12 x17 x19 x21 x23 x24 x25)

/-- The hidden state before trip `k`, over the input projections `X` and from the state `h`. -/
def hV (x7 : Vec F S512x1536 .bf16) (x13 : Vec F S1x1536 .f32) (X : Vec F S32x32x1536 .f32) (h : Vec F S32x512 .f32) : ℕ → Vec F S32x512 .f32
  | 0 => h
  | k + 1 => if hk : k < k0_t1_loop.trips then k0_pay21 (View.ld X (rowX ⟨k, hk⟩)) (hV x7 x13 X h k) x7 x13 else hV x7 x13 X h k

/-- The stores of the first `k` trips into the buffer of hidden states, and what it holds after all of them. -/
def oL (x7 : Vec F S512x1536 .bf16) (x13 : Vec F S1x1536 .f32) (X : Vec F S32x32x1536 .f32) (h : Vec F S32x512 .f32) : ℕ → List (View.Piece (Elt F) S32x32x512 (.f32 : EltTy))
  | 0 => []
  | k + 1 => if hk : k < k0_t1_loop.trips then
      ⟨rowO ⟨k, hk⟩, k0_pay22 (View.ld X (rowX ⟨k, hk⟩)) (hV x7 x13 X h k) x7 x13⟩ :: oL x7 x13 X h k else oL x7 x13 X h k
def oV (x7 : Vec F S512x1536 .bf16) (x13 : Vec F S1x1536 .f32) (X : Vec F S32x32x1536 .f32) (h : Vec F S32x512 .f32) : Vec F S32x32x512 .f32 := View.canon (oL x7 x13 X h k0_t1_loop.trips)

/-- Row `j` of the attention keys. -/
abbrev rowK (j : ℕ) (hj : ∀ a, (![j, 0, 0] : Fin 3 → ℕ) a + S1x32x512.size a ≤ S32x32x512.size a) : Rect S32x32x512 :=
  Rect.unit (s := S32x32x512) ![j, 0, 0] S1x32x512.size hj

/-- One row's attention scores: the queries `q`, the vector `v` and the row of the keys. -/
abbrev colV (q : FVec F S32x32x512 .f32) (v : FVec F S1x1x512 .f32) (ok : Vec F S32x32x512 .f32) (j : ℕ)
    (hj : ∀ a, (![j, 0, 0] : Fin 3 → ℕ) a + S1x32x512.size a ≤ S32x32x512.size a) : FVec F S32x32x1 .f32 :=
  k0_pay33 q v (View.ld ok (rowK j hj))

/-- The accumulator after the block's log-probabilities are added, of the hidden states flattened `v98`, the token
    log-probabilities' terms, the keys `ok` and the targets. -/
def accR (v11 : IVec S32x32 32) (v98 : FVec F S1024x512 .bf16) (v105 : FVec F S1024x128 .f32) (v107 v113 : FVec F S1024x1 .f32)
    (x10 : Vec F S512x512 .bf16) (x16 : Vec F S1x512 .f32) (x18 : Vec F S1x32x32 .i32) (x20 : Vec F S1x32x32 .i32) (ok : Vec F S32x32x512 .f32) (a : Vec F S32x128 .f32) : Vec F S32x128 .f32 :=
  k0_pay67 v11 (k0_pay27 v105 v107 v113 x18)
    (colV (k0_pay28 v98 x10) (k0_pay29 x16) ok 0 inb_S32x32x512_S1x32x512_0_0_0)
    (colV (k0_pay28 v98 x10) (k0_pay29 x16) ok 1 inb_S32x32x512_S1x32x512_1_0_0)
    (colV (k0_pay28 v98 x10) (k0_pay29 x16) ok 2 inb_S32x32x512_S1x32x512_2_0_0)
    (colV (k0_pay28 v98 x10) (k0_pay29 x16) ok 3 inb_S32x32x512_S1x32x512_3_0_0)
    (colV (k0_pay28 v98 x10) (k0_pay29 x16) ok 4 inb_S32x32x512_S1x32x512_4_0_0)
    (colV (k0_pay28 v98 x10) (k0_pay29 x16) ok 5 inb_S32x32x512_S1x32x512_5_0_0)
    (colV (k0_pay28 v98 x10) (k0_pay29 x16) ok 6 inb_S32x32x512_S1x32x512_6_0_0)
    (colV (k0_pay28 v98 x10) (k0_pay29 x16) ok 7 inb_S32x32x512_S1x32x512_7_0_0)
    (colV (k0_pay28 v98 x10) (k0_pay29 x16) ok 8 inb_S32x32x512_S1x32x512_8_0_0)
    (colV (k0_pay28 v98 x10) (k0_pay29 x16) ok 9 inb_S32x32x512_S1x32x512_9_0_0)
    (colV (k0_pay28 v98 x10) (k0_pay29 x16) ok 10 inb_S32x32x512_S1x32x512_10_0_0)
    (colV (k0_pay28 v98 x10) (k0_pay29 x16) ok 11 inb_S32x32x512_S1x32x512_11_0_0)
    (colV (k0_pay28 v98 x10) (k0_pay29 x16) ok 12 inb_S32x32x512_S1x32x512_12_0_0)
    (colV (k0_pay28 v98 x10) (k0_pay29 x16) ok 13 inb_S32x32x512_S1x32x512_13_0_0)
    (colV (k0_pay28 v98 x10) (k0_pay29 x16) ok 14 inb_S32x32x512_S1x32x512_14_0_0)
    (colV (k0_pay28 v98 x10) (k0_pay29 x16) ok 15 inb_S32x32x512_S1x32x512_15_0_0)
    (colV (k0_pay28 v98 x10) (k0_pay29 x16) ok 16 inb_S32x32x512_S1x32x512_16_0_0)
    (colV (k0_pay28 v98 x10) (k0_pay29 x16) ok 17 inb_S32x32x512_S1x32x512_17_0_0)
    (colV (k0_pay28 v98 x10) (k0_pay29 x16) ok 18 inb_S32x32x512_S1x32x512_18_0_0)
    (colV (k0_pay28 v98 x10) (k0_pay29 x16) ok 19 inb_S32x32x512_S1x32x512_19_0_0)
    (colV (k0_pay28 v98 x10) (k0_pay29 x16) ok 20 inb_S32x32x512_S1x32x512_20_0_0)
    (colV (k0_pay28 v98 x10) (k0_pay29 x16) ok 21 inb_S32x32x512_S1x32x512_21_0_0)
    (colV (k0_pay28 v98 x10) (k0_pay29 x16) ok 22 inb_S32x32x512_S1x32x512_22_0_0)
    (colV (k0_pay28 v98 x10) (k0_pay29 x16) ok 23 inb_S32x32x512_S1x32x512_23_0_0)
    (colV (k0_pay28 v98 x10) (k0_pay29 x16) ok 24 inb_S32x32x512_S1x32x512_24_0_0)
    (colV (k0_pay28 v98 x10) (k0_pay29 x16) ok 25 inb_S32x32x512_S1x32x512_25_0_0)
    (colV (k0_pay28 v98 x10) (k0_pay29 x16) ok 26 inb_S32x32x512_S1x32x512_26_0_0)
    (colV (k0_pay28 v98 x10) (k0_pay29 x16) ok 27 inb_S32x32x512_S1x32x512_27_0_0)
    (colV (k0_pay28 v98 x10) (k0_pay29 x16) ok 28 inb_S32x32x512_S1x32x512_28_0_0)
    (colV (k0_pay28 v98 x10) (k0_pay29 x16) ok 29 inb_S32x32x512_S1x32x512_29_0_0)
    (colV (k0_pay28 v98 x10) (k0_pay29 x16) ok 30 inb_S32x32x512_S1x32x512_30_0_0)
    (k0_pay66 (k0_pay28 v98 x10) (k0_pay29 x16) (View.ld ok (rowK 31 inb_S32x32x512_S1x32x512_31_0_0))) x20 a

/-- The same over the hidden states `o` of the block. -/
def accV (x9 : Vec F S512x128 .bf16) (x10 : Vec F S512x512 .bf16) (x14 : Vec F S1x128 .f32) (x16 : Vec F S1x512 .f32) (x18 : Vec F S1x32x32 .i32) (x20 : Vec F S1x32x32 .i32) (x21 : Vec F S1x32x32 .i32)
    (ok : Vec F S32x32x512 .f32) (o : Vec F S32x32x512 .f32) (a : Vec F S32x128 .f32) : Vec F S32x128 .f32 :=
  accR (k0_pay13 x21) (k0_pay23 o) (k0_pay24 o x9 x14) (k0_pay25 o x9 x14) (k0_pay26 o x9 x14) x10 x16 x18 x20 ok a

section Loop

variable (arg7 : Memref sig .tc .vmem S512x1536 .bf16) (arg13 : Memref sig .tc .vmem S1x1536 .f32)
  (arg27 : Memref sig .tc .vmem S32x512 .f32) (arg28 : Memref sig .tc .vmem S32x32x1536 .f32)
  (arg29 : Memref sig .tc .vmem S32x32x512 .f32)
  (X7 : BufTy.Contents (Elt F) arg7.view.ty) (X13 : BufTy.Contents (Elt F) arg13.view.ty)
  (X28 : BufTy.Contents (Elt F) arg28.view.ty)

/-- The hidden state's buffer read before trip `k`. -/
theorem read_hC (G : BufTy.Contents (Elt F) arg27.view.ty) (k : ℕ) :
    arg27.view.read (Elt F) (hC arg7 arg13 arg27 arg28 X7 X13 X28 G k)
      = hV (arg7.view.read (Elt F) X7) (arg13.view.read (Elt F) X13) (arg28.view.read (Elt F) X28) (arg27.view.read (Elt F) G) k := by
  induction k with
  | zero => rfl
  | succ k ih =>
    unfold hC hV
    split
    · rw [View.read_writes_full, newH]
      simp only [View.readAt_eq_ld]
      rw [ih]
      rw [View.ld_unit_lit _ _ (by decide), View.ld_unit_lit _ _ (by decide), View.ld_unit_lit _ _ (by decide)]
    · exact ih

/-- The hidden states' buffer before trip `k`, as the stores of the trips so far. -/
theorem oC_eq (G : BufTy.Contents (Elt F) arg27.view.ty) (G' : BufTy.Contents (Elt F) arg29.view.ty) (k : ℕ) :
    oC arg7 arg13 arg27 arg28 arg29 X7 X13 X28 G G' k
      = arg29.view.writes (Elt F) G' (oL (arg7.view.read (Elt F) X7) (arg13.view.read (Elt F) X13) (arg28.view.read (Elt F) X28) (arg27.view.read (Elt F) G) k) := by
  induction k with
  | zero => rfl
  | succ k ih =>
    unfold oC oL
    split
    · rw [View.writes_cons, View.writes_cons, View.writes_nil]
      dsimp only
      rw [← ih, newO]
      simp only [View.readAt_eq_ld]
      rw [read_hC]
      rw [View.ld_unit_lit _ _ (by decide), View.ld_unit_lit _ _ (by decide), View.ld_unit_lit _ _ (by decide)]
    · exact ih

variable {x7 : Vec F S512x1536 .bf16} {x13 : Vec F S1x1536 .f32} {X : Vec F S32x32x1536 .f32} (x27 : Vec F S32x512 .f32)

/-- The hidden state's buffer read after the loop. -/
theorem loop_state {G : BufTy.Contents (Elt F) arg27.view.ty} {n : ℕ} (hn : n = k0_t1_loop.trips)
    (h7 : arg7.view.read (Elt F) X7 = x7) (h13 : arg13.view.read (Elt F) X13 = x13) (h28 : arg28.view.read (Elt F) X28 = X)
    (hG : arg27.view.read (Elt F) G = x27) :
    arg27.view.read (Elt F) (hC arg7 arg13 arg27 arg28 X7 X13 X28 G n) = hV x7 x13 X x27 k0_t1_loop.trips := by
  rw [read_hC, h7, h13, h28, hG, hn]

end Loop

/-- The stores of the first `n` trips fill the rows below `n`. -/
theorem oL_covers (x7 : Vec F S512x1536 .bf16) (x13 : Vec F S1x1536 .f32) (X : Vec F S32x32x1536 .f32) (h : Vec F S32x512 .f32) (n : ℕ) (hn : n ≤ k0_t1_loop.trips) (y : S32x32x512.Idx)
    (hy : (y 0).val < n) : ∃ p ∈ oL x7 x13 X h n, y ∈ p.1.set := by
  induction n with
  | zero => omega
  | succ n ih =>
    unfold oL
    rw [dif_pos (show n < k0_t1_loop.trips from hn)]
    by_cases hyn : (y 0).val = n
    · refine ⟨_, List.mem_cons_self, ?_⟩
      rw [Rect.mem_set_unit]
      simp only [k0_off2_eq]
      have h1 : (y 1).val < 32 := (y 1).isLt
      have h2 : (y 2).val < 512 := (y 2).isLt
      refine Fin.forall_fin_succ.2 ⟨?_, Fin.forall_fin_succ.2 ⟨?_, Fin.forall_fin_succ.2 ⟨?_, fun a => a.elim0⟩⟩⟩
      · show n ≤ (y 0).val ∧ (y 0).val < n + 1
        omega
      · show 0 ≤ (y 1).val ∧ (y 1).val < 0 + 32
        omega
      · show 0 ≤ (y 2).val ∧ (y 2).val < 0 + 512
        omega
    · obtain ⟨p, hp, hpy⟩ := ih (by omega) (by omega)
      exact ⟨p, List.mem_cons_of_mem _ hp, hpy⟩

theorem trips_eq : k0_t1_loop.trips = 32 := by decide +kernel

/-- The hidden states' buffer read after the loop. -/
theorem loop_states (arg7 : Memref sig .tc .vmem S512x1536 .bf16) (arg13 : Memref sig .tc .vmem S1x1536 .f32)
    (arg27 : Memref sig .tc .vmem S32x512 .f32) (arg28 : Memref sig .tc .vmem S32x32x1536 .f32) (arg29 : Memref sig .tc .vmem S32x32x512 .f32)
    {X7 : BufTy.Contents (Elt F) arg7.view.ty} {X13 : BufTy.Contents (Elt F) arg13.view.ty} {X28 : BufTy.Contents (Elt F) arg28.view.ty}
    {x7 : Vec F S512x1536 .bf16} {x13 : Vec F S1x1536 .f32} {X : Vec F S32x32x1536 .f32} (x27 : Vec F S32x512 .f32)
    {G : BufTy.Contents (Elt F) arg27.view.ty} {G' : BufTy.Contents (Elt F) arg29.view.ty} {n : ℕ} (hn : n = k0_t1_loop.trips)
    (h7 : arg7.view.read (Elt F) X7 = x7) (h13 : arg13.view.read (Elt F) X13 = x13) (h28 : arg28.view.read (Elt F) X28 = X)
    (hG : arg27.view.read (Elt F) G = x27) :
    arg29.view.read (Elt F) (oC arg7 arg13 arg27 arg28 arg29 X7 X13 X28 G G' n) = oV x7 x13 X x27 := by
  rw [oC_eq, h7, h13, h28, hG, hn]
  exact View.read_writes_eq_canon _ _ _ fun y => oL_covers x7 x13 X x27 _ le_rfl y (by rw [trips_eq]; exact (y 0).isLt)

/-- Two stores, one to each half of the batch, fill the buffer of input projections. -/
theorem halvesX_covers (hi lo : FVec F S32x16x1536 .f32) (y : S32x32x1536.Idx) :
    ∃ p ∈ ([⟨hiX, hi⟩, ⟨loX, lo⟩] : List (View.Piece (Elt F) S32x32x1536 (.f32 : EltTy))), y ∈ p.1.set :=
  View.cover_of_tiledL ([⟨hiX, hi⟩, ⟨loX, lo⟩] : List (View.Piece (Elt F) S32x32x1536 (.f32 : EltTy))) S32x16x1536.size (by sl_kernel_rfl) y

/-- The two halves of the batch are the whole buffer of attention keys. -/
theorem okL_covers (x2 : Vec F S32x16x512 .bf16) (x3 : Vec F S32x16x512 .bf16) (x11 : Vec F S512x512 .bf16) (y : S32x32x512.Idx) : ∃ p ∈ okL x2 x3 x11, y ∈ p.1.set :=
  View.cover_of_tiledL (okL x2 x3 x11) S32x16x512.size (by sl_kernel_rfl) y

/-- What one point hands to the next: the table of token projections, the two tables of scope projections, the
    attention keys, the hidden state and the accumulator. -/
structure Carry (F : FTy → Type) [FloatOps F] where
  tok : Vec F S128x1536 .bf16
  sp0 : Vec F S512x1536 .bf16
  sp1 : Vec F S512x1536 .bf16
  keys : Vec F S32x32x512 .f32
  h : Vec F S32x512 .f32
  acc : Vec F S32x128 .f32

/-- What the first point starts from. -/
def Carry.init (x1 : Vec F S32x512 .bf16) (x2 : Vec F S32x16x512 .bf16) (x3 : Vec F S32x16x512 .bf16) (x4 : Vec F S128x512 .bf16) (x5 : Vec F S512x1536 .bf16) (x6 : Vec F S512x1536 .bf16) (x8 : Vec F S512x512 .bf16) (x11 : Vec F S512x512 .bf16) (x15 : Vec F S1x512 .f32) : Carry F where
  tok := k0_pay1 x4 x5
  sp0 := k0_pay4 x2 x6
  sp1 := k0_pay5 x3 x6
  keys := okV x2 x3 x11
  h := k0_pay9 x1 x8 x15
  acc := k0_pay10 (F := F)

/-- One point's change of it. -/
def Carry.step (s : Carry F) (x7 : Vec F S512x1536 .bf16) (x9 : Vec F S512x128 .bf16) (x10 : Vec F S512x512 .bf16) (x12 : Vec F S1x1536 .f32) (x13 : Vec F S1x1536 .f32) (x14 : Vec F S1x128 .f32) (x16 : Vec F S1x512 .f32) (x17 : Vec F S1x32x32 .i32) (x18 : Vec F S1x32x32 .i32) (x19 : Vec F S1x32x32 .i32) (x20 : Vec F S1x32x32 .i32) (x21 : Vec F S1x32x32 .i32) : Carry F where
  tok := s.tok
  sp0 := s.sp0
  sp1 := s.sp1
  keys := s.keys
  h := hV x7 x13 (xpV x12 x17 x19 x21 s.tok s.sp0 s.sp1) s.h k0_t1_loop.trips
  acc := accV x9 x10 x14 x16 x18 x20 x21 s.keys (oV x7 x13 (xpV x12 x17 x19 x21 s.tok s.sp0 s.sp1) s.h) s.acc

/-- The point is the first; the point is the last. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

/-- A buffer that reads `x` is owned at `x`. -/
theorem own_intro {s : Shape} {e : EltTy} (c : Dev nD) (m : Memref sig .tc .vmem s e) (x : s.Idx → Elt F e) (f : BufTy.Contents (Elt F) m.view.ty)
    (h : m.view.read (Elt F) f = x) : (m.view.loc (c : Thread nD τ) ↦[m.view.set]{fullShare} f : sProp 𝕄) ⊢ iprop(∃ f, ⌜m.view.read (Elt F) f = x⌝ ∗ (m.view.loc (c : Thread nD τ) ↦[m.view.set]{fullShare} f)) := by
  iintro H; iexists _; isplitr
  swap; · iexact H
  ipureintro; exact h

end Cert.KernelIdeal.Hand

end
-- ==== Proof.KernelIdeal.PartsA.lean ====
/- The second part of the body: the first point fills the tables, and every point reads its ids. -/
module

public import proofs.«01_k».proof.Proof.KernelIdeal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Parts

variable (c : Dev nD) (i : grid0.Coords)
  (arg1 : Memref sig .tc .vmem S32x512 .bf16) (harg1 : arg1.IsWhole) (arg2 : Memref sig .tc .vmem S32x16x512 .bf16) (harg2 : arg2.IsWhole) (arg3 : Memref sig .tc .vmem S32x16x512 .bf16) (harg3 : arg3.IsWhole) (arg4 : Memref sig .tc .vmem S128x512 .bf16) (harg4 : arg4.IsWhole) (arg5 : Memref sig .tc .vmem S512x1536 .bf16) (harg5 : arg5.IsWhole) (arg6 : Memref sig .tc .vmem S512x1536 .bf16) (harg6 : arg6.IsWhole) (arg7 : Memref sig .tc .vmem S512x1536 .bf16) (harg7 : arg7.IsWhole) (arg8 : Memref sig .tc .vmem S512x512 .bf16) (harg8 : arg8.IsWhole) (arg9 : Memref sig .tc .vmem S512x128 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x32x32 .i32) (harg17 : arg17.IsWhole) (arg18 : Memref sig .tc .vmem S1x32x32 .i32) (harg18 : arg18.IsWhole) (arg19 : Memref sig .tc .vmem S1x32x32 .i32) (harg19 : arg19.IsWhole) (arg20 : Memref sig .tc .vmem S1x32x32 .i32) (harg20 : arg20.IsWhole) (arg21 : Memref sig .tc .vmem S1x32x32 .i32) (harg21 : arg21.IsWhole) (arg22 : Memref sig .tc .vmem S32x128 .f32) (harg22 : arg22.IsWhole) (arg23 : Memref sig .tc .vmem S128x1536 .bf16) (harg23 : arg23.IsWhole) (arg24 : Memref sig .tc .vmem S512x1536 .bf16) (harg24 : arg24.IsWhole) (arg25 : Memref sig .tc .vmem S512x1536 .bf16) (harg25 : arg25.IsWhole) (arg26 : Memref sig .tc .vmem S32x32x512 .f32) (harg26 : arg26.IsWhole) (arg27 : Memref sig .tc .vmem S32x512 .f32) (harg27 : arg27.IsWhole) (arg28 : Memref sig .tc .vmem S32x32x1536 .f32) (harg28 : arg28.IsWhole) (arg29 : Memref sig .tc .vmem S32x32x512 .f32) (harg29 : arg29.IsWhole) (arg30 : Memref sig .tc .vmem S32x128 .f32) (harg30 : arg30.IsWhole)

set_option maxHeartbeats 4000000 in
/-- Any other point only reads its ids and the table. -/
theorem part2_rest (x17 : Vec F S1x32x32 .i32) (x19 : Vec F S1x32x32 .i32) (x21 : Vec F S1x32x32 .i32) (x23 : Vec F S128x1536 .bf16)  (h : ¬cond0_0 i)
    (E : Set ℕ) (K : _ → sProp 𝕄) :
    iprop(owns (c : Thread nD τ) arg17 fullShare x17 ∗ owns (c : Thread nD τ) arg19 fullShare x19 ∗ owns (c : Thread nD τ) arg21 fullShare x21 ∗ owns (c : Thread nD τ) arg23 fullShare x23 ∗ (owns (c : Thread nD τ) arg17 fullShare x17 ∗ owns (c : Thread nD τ) arg19 fullShare x19 ∗ owns (c : Thread nD τ) arg21 fullShare x21 ∗ owns (c : Thread nD τ) arg23 fullShare x23 -∗ K ⟨BitVec.ofNat 32 (i 0).val, k0_pay11 x17, k0_pay12 x19, k0_pay13 x21, iota .tc S32x16 32 [1] iota_S32x16_d1_w32, k0_pay14 x17 x23, k0_pay15 x19 x21, Scalar.ofBits .f32 0x3F800000#32⟩))
      ⊢ wp frame (wpE (defs₀ (F := F)) Variants.none c none) E (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [k0_part2_eq_skeleton]; unfold k0_part2_skel
  iintro ⟨H17, H19, H21, H23, Hk⟩
  unfold owns
  icases H17 with ⟨%f17, %hf17, H17⟩
  icases H19 with ⟨%f19, %hf19, H19⟩
  icases H21 with ⟨%f21, %hf21, H21⟩
  icases H23 with ⟨%f23, %hf23, H23⟩
  obtain rfl := harg17.eq_unread hf17; obtain rfl := harg19.eq_unread hf19; obtain rfl := harg21.eq_unread hf21; obtain rfl := harg23.eq_unread hf23
  sl_exec (disch := sl_exact h)
  sl_step
  sl_unfold_run_names
  simp (disch := decide) only [View.readAt_eq_ld, Memref.IsWhole.read_unread, View.ld_unit_lit, View.readCov_unit_lit]
  iapply Hk
  isplitl [H17]; · iapply (own_intro c arg17 _ _ (harg17.read_unread _)); iexact H17
  isplitl [H19]; · iapply (own_intro c arg19 _ _ (harg19.read_unread _)); iexact H19
  isplitl [H21]; · iapply (own_intro c arg21 _ _ (harg21.read_unread _)); iexact H21
  iapply (own_intro c arg23 _ _ (harg23.read_unread _)); iexact H23

set_option maxHeartbeats 4000000 in
/-- The first point fills the tables, the keys, the hidden state and the accumulator before it reads its ids. -/
theorem part2_first (x1 : Vec F S32x512 .bf16) (x2 : Vec F S32x16x512 .bf16) (x3 : Vec F S32x16x512 .bf16) (x4 : Vec F S128x512 .bf16) (x5 : Vec F S512x1536 .bf16) (x6 : Vec F S512x1536 .bf16) (x8 : Vec F S512x512 .bf16) (x11 : Vec F S512x512 .bf16) (x15 : Vec F S1x512 .f32) (x17 : Vec F S1x32x32 .i32) (x19 : Vec F S1x32x32 .i32) (x21 : Vec F S1x32x32 .i32)  (h : cond0_0 i)
    (E : Set ℕ) (K : _ → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ owns (c : Thread nD τ) arg11 fullShare x11 ∗ owns (c : Thread nD τ) arg15 fullShare x15 ∗ owns (c : Thread nD τ) arg17 fullShare x17 ∗ owns (c : Thread nD τ) arg19 fullShare x19 ∗ owns (c : Thread nD τ) arg21 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg30 fullShare d) ∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ owns (c : Thread nD τ) arg11 fullShare x11 ∗ owns (c : Thread nD τ) arg15 fullShare x15 ∗ owns (c : Thread nD τ) arg17 fullShare x17 ∗ owns (c : Thread nD τ) arg19 fullShare x19 ∗ owns (c : Thread nD τ) arg21 fullShare x21 ∗ owns (c : Thread nD τ) arg23 fullShare (k0_pay1 x4 x5) ∗ owns (c : Thread nD τ) arg24 fullShare (k0_pay4 x2 x6) ∗ owns (c : Thread nD τ) arg25 fullShare (k0_pay5 x3 x6) ∗ owns (c : Thread nD τ) arg26 fullShare (okV x2 x3 x11) ∗ owns (c : Thread nD τ) arg27 fullShare (k0_pay9 x1 x8 x15) ∗ owns (c : Thread nD τ) arg30 fullShare (k0_pay10 (F := F)) -∗ K ⟨BitVec.ofNat 32 (i 0).val, k0_pay11 x17, k0_pay12 x19, k0_pay13 x21, iota .tc S32x16 32 [1] iota_S32x16_d1_w32, k0_pay14 x17 (k0_pay1 x4 x5), k0_pay15 x19 x21, Scalar.ofBits .f32 0x3F800000#32⟩))
      ⊢ wp frame (wpE (defs₀ (F := F)) Variants.none c none) E (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [k0_part2_eq_skeleton]; unfold k0_part2_skel
  iintro ⟨H1, H2, H3, H4, H5, H6, H8, H11, H15, H17, H19, H21, H23, H24, H25, H26, H27, H30, Hk⟩
  unfold owns
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H8 with ⟨%f8, %hf8, H8⟩
  icases H11 with ⟨%f11, %hf11, H11⟩
  icases H15 with ⟨%f15, %hf15, H15⟩
  icases H17 with ⟨%f17, %hf17, H17⟩
  icases H19 with ⟨%f19, %hf19, H19⟩
  icases H21 with ⟨%f21, %hf21, H21⟩
  icases H23 with ⟨%d23, %f23, -, H23⟩
  icases H24 with ⟨%d24, %f24, -, H24⟩
  icases H25 with ⟨%d25, %f25, -, H25⟩
  icases H26 with ⟨%d26, %f26, -, H26⟩
  icases H27 with ⟨%d27, %f27, -, H27⟩
  icases H30 with ⟨%d30, %f30, -, H30⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11; obtain rfl := harg15.eq_unread hf15; obtain rfl := harg17.eq_unread hf17; obtain rfl := harg19.eq_unread hf19; obtain rfl := harg21.eq_unread hf21
  sl_exec (disch := sl_exact h)
  sl_step
  sl_unfold_run_names
  simp (disch := decide) only [View.readAt_eq_ld, Memref.IsWhole.read_unread, View.ld_unit_lit, View.readCov_unit_lit]
  iapply Hk
  isplitl [H1]; · iapply (own_intro c arg1 _ _ (harg1.read_unread _)); iexact H1
  isplitl [H2]; · iapply (own_intro c arg2 _ _ (harg2.read_unread _)); iexact H2
  isplitl [H3]; · iapply (own_intro c arg3 _ _ (harg3.read_unread _)); iexact H3
  isplitl [H4]; · iapply (own_intro c arg4 _ _ (harg4.read_unread _)); iexact H4
  isplitl [H5]; · iapply (own_intro c arg5 _ _ (harg5.read_unread _)); iexact H5
  isplitl [H6]; · iapply (own_intro c arg6 _ _ (harg6.read_unread _)); iexact H6
  isplitl [H8]; · iapply (own_intro c arg8 _ _ (harg8.read_unread _)); iexact H8
  isplitl [H11]; · iapply (own_intro c arg11 _ _ (harg11.read_unread _)); iexact H11
  isplitl [H15]; · iapply (own_intro c arg15 _ _ (harg15.read_unread _)); iexact H15
  isplitl [H17]; · iapply (own_intro c arg17 _ _ (harg17.read_unread _)); iexact H17
  isplitl [H19]; · iapply (own_intro c arg19 _ _ (harg19.read_unread _)); iexact H19
  isplitl [H21]; · iapply (own_intro c arg21 _ _ (harg21.read_unread _)); iexact H21
  isplitl [H23]; · iapply (own_intro c arg23 _ _ (View.read_writes_full _ _ _ _ _)); iexact H23
  isplitl [H24]; · iapply (own_intro c arg24 _ _ (View.read_writes_full _ _ _ _ _)); iexact H24
  isplitl [H25]; · iapply (own_intro c arg25 _ _ (View.read_writes_full _ _ _ _ _)); iexact H25
  isplitl [H26]; · iapply (own_intro c arg26 _ _ (View.read_writes_eq_canon _ _ _ (okL_covers x2 x3 x11))); iexact H26
  isplitl [H27]; · iapply (own_intro c arg27 _ _ (View.read_writes_full _ _ _ _ _)); iexact H27
  iapply (own_intro c arg30 _ _ (View.read_writes_full _ _ _ _ _)); iexact H30

end Parts

end Cert.KernelIdeal.Hand

end
-- ==== Proof.KernelIdeal.PartsB.lean ====
/- The third and fourth parts of the body: the input projections and the recurrence. -/
module

public import proofs.«01_k».proof.Proof.KernelIdeal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Parts

variable (c : Dev nD) (i : grid0.Coords)
  (arg1 : Memref sig .tc .vmem S32x512 .bf16) (harg1 : arg1.IsWhole) (arg2 : Memref sig .tc .vmem S32x16x512 .bf16) (harg2 : arg2.IsWhole) (arg3 : Memref sig .tc .vmem S32x16x512 .bf16) (harg3 : arg3.IsWhole) (arg4 : Memref sig .tc .vmem S128x512 .bf16) (harg4 : arg4.IsWhole) (arg5 : Memref sig .tc .vmem S512x1536 .bf16) (harg5 : arg5.IsWhole) (arg6 : Memref sig .tc .vmem S512x1536 .bf16) (harg6 : arg6.IsWhole) (arg7 : Memref sig .tc .vmem S512x1536 .bf16) (harg7 : arg7.IsWhole) (arg8 : Memref sig .tc .vmem S512x512 .bf16) (harg8 : arg8.IsWhole) (arg9 : Memref sig .tc .vmem S512x128 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x32x32 .i32) (harg17 : arg17.IsWhole) (arg18 : Memref sig .tc .vmem S1x32x32 .i32) (harg18 : arg18.IsWhole) (arg19 : Memref sig .tc .vmem S1x32x32 .i32) (harg19 : arg19.IsWhole) (arg20 : Memref sig .tc .vmem S1x32x32 .i32) (harg20 : arg20.IsWhole) (arg21 : Memref sig .tc .vmem S1x32x32 .i32) (harg21 : arg21.IsWhole) (arg22 : Memref sig .tc .vmem S32x128 .f32) (harg22 : arg22.IsWhole) (arg23 : Memref sig .tc .vmem S128x1536 .bf16) (harg23 : arg23.IsWhole) (arg24 : Memref sig .tc .vmem S512x1536 .bf16) (harg24 : arg24.IsWhole) (arg25 : Memref sig .tc .vmem S512x1536 .bf16) (harg25 : arg25.IsWhole) (arg26 : Memref sig .tc .vmem S32x32x512 .f32) (harg26 : arg26.IsWhole) (arg27 : Memref sig .tc .vmem S32x512 .f32) (harg27 : arg27.IsWhole) (arg28 : Memref sig .tc .vmem S32x32x1536 .f32) (harg28 : arg28.IsWhole) (arg29 : Memref sig .tc .vmem S32x32x512 .f32) (harg29 : arg29.IsWhole) (arg30 : Memref sig .tc .vmem S32x128 .f32) (harg30 : arg30.IsWhole)

set_option maxHeartbeats 4000000 in
/-- The third part writes the first half of the input projections. -/
theorem part3_run (x12 : Vec F S1x1536 .f32) (x23 : Vec F S128x1536 .bf16) (x24 : Vec F S512x1536 .bf16) (v5 v8 v11 : IVec S32x32 32) (v12 : IVec S32x16 32) (v24 : FVec F S512x1536 .f32) (v37 : IVec S32x16x512 1) (cst_14 : F .f32)
    (E : Set ℕ) (K : _ → sProp 𝕄) :
    iprop(owns (c : Thread nD τ) arg12 fullShare x12 ∗ owns (c : Thread nD τ) arg23 fullShare x23 ∗ owns (c : Thread nD τ) arg24 fullShare x24 ∗ (∃ d, owns (c : Thread nD τ) arg28 fullShare d) ∗ (owns (c : Thread nD τ) arg12 fullShare x12 ∗ owns (c : Thread nD τ) arg23 fullShare x23 ∗ owns (c : Thread nD τ) arg24 fullShare x24 ∗ (∃ f, arg28.view.loc (c : Thread nD τ) ↦[arg28.view.set]{fullShare} arg28.view.writes (Elt F) f [⟨loX, k0_pay16 v24 v37 cst_14 x24 x12⟩]) -∗ K ⟨k0_pay17 v5 x23, k0_pay18 v8 v11 v12, Scalar.ofBits .f32 0x3F800000#32⟩))
      ⊢ wp frame (wpE (defs₀ (F := F)) Variants.none c none) E (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v5 v8 v11 v12 v24 v37 cst_14) K := by
  rw [k0_part3_eq_skeleton]; unfold k0_part3_skel
  iintro ⟨H12, H23, H24, H28, Hk⟩
  unfold owns
  icases H12 with ⟨%f12, %hf12, H12⟩
  icases H23 with ⟨%f23, %hf23, H23⟩
  icases H24 with ⟨%f24, %hf24, H24⟩
  icases H28 with ⟨%d28, %f28, -, H28⟩
  obtain rfl := harg12.eq_unread hf12; obtain rfl := harg23.eq_unread hf23; obtain rfl := harg24.eq_unread hf24
  sl_exec
  sl_step
  sl_unfold_run_names
  simp (disch := decide) only [View.readAt_eq_ld, Memref.IsWhole.read_unread, View.ld_unit_lit, View.readCov_unit_lit]
  iapply Hk
  isplitl [H12]; · iapply (own_intro c arg12 _ _ (harg12.read_unread _)); iexact H12
  isplitl [H23]; · iapply (own_intro c arg23 _ _ (harg23.read_unread _)); iexact H23
  isplitl [H24]; · iapply (own_intro c arg24 _ _ (harg24.read_unread _)); iexact H24
  iexists f28; iexact H28

set_option maxHeartbeats 4000000 in
/-- The fourth part writes the second half and runs the recurrence. -/
theorem part4_run (x7 : Vec F S512x1536 .bf16) (x9 : Vec F S512x128 .bf16) (x12 : Vec F S1x1536 .f32) (x13 : Vec F S1x1536 .f32) (x14 : Vec F S1x128 .f32) (x25 : Vec F S512x1536 .bf16) (x27 : Vec F S32x512 .f32) (v65 : FVec F S512x1536 .f32) (v78 : IVec S32x16x512 1) (cst_32 : F .f32) (w : FVec F S32x16x1536 .f32)
    (E : Set ℕ) (K : _ → sProp 𝕄) :
    iprop(owns (c : Thread nD τ) arg7 fullShare x7 ∗ owns (c : Thread nD τ) arg9 fullShare x9 ∗ owns (c : Thread nD τ) arg12 fullShare x12 ∗ owns (c : Thread nD τ) arg13 fullShare x13 ∗ owns (c : Thread nD τ) arg14 fullShare x14 ∗ owns (c : Thread nD τ) arg25 fullShare x25 ∗ owns (c : Thread nD τ) arg27 fullShare x27 ∗ (∃ d, owns (c : Thread nD τ) arg29 fullShare d) ∗ (∃ f, arg28.view.loc (c : Thread nD τ) ↦[arg28.view.set]{fullShare} arg28.view.writes (Elt F) f [⟨loX, w⟩]) ∗ (owns (c : Thread nD τ) arg7 fullShare x7 ∗ owns (c : Thread nD τ) arg9 fullShare x9 ∗ owns (c : Thread nD τ) arg12 fullShare x12 ∗ owns (c : Thread nD τ) arg13 fullShare x13 ∗ owns (c : Thread nD τ) arg14 fullShare x14 ∗ owns (c : Thread nD τ) arg25 fullShare x25 ∗ owns (c : Thread nD τ) arg27 fullShare (hV x7 x13 (View.canon [⟨hiX, k0_pay19 v65 v78 cst_32 x25 x12⟩, ⟨loX, w⟩]) x27 k0_t1_loop.trips) ∗ (∃ d, owns (c : Thread nD τ) arg28 fullShare d) ∗ (∃ d, owns (c : Thread nD τ) arg29 fullShare d) -∗ K ⟨k0_pay23 (oV x7 x13 (View.canon [⟨hiX, k0_pay19 v65 v78 cst_32 x25 x12⟩, ⟨loX, w⟩]) x27), k0_pay24 (oV x7 x13 (View.canon [⟨hiX, k0_pay19 v65 v78 cst_32 x25 x12⟩, ⟨loX, w⟩]) x27) x9 x14, k0_pay25 (oV x7 x13 (View.canon [⟨hiX, k0_pay19 v65 v78 cst_32 x25 x12⟩, ⟨loX, w⟩]) x27) x9 x14, k0_pay26 (oV x7 x13 (View.canon [⟨hiX, k0_pay19 v65 v78 cst_32 x25 x12⟩, ⟨loX, w⟩]) x27) x9 x14⟩))
      ⊢ wp frame (wpE (defs₀ (F := F)) Variants.none c none) E (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v65 v78 cst_32) K := by
  rw [k0_part4_eq_skeleton]; unfold k0_part4_skel
  iintro ⟨H7, H9, H12, H13, H14, H25, H27, H29, ⟨%f28, H28⟩, Hk⟩
  unfold owns
  icases H7 with ⟨%f7, %hf7, H7⟩
  icases H9 with ⟨%f9, %hf9, H9⟩
  icases H12 with ⟨%f12, %hf12, H12⟩
  icases H13 with ⟨%f13, %hf13, H13⟩
  icases H14 with ⟨%f14, %hf14, H14⟩
  icases H25 with ⟨%f25, %hf25, H25⟩
  icases H27 with ⟨%f27, %hf27, H27⟩
  icases H29 with ⟨%d29, %f29, -, H29⟩
  obtain rfl := harg7.eq_unread hf7; obtain rfl := harg9.eq_unread hf9; obtain rfl := harg12.eq_unread hf12; obtain rfl := harg13.eq_unread hf13; obtain rfl := harg14.eq_unread hf14; obtain rfl := harg25.eq_unread hf25; obtain rfl := harg27.eq_unread hf27
  sl_exec
  sl_step
  sl_unfold_run_names
  simp (disch := decide) only [View.readAt_eq_ld, Memref.IsWhole.read_unread, View.ld_unit_lit, View.readCov_unit_lit]
  rw [loop_states arg7 arg13 arg27 arg28 arg29 x27 rfl hf7 hf13 (View.read_writes_eq_canon _ _ _ (halvesX_covers (k0_pay19 v65 v78 cst_32 x25 x12) w))]
  swap; · exact hf27
  iapply Hk
  isplitl [H7]; · iapply (own_intro c arg7 _ _ (harg7.read_unread _)); iexact H7
  isplitl [H9]; · iapply (own_intro c arg9 _ _ (harg9.read_unread _)); iexact H9
  isplitl [H12]; · iapply (own_intro c arg12 _ _ (harg12.read_unread _)); iexact H12
  isplitl [H13]; · iapply (own_intro c arg13 _ _ (harg13.read_unread _)); iexact H13
  isplitl [H14]; · iapply (own_intro c arg14 _ _ (harg14.read_unread _)); iexact H14
  isplitl [H25]; · iapply (own_intro c arg25 _ _ (harg25.read_unread _)); iexact H25
  isplitl [H27]; · iapply (own_intro c arg27 _ _ ((loop_state arg7 arg13 arg27 arg28 _ _ _ x27 rfl hf7 hf13 (View.read_writes_eq_canon _ _ _ (halvesX_covers (k0_pay19 v65 v78 cst_32 x25 x12) w)) hf27))); iexact H27
  isplitl [H28]; · iexists _; iapply (own_intro c arg28 _ _ (rfl)); iexact H28
  iexists _; iapply (own_intro c arg29 _ _ (rfl)); iexact H29

end Parts

end Cert.KernelIdeal.Hand

end
-- ==== Proof.KernelIdeal.PartsC.lean ====
/- The rest of the body: the scores, the accumulator and the result. -/
module

public import proofs.«01_k».proof.Proof.KernelIdeal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Parts

variable (c : Dev nD) (i : grid0.Coords)
  (arg1 : Memref sig .tc .vmem S32x512 .bf16) (harg1 : arg1.IsWhole) (arg2 : Memref sig .tc .vmem S32x16x512 .bf16) (harg2 : arg2.IsWhole) (arg3 : Memref sig .tc .vmem S32x16x512 .bf16) (harg3 : arg3.IsWhole) (arg4 : Memref sig .tc .vmem S128x512 .bf16) (harg4 : arg4.IsWhole) (arg5 : Memref sig .tc .vmem S512x1536 .bf16) (harg5 : arg5.IsWhole) (arg6 : Memref sig .tc .vmem S512x1536 .bf16) (harg6 : arg6.IsWhole) (arg7 : Memref sig .tc .vmem S512x1536 .bf16) (harg7 : arg7.IsWhole) (arg8 : Memref sig .tc .vmem S512x512 .bf16) (harg8 : arg8.IsWhole) (arg9 : Memref sig .tc .vmem S512x128 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x32x32 .i32) (harg17 : arg17.IsWhole) (arg18 : Memref sig .tc .vmem S1x32x32 .i32) (harg18 : arg18.IsWhole) (arg19 : Memref sig .tc .vmem S1x32x32 .i32) (harg19 : arg19.IsWhole) (arg20 : Memref sig .tc .vmem S1x32x32 .i32) (harg20 : arg20.IsWhole) (arg21 : Memref sig .tc .vmem S1x32x32 .i32) (harg21 : arg21.IsWhole) (arg22 : Memref sig .tc .vmem S32x128 .f32) (harg22 : arg22.IsWhole) (arg23 : Memref sig .tc .vmem S128x1536 .bf16) (harg23 : arg23.IsWhole) (arg24 : Memref sig .tc .vmem S512x1536 .bf16) (harg24 : arg24.IsWhole) (arg25 : Memref sig .tc .vmem S512x1536 .bf16) (harg25 : arg25.IsWhole) (arg26 : Memref sig .tc .vmem S32x32x512 .f32) (harg26 : arg26.IsWhole) (arg27 : Memref sig .tc .vmem S32x512 .f32) (harg27 : arg27.IsWhole) (arg28 : Memref sig .tc .vmem S32x32x1536 .f32) (harg28 : arg28.IsWhole) (arg29 : Memref sig .tc .vmem S32x32x512 .f32) (harg29 : arg29.IsWhole) (arg30 : Memref sig .tc .vmem S32x128 .f32) (harg30 : arg30.IsWhole)

/-- The kernel from its fifth part on: the scores, the accumulator, and at the last point the result. -/
def rest (v11 : IVec S32x32 32) (v98 : FVec F S1024x512 .bf16) (v105 : FVec F S1024x128 .f32) (v107 v113 : FVec F S1024x1 .f32) : Prog (TpuEff nD τ sig (Elt F) Λ₀ .tc) PUnit := do
  let ⟨v130, v134, v137, v147, v155⟩ : Σ' (v130 : FVec F S32x32x1 .f32) (v134 : FVec F S32x32x512 .f32) (v137 : FVec F S1x1x512 .f32) (v147 : FVec F S32x32x1 .f32), FVec F S32x32x512 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v98 v105 v107 v113
  let ⟨v157, v167, v177, v187, v197⟩ : Σ' (v157 : FVec F S32x32x1 .f32) (v167 : FVec F S32x32x1 .f32) (v177 : FVec F S32x32x1 .f32) (v187 : FVec F S32x32x1 .f32), FVec F S32x32x1 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v134 v137 v155
  let ⟨v207, v217, v227, v237, v239⟩ : Σ' (v207 : FVec F S32x32x1 .f32) (v217 : FVec F S32x32x1 .f32) (v227 : FVec F S32x32x1 .f32) (v237 : FVec F S32x32x1 .f32), FVec F S32x512 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v134 v137
  let ⟨v247, v257, v267, v277, v283⟩ : Σ' (v247 : FVec F S32x32x1 .f32) (v257 : FVec F S32x32x1 .f32) (v267 : FVec F S32x32x1 .f32) (v277 : FVec F S32x32x1 .f32), FVec F S32x32x512 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v134 v137 v239
  let ⟨v287, v297, v307, v317, v326⟩ : Σ' (v287 : FVec F S32x32x1 .f32) (v297 : FVec F S32x32x1 .f32) (v307 : FVec F S32x32x1 .f32) (v317 : FVec F S32x32x1 .f32), FVec F S32x32 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v134 v137 v283
  let ⟨v327, v337, v347, v357, v367⟩ : Σ' (v327 : FVec F S32x32x1 .f32) (v337 : FVec F S32x32x1 .f32) (v347 : FVec F S32x32x1 .f32) (v357 : FVec F S32x32x1 .f32), FVec F S32x32x1 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v134 v137 v326
  let ⟨v377, v387, v397, v407, v411⟩ : Σ' (v377 : FVec F S32x32x1 .f32) (v387 : FVec F S32x32x1 .f32) (v397 : FVec F S32x32x1 .f32) (v407 : FVec F S32x32x1 .f32), FVec F S32x32x512 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v134 v137
  let ⟨v417, v427, v437, v447, v455⟩ : Σ' (v417 : FVec F S32x32x1 .f32) (v427 : FVec F S32x32x1 .f32) (v437 : FVec F S32x32x1 .f32) (v447 : FVec F S32x32x1 .f32), FVec F S32x32x512 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v134 v137 v411
  let c7_i32 : BitVec 32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v11 v130 v147 v157 v167 v177 v187 v197 v207 v217 v227 v237 v247 v257 v267 v277 v287 v297 v307 v317 v327 v337 v347 v357 v367 v377 v387 v397 v407 v417 v427 v437 v447 v455
  if k0_h2 : k0_cond2 i = 1#1 then do
    let v500 : Vec F S32x128 .f32 ← Prog.lift (.load arg30 (Rect.unit (s := S32x128) ![0, 0] S32x128.size inb_S32x128_S32x128_0_0).toLoadRect (View.loadsAt_vmem h_S32x128))
    let v501 : Vec F S32x128 .f32 ← Prog.lift (.load arg22 (Rect.unit (s := S32x128) ![0, 0] S32x128.size inb_S32x128_S32x128_0_0).toLoadRect (View.loadsAt_vmem h_S32x128))
    Prog.lift (.store arg22 (Rect.unit (s := S32x128) ![0, 0] S32x128.size inb_S32x128_S32x128_0_0) v500 Finset.univ (View.stores_vmem_bits_univ h_S32x128 rfl) (.inl rfl))
    pure ⟨⟩
  else do
    pure ⟨⟩
  pure ⟨⟩

theorem body_eq : cc0_no_execution_fused (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 = (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 >>= fun r => k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 r.2.1 r.2.2.1 r.2.2.2.1 r.2.2.2.2.1 r.2.2.2.2.2.1 r.2.2.2.2.2.2.1 r.2.2.2.2.2.2.2 >>= fun r3 =>
    k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 r3.1 r3.2.1 r3.2.2 >>= fun r4 => rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 r.2.2.2.1 r4.1 r4.2.1 r4.2.2.1 r4.2.2.2) := rfl

set_option maxHeartbeats 4000000 in
/-- At a point that is not the last only the accumulator changes. -/
theorem rest_run (x10 : Vec F S512x512 .bf16) (x16 : Vec F S1x512 .f32) (x18 : Vec F S1x32x32 .i32) (x20 : Vec F S1x32x32 .i32) (x26 : Vec F S32x32x512 .f32) (x30 : Vec F S32x128 .f32) (v11 : IVec S32x32 32) (v98 : FVec F S1024x512 .bf16) (v105 : FVec F S1024x128 .f32) (v107 v113 : FVec F S1024x1 .f32) (h : ¬cond0_1 i)
    (E : Set ℕ) (K : _ → sProp 𝕄) :
    iprop(owns (c : Thread nD τ) arg10 fullShare x10 ∗ owns (c : Thread nD τ) arg16 fullShare x16 ∗ owns (c : Thread nD τ) arg18 fullShare x18 ∗ owns (c : Thread nD τ) arg20 fullShare x20 ∗ owns (c : Thread nD τ) arg26 fullShare x26 ∗ owns (c : Thread nD τ) arg30 fullShare x30 ∗ (owns (c : Thread nD τ) arg10 fullShare x10 ∗ owns (c : Thread nD τ) arg16 fullShare x16 ∗ owns (c : Thread nD τ) arg18 fullShare x18 ∗ owns (c : Thread nD τ) arg20 fullShare x20 ∗ owns (c : Thread nD τ) arg26 fullShare x26 ∗ owns (c : Thread nD τ) arg30 fullShare (accR v11 v98 v105 v107 v113 x10 x16 x18 x20 x26 x30) -∗ K ⟨⟩))
      ⊢ wp frame (wpE (defs₀ (F := F)) Variants.none c none) E (rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v11 v98 v105 v107 v113) K := by
  unfold rest
  iintro ⟨H10, H16, H18, H20, H26, H30, Hk⟩
  unfold owns
  icases H10 with ⟨%f10, %hf10, H10⟩
  icases H16 with ⟨%f16, %hf16, H16⟩
  icases H18 with ⟨%f18, %hf18, H18⟩
  icases H20 with ⟨%f20, %hf20, H20⟩
  icases H26 with ⟨%f26, %hf26, H26⟩
  icases H30 with ⟨%f30, %hf30, H30⟩
  obtain rfl := harg10.eq_unread hf10; obtain rfl := harg16.eq_unread hf16; obtain rfl := harg18.eq_unread hf18; obtain rfl := harg20.eq_unread hf20; obtain rfl := harg26.eq_unread hf26; obtain rfl := harg30.eq_unread hf30
  sl_exec (disch := sl_exact h)
  sl_step
  sl_unfold_run_names
  simp (disch := decide) only [View.readAt_eq_ld, Memref.IsWhole.read_unread, View.ld_unit_lit, View.readCov_unit_lit]
  iapply Hk
  isplitl [H10]; · iapply (own_intro c arg10 _ _ (harg10.read_unread _)); iexact H10
  isplitl [H16]; · iapply (own_intro c arg16 _ _ (harg16.read_unread _)); iexact H16
  isplitl [H18]; · iapply (own_intro c arg18 _ _ (harg18.read_unread _)); iexact H18
  isplitl [H20]; · iapply (own_intro c arg20 _ _ (harg20.read_unread _)); iexact H20
  isplitl [H26]; · iapply (own_intro c arg26 _ _ (harg26.read_unread _)); iexact H26
  iapply (own_intro c arg30 _ _ (View.read_writes_full _ _ _ _ _)); iexact H30

set_option maxHeartbeats 4000000 in
/-- At the last point the result is the accumulator. -/
theorem rest_last (x10 : Vec F S512x512 .bf16) (x16 : Vec F S1x512 .f32) (x18 : Vec F S1x32x32 .i32) (x20 : Vec F S1x32x32 .i32) (x26 : Vec F S32x32x512 .f32) (x30 : Vec F S32x128 .f32) (v11 : IVec S32x32 32) (v98 : FVec F S1024x512 .bf16) (v105 : FVec F S1024x128 .f32) (v107 v113 : FVec F S1024x1 .f32) (h : cond0_1 i)
    (E : Set ℕ) (K : _ → sProp 𝕄) :
    iprop(owns (c : Thread nD τ) arg10 fullShare x10 ∗ owns (c : Thread nD τ) arg16 fullShare x16 ∗ owns (c : Thread nD τ) arg18 fullShare x18 ∗ owns (c : Thread nD τ) arg20 fullShare x20 ∗ owns (c : Thread nD τ) arg26 fullShare x26 ∗ owns (c : Thread nD τ) arg30 fullShare x30 ∗ (∃ d, owns (c : Thread nD τ) arg22 fullShare d) ∗ (owns (c : Thread nD τ) arg10 fullShare x10 ∗ owns (c : Thread nD τ) arg16 fullShare x16 ∗ owns (c : Thread nD τ) arg18 fullShare x18 ∗ owns (c : Thread nD τ) arg20 fullShare x20 ∗ owns (c : Thread nD τ) arg26 fullShare x26 ∗ owns (c : Thread nD τ) arg30 fullShare (accR v11 v98 v105 v107 v113 x10 x16 x18 x20 x26 x30) ∗ owns (c : Thread nD τ) arg22 fullShare (accR v11 v98 v105 v107 v113 x10 x16 x18 x20 x26 x30) -∗ K ⟨⟩))
      ⊢ wp frame (wpE (defs₀ (F := F)) Variants.none c none) E (rest (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v11 v98 v105 v107 v113) K := by
  unfold rest
  iintro ⟨H10, H16, H18, H20, H26, H30, H22, Hk⟩
  unfold owns
  icases H10 with ⟨%f10, %hf10, H10⟩
  icases H16 with ⟨%f16, %hf16, H16⟩
  icases H18 with ⟨%f18, %hf18, H18⟩
  icases H20 with ⟨%f20, %hf20, H20⟩
  icases H26 with ⟨%f26, %hf26, H26⟩
  icases H30 with ⟨%f30, %hf30, H30⟩
  icases H22 with ⟨%d22, %f22, -, H22⟩
  obtain rfl := harg10.eq_unread hf10; obtain rfl := harg16.eq_unread hf16; obtain rfl := harg18.eq_unread hf18; obtain rfl := harg20.eq_unread hf20; obtain rfl := harg26.eq_unread hf26; obtain rfl := harg30.eq_unread hf30
  sl_exec (disch := sl_exact h)
  sl_step
  sl_unfold_run_names
  simp (disch := decide) only [View.readAt_eq_ld, Memref.IsWhole.read_unread, View.ld_unit_lit, View.readCov_unit_lit]
  iapply Hk
  isplitl [H10]; · iapply (own_intro c arg10 _ _ (harg10.read_unread _)); iexact H10
  isplitl [H16]; · iapply (own_intro c arg16 _ _ (harg16.read_unread _)); iexact H16
  isplitl [H18]; · iapply (own_intro c arg18 _ _ (harg18.read_unread _)); iexact H18
  isplitl [H20]; · iapply (own_intro c arg20 _ _ (harg20.read_unread _)); iexact H20
  isplitl [H26]; · iapply (own_intro c arg26 _ _ (harg26.read_unread _)); iexact H26
  isplitl [H30]; · iapply (own_intro c arg30 _ _ (View.read_writes_full _ _ _ _ _)); iexact H30
  iapply (own_intro c arg22 _ _ (View.read_writes_full _ _ _ _ _)); iexact H22

end Parts

end Cert.KernelIdeal.Hand

end
-- ==== Proof.KernelIdeal.Body.lean ====
/- One grid point of the kernel: what it reads, and what it leaves. -/
module

public import proofs.«01_k».proof.Proof.KernelIdeal.PartsA
public import proofs.«01_k».proof.Proof.KernelIdeal.PartsB
public import proofs.«01_k».proof.Proof.KernelIdeal.PartsC

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Parts

variable (c : Dev nD) (i : grid0.Coords)
  (arg1 : Memref sig .tc .vmem S32x512 .bf16) (harg1 : arg1.IsWhole) (arg2 : Memref sig .tc .vmem S32x16x512 .bf16) (harg2 : arg2.IsWhole) (arg3 : Memref sig .tc .vmem S32x16x512 .bf16) (harg3 : arg3.IsWhole) (arg4 : Memref sig .tc .vmem S128x512 .bf16) (harg4 : arg4.IsWhole) (arg5 : Memref sig .tc .vmem S512x1536 .bf16) (harg5 : arg5.IsWhole) (arg6 : Memref sig .tc .vmem S512x1536 .bf16) (harg6 : arg6.IsWhole) (arg7 : Memref sig .tc .vmem S512x1536 .bf16) (harg7 : arg7.IsWhole) (arg8 : Memref sig .tc .vmem S512x512 .bf16) (harg8 : arg8.IsWhole) (arg9 : Memref sig .tc .vmem S512x128 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x1536 .f32) (harg12 : arg12.IsWhole) (arg13 : Memref sig .tc .vmem S1x1536 .f32) (harg13 : arg13.IsWhole) (arg14 : Memref sig .tc .vmem S1x128 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x32x32 .i32) (harg17 : arg17.IsWhole) (arg18 : Memref sig .tc .vmem S1x32x32 .i32) (harg18 : arg18.IsWhole) (arg19 : Memref sig .tc .vmem S1x32x32 .i32) (harg19 : arg19.IsWhole) (arg20 : Memref sig .tc .vmem S1x32x32 .i32) (harg20 : arg20.IsWhole) (arg21 : Memref sig .tc .vmem S1x32x32 .i32) (harg21 : arg21.IsWhole) (arg22 : Memref sig .tc .vmem S32x128 .f32) (harg22 : arg22.IsWhole) (arg23 : Memref sig .tc .vmem S128x1536 .bf16) (harg23 : arg23.IsWhole) (arg24 : Memref sig .tc .vmem S512x1536 .bf16) (harg24 : arg24.IsWhole) (arg25 : Memref sig .tc .vmem S512x1536 .bf16) (harg25 : arg25.IsWhole) (arg26 : Memref sig .tc .vmem S32x32x512 .f32) (harg26 : arg26.IsWhole) (arg27 : Memref sig .tc .vmem S32x512 .f32) (harg27 : arg27.IsWhole) (arg28 : Memref sig .tc .vmem S32x32x1536 .f32) (harg28 : arg28.IsWhole) (arg29 : Memref sig .tc .vmem S32x32x512 .f32) (harg29 : arg29.IsWhole) (arg30 : Memref sig .tc .vmem S32x128 .f32) (harg30 : arg30.IsWhole)

set_option maxHeartbeats 4000000 in
/-- The first point. -/
theorem run_first (x1 : Vec F S32x512 .bf16) (x2 : Vec F S32x16x512 .bf16) (x3 : Vec F S32x16x512 .bf16) (x4 : Vec F S128x512 .bf16) (x5 : Vec F S512x1536 .bf16) (x6 : Vec F S512x1536 .bf16) (x7 : Vec F S512x1536 .bf16) (x8 : Vec F S512x512 .bf16) (x9 : Vec F S512x128 .bf16) (x10 : Vec F S512x512 .bf16) (x11 : Vec F S512x512 .bf16) (x12 : Vec F S1x1536 .f32) (x13 : Vec F S1x1536 .f32) (x14 : Vec F S1x128 .f32) (x15 : Vec F S1x512 .f32) (x16 : Vec F S1x512 .f32) (x17 : Vec F S1x32x32 .i32) (x18 : Vec F S1x32x32 .i32) (x19 : Vec F S1x32x32 .i32) (x20 : Vec F S1x32x32 .i32) (x21 : Vec F S1x32x32 .i32)  (h0 : cond0_0 i) (h1 : ¬cond0_1 i)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg30 fullShare d) ∗ (∃ d, owns (c : Thread nD τ) arg28 fullShare d) ∗ (∃ d, owns (c : Thread nD τ) arg29 fullShare d) ∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg23 fullShare ((Carry.init x1 x2 x3 x4 x5 x6 x8 x11 x15).step x7 x9 x10 x12 x13 x14 x16 x17 x18 x19 x20 x21).tok ∗ owns (c : Thread nD τ) arg24 fullShare ((Carry.init x1 x2 x3 x4 x5 x6 x8 x11 x15).step x7 x9 x10 x12 x13 x14 x16 x17 x18 x19 x20 x21).sp0 ∗ owns (c : Thread nD τ) arg25 fullShare ((Carry.init x1 x2 x3 x4 x5 x6 x8 x11 x15).step x7 x9 x10 x12 x13 x14 x16 x17 x18 x19 x20 x21).sp1 ∗ owns (c : Thread nD τ) arg26 fullShare ((Carry.init x1 x2 x3 x4 x5 x6 x8 x11 x15).step x7 x9 x10 x12 x13 x14 x16 x17 x18 x19 x20 x21).keys ∗ owns (c : Thread nD τ) arg27 fullShare ((Carry.init x1 x2 x3 x4 x5 x6 x8 x11 x15).step x7 x9 x10 x12 x13 x14 x16 x17 x18 x19 x20 x21).h ∗ owns (c : Thread nD τ) arg30 fullShare ((Carry.init x1 x2 x3 x4 x5 x6 x8 x11 x15).step x7 x9 x10 x12 x13 x14 x16 x17 x18 x19 x20 x21).acc ∗ (∃ d, owns (c : Thread nD τ) arg28 fullShare d) ∗ (∃ d, owns (c : Thread nD τ) arg29 fullShare d) -∗ K ⟨⟩))
      ⊢ wp frame (wpE (defs₀ (F := F)) Variants.none c none) E (cc0_no_execution_fused (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [body_eq]
  simp only [wp_bind]
  iintro ⟨H1, H2, H3, H4, H5, H6, H7, H8, H9, H10, H11, H12, H13, H14, H15, H16, H17, H18, H19, H20, H21, H23, H24, H25, H26, H27, H30, H28, H29, Hk⟩
  iapply (part2_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x1 x2 x3 x4 x5 x6 x8 x11 x15 x17 x19 x21 h0 E _)
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H11]; · iexact H11
  isplitl [H15]; · iexact H15
  isplitl [H17]; · iexact H17
  isplitl [H19]; · iexact H19
  isplitl [H21]; · iexact H21
  isplitl [H23]; · iexact H23
  isplitl [H24]; · iexact H24
  isplitl [H25]; · iexact H25
  isplitl [H26]; · iexact H26
  isplitl [H27]; · iexact H27
  isplitl [H30]; · iexact H30
  iintro ⟨H1, H2, H3, H4, H5, H6, H8, H11, H15, H17, H19, H21, H23, H24, H25, H26, H27, H30⟩
  dsimp only
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x12 (Carry.init x1 x2 x3 x4 x5 x6 x8 x11 x15).tok (Carry.init x1 x2 x3 x4 x5 x6 x8 x11 x15).sp0 _ _ _ _ _ _ _ E _)
  isplitl [H12]; · iexact H12
  isplitl [H23]; · iexact H23
  isplitl [H24]; · iexact H24
  isplitl [H28]; · iexact H28
  iintro ⟨H12, H23, H24, H28⟩
  dsimp only
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x7 x9 x12 x13 x14 (Carry.init x1 x2 x3 x4 x5 x6 x8 x11 x15).sp1 (Carry.init x1 x2 x3 x4 x5 x6 x8 x11 x15).h _ _ _ _ E _)
  isplitl [H7]; · iexact H7
  isplitl [H9]; · iexact H9
  isplitl [H12]; · iexact H12
  isplitl [H13]; · iexact H13
  isplitl [H14]; · iexact H14
  isplitl [H25]; · iexact H25
  isplitl [H27]; · iexact H27
  isplitl [H29]; · iexact H29
  isplitl [H28]; · iexact H28
  iintro ⟨H7, H9, H12, H13, H14, H25, H27, H28, H29⟩
  dsimp only
  iapply (rest_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x10 x16 x18 x20 (Carry.init x1 x2 x3 x4 x5 x6 x8 x11 x15).keys (Carry.init x1 x2 x3 x4 x5 x6 x8 x11 x15).acc _ _ _ _ _ h1 E _)
  isplitl [H10]; · iexact H10
  isplitl [H16]; · iexact H16
  isplitl [H18]; · iexact H18
  isplitl [H20]; · iexact H20
  isplitl [H26]; · iexact H26
  isplitl [H30]; · iexact H30
  iintro ⟨H10, H16, H18, H20, H26, H30⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H23]; · iexact H23
  isplitl [H24]; · iexact H24
  isplitl [H25]; · iexact H25
  isplitl [H26]; · iexact H26
  isplitl [H27]; · iexact H27
  isplitl [H30]; · iexact H30
  isplitl [H28]; · iexact H28
  iexact H29

set_option maxHeartbeats 4000000 in
/-- A point that is neither the first nor the last. -/
theorem run_mid (x1 : Vec F S32x512 .bf16) (x2 : Vec F S32x16x512 .bf16) (x3 : Vec F S32x16x512 .bf16) (x4 : Vec F S128x512 .bf16) (x5 : Vec F S512x1536 .bf16) (x6 : Vec F S512x1536 .bf16) (x7 : Vec F S512x1536 .bf16) (x8 : Vec F S512x512 .bf16) (x9 : Vec F S512x128 .bf16) (x10 : Vec F S512x512 .bf16) (x11 : Vec F S512x512 .bf16) (x12 : Vec F S1x1536 .f32) (x13 : Vec F S1x1536 .f32) (x14 : Vec F S1x128 .f32) (x15 : Vec F S1x512 .f32) (x16 : Vec F S1x512 .f32) (x17 : Vec F S1x32x32 .i32) (x18 : Vec F S1x32x32 .i32) (x19 : Vec F S1x32x32 .i32) (x20 : Vec F S1x32x32 .i32) (x21 : Vec F S1x32x32 .i32) (s : Carry F) (h0 : ¬cond0_0 i) (h1 : ¬cond0_1 i)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg23 fullShare s.tok ∗ owns (c : Thread nD τ) arg24 fullShare s.sp0 ∗ owns (c : Thread nD τ) arg25 fullShare s.sp1 ∗ owns (c : Thread nD τ) arg26 fullShare s.keys ∗ owns (c : Thread nD τ) arg27 fullShare s.h ∗ owns (c : Thread nD τ) arg30 fullShare s.acc ∗ (∃ d, owns (c : Thread nD τ) arg28 fullShare d) ∗ (∃ d, owns (c : Thread nD τ) arg29 fullShare d) ∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg23 fullShare (s.step x7 x9 x10 x12 x13 x14 x16 x17 x18 x19 x20 x21).tok ∗ owns (c : Thread nD τ) arg24 fullShare (s.step x7 x9 x10 x12 x13 x14 x16 x17 x18 x19 x20 x21).sp0 ∗ owns (c : Thread nD τ) arg25 fullShare (s.step x7 x9 x10 x12 x13 x14 x16 x17 x18 x19 x20 x21).sp1 ∗ owns (c : Thread nD τ) arg26 fullShare (s.step x7 x9 x10 x12 x13 x14 x16 x17 x18 x19 x20 x21).keys ∗ owns (c : Thread nD τ) arg27 fullShare (s.step x7 x9 x10 x12 x13 x14 x16 x17 x18 x19 x20 x21).h ∗ owns (c : Thread nD τ) arg30 fullShare (s.step x7 x9 x10 x12 x13 x14 x16 x17 x18 x19 x20 x21).acc ∗ (∃ d, owns (c : Thread nD τ) arg28 fullShare d) ∗ (∃ d, owns (c : Thread nD τ) arg29 fullShare d) -∗ K ⟨⟩))
      ⊢ wp frame (wpE (defs₀ (F := F)) Variants.none c none) E (cc0_no_execution_fused (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [body_eq]
  simp only [wp_bind]
  iintro ⟨H1, H2, H3, H4, H5, H6, H7, H8, H9, H10, H11, H12, H13, H14, H15, H16, H17, H18, H19, H20, H21, H23, H24, H25, H26, H27, H30, H28, H29, Hk⟩
  iapply (part2_rest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x17 x19 x21 s.tok h0 E _)
  isplitl [H17]; · iexact H17
  isplitl [H19]; · iexact H19
  isplitl [H21]; · iexact H21
  isplitl [H23]; · iexact H23
  iintro ⟨H17, H19, H21, H23⟩
  dsimp only
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x12 s.tok s.sp0 _ _ _ _ _ _ _ E _)
  isplitl [H12]; · iexact H12
  isplitl [H23]; · iexact H23
  isplitl [H24]; · iexact H24
  isplitl [H28]; · iexact H28
  iintro ⟨H12, H23, H24, H28⟩
  dsimp only
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x7 x9 x12 x13 x14 s.sp1 s.h _ _ _ _ E _)
  isplitl [H7]; · iexact H7
  isplitl [H9]; · iexact H9
  isplitl [H12]; · iexact H12
  isplitl [H13]; · iexact H13
  isplitl [H14]; · iexact H14
  isplitl [H25]; · iexact H25
  isplitl [H27]; · iexact H27
  isplitl [H29]; · iexact H29
  isplitl [H28]; · iexact H28
  iintro ⟨H7, H9, H12, H13, H14, H25, H27, H28, H29⟩
  dsimp only
  iapply (rest_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x10 x16 x18 x20 s.keys s.acc _ _ _ _ _ h1 E _)
  isplitl [H10]; · iexact H10
  isplitl [H16]; · iexact H16
  isplitl [H18]; · iexact H18
  isplitl [H20]; · iexact H20
  isplitl [H26]; · iexact H26
  isplitl [H30]; · iexact H30
  iintro ⟨H10, H16, H18, H20, H26, H30⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H23]; · iexact H23
  isplitl [H24]; · iexact H24
  isplitl [H25]; · iexact H25
  isplitl [H26]; · iexact H26
  isplitl [H27]; · iexact H27
  isplitl [H30]; · iexact H30
  isplitl [H28]; · iexact H28
  iexact H29

set_option maxHeartbeats 4000000 in
/-- The last point. -/
theorem run_last (x1 : Vec F S32x512 .bf16) (x2 : Vec F S32x16x512 .bf16) (x3 : Vec F S32x16x512 .bf16) (x4 : Vec F S128x512 .bf16) (x5 : Vec F S512x1536 .bf16) (x6 : Vec F S512x1536 .bf16) (x7 : Vec F S512x1536 .bf16) (x8 : Vec F S512x512 .bf16) (x9 : Vec F S512x128 .bf16) (x10 : Vec F S512x512 .bf16) (x11 : Vec F S512x512 .bf16) (x12 : Vec F S1x1536 .f32) (x13 : Vec F S1x1536 .f32) (x14 : Vec F S1x128 .f32) (x15 : Vec F S1x512 .f32) (x16 : Vec F S1x512 .f32) (x17 : Vec F S1x32x32 .i32) (x18 : Vec F S1x32x32 .i32) (x19 : Vec F S1x32x32 .i32) (x20 : Vec F S1x32x32 .i32) (x21 : Vec F S1x32x32 .i32) (s : Carry F) (h0 : ¬cond0_0 i) (h1 : cond0_1 i)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg23 fullShare s.tok ∗ owns (c : Thread nD τ) arg24 fullShare s.sp0 ∗ owns (c : Thread nD τ) arg25 fullShare s.sp1 ∗ owns (c : Thread nD τ) arg26 fullShare s.keys ∗ owns (c : Thread nD τ) arg27 fullShare s.h ∗ owns (c : Thread nD τ) arg30 fullShare s.acc ∗ (∃ d, owns (c : Thread nD τ) arg28 fullShare d) ∗ (∃ d, owns (c : Thread nD τ) arg29 fullShare d) ∗ (∃ d, owns (c : Thread nD τ) arg22 fullShare d) ∗ (owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg23 fullShare (s.step x7 x9 x10 x12 x13 x14 x16 x17 x18 x19 x20 x21).tok ∗ owns (c : Thread nD τ) arg24 fullShare (s.step x7 x9 x10 x12 x13 x14 x16 x17 x18 x19 x20 x21).sp0 ∗ owns (c : Thread nD τ) arg25 fullShare (s.step x7 x9 x10 x12 x13 x14 x16 x17 x18 x19 x20 x21).sp1 ∗ owns (c : Thread nD τ) arg26 fullShare (s.step x7 x9 x10 x12 x13 x14 x16 x17 x18 x19 x20 x21).keys ∗ owns (c : Thread nD τ) arg27 fullShare (s.step x7 x9 x10 x12 x13 x14 x16 x17 x18 x19 x20 x21).h ∗ owns (c : Thread nD τ) arg30 fullShare (s.step x7 x9 x10 x12 x13 x14 x16 x17 x18 x19 x20 x21).acc ∗ (∃ d, owns (c : Thread nD τ) arg28 fullShare d) ∗ (∃ d, owns (c : Thread nD τ) arg29 fullShare d) ∗ owns (c : Thread nD τ) arg22 fullShare (s.step x7 x9 x10 x12 x13 x14 x16 x17 x18 x19 x20 x21).acc -∗ K ⟨⟩))
      ⊢ wp frame (wpE (defs₀ (F := F)) Variants.none c none) E (cc0_no_execution_fused (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  rw [body_eq]
  simp only [wp_bind]
  iintro ⟨H1, H2, H3, H4, H5, H6, H7, H8, H9, H10, H11, H12, H13, H14, H15, H16, H17, H18, H19, H20, H21, H23, H24, H25, H26, H27, H30, H28, H29, H22, Hk⟩
  iapply (part2_rest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x17 x19 x21 s.tok h0 E _)
  isplitl [H17]; · iexact H17
  isplitl [H19]; · iexact H19
  isplitl [H21]; · iexact H21
  isplitl [H23]; · iexact H23
  iintro ⟨H17, H19, H21, H23⟩
  dsimp only
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x12 s.tok s.sp0 _ _ _ _ _ _ _ E _)
  isplitl [H12]; · iexact H12
  isplitl [H23]; · iexact H23
  isplitl [H24]; · iexact H24
  isplitl [H28]; · iexact H28
  iintro ⟨H12, H23, H24, H28⟩
  dsimp only
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x7 x9 x12 x13 x14 s.sp1 s.h _ _ _ _ E _)
  isplitl [H7]; · iexact H7
  isplitl [H9]; · iexact H9
  isplitl [H12]; · iexact H12
  isplitl [H13]; · iexact H13
  isplitl [H14]; · iexact H14
  isplitl [H25]; · iexact H25
  isplitl [H27]; · iexact H27
  isplitl [H29]; · iexact H29
  isplitl [H28]; · iexact H28
  iintro ⟨H7, H9, H12, H13, H14, H25, H27, H28, H29⟩
  dsimp only
  iapply (rest_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x10 x16 x18 x20 s.keys s.acc _ _ _ _ _ h1 E _)
  isplitl [H10]; · iexact H10
  isplitl [H16]; · iexact H16
  isplitl [H18]; · iexact H18
  isplitl [H20]; · iexact H20
  isplitl [H26]; · iexact H26
  isplitl [H30]; · iexact H30
  isplitl [H22]; · iexact H22
  iintro ⟨H10, H16, H18, H20, H26, H30, H22⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H23]; · iexact H23
  isplitl [H24]; · iexact H24
  isplitl [H25]; · iexact H25
  isplitl [H26]; · iexact H26
  isplitl [H27]; · iexact H27
  isplitl [H30]; · iexact H30
  isplitl [H28]; · iexact H28
  isplitl [H29]; · iexact H29
  iexact H22

end Parts

end Cert.KernelIdeal.Hand

end
-- ==== Proof.KernelIdeal.Launch.lean ====
/- The launch: the grid's eight points in turn, what is handed from each to the next, and the run of the whole program. -/
module

public import proofs.«01_k».proof.Proof.KernelIdeal.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The first condition holds at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The second holds at the last point only. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-- An input window is never idle. -/
theorem liveAt (w : Fin cfg0.W) (hw : w.val < 21) (t : Fin cfg0.N) : cfg0.idle w (grid0.coords t) = false := by
  have h : w = 0 ∨ w = 1 ∨ w = 2 ∨ w = 3 ∨ w = 4 ∨ w = 5 ∨ w = 6 ∨ w = 7 ∨ w = 8 ∨ w = 9 ∨ w = 10 ∨ w = 11 ∨ w = 12 ∨ w = 13
      ∨ w = 14 ∨ w = 15 ∨ w = 16 ∨ w = 17 ∨ w = 18 ∨ w = 19 ∨ w = 20 := by
    rcases w with ⟨w, h⟩
    simp only [Fin.ext_iff]
    simp only at hw
    have : w < 21 := hw
    show w = 0 ∨ w = 1 ∨ w = 2 ∨ w = 3 ∨ w = 4 ∨ w = 5 ∨ w = 6 ∨ w = 7 ∨ w = 8 ∨ w = 9 ∨ w = 10 ∨ w = 11 ∨ w = 12 ∨ w = 13
      ∨ w = 14 ∨ w = 15 ∨ w = 16 ∨ w = 17 ∨ w = 18 ∨ w = 19 ∨ w = 20
    omega
  rcases h with h | h | h | h | h | h | h | h | h | h | h | h | h | h | h | h | h | h | h | h | h <;> subst h <;> rfl

/-- The output's window is idle but at the last point. -/
theorem idle_out (t : Fin cfg0.N) : cfg0.idle 21 (grid0.coords t) = !(k0_cond2 (grid0.coords t) == 1#1) := rfl

abbrev scM0 : Memref sig .tc .vmem S128x1536 .bf16 := Memref.whole cc0_scratch0
abbrev scM1 : Memref sig .tc .vmem S512x1536 .bf16 := Memref.whole cc0_scratch1
abbrev scM2 : Memref sig .tc .vmem S512x1536 .bf16 := Memref.whole cc0_scratch2
abbrev scM3 : Memref sig .tc .vmem S32x32x512 .f32 := Memref.whole cc0_scratch3
abbrev scM4 : Memref sig .tc .vmem S32x512 .f32 := Memref.whole cc0_scratch4
abbrev scM5 : Memref sig .tc .vmem S32x32x1536 .f32 := Memref.whole cc0_scratch5
abbrev scM6 : Memref sig .tc .vmem S32x32x512 .f32 := Memref.whole cc0_scratch6
abbrev scM7 : Memref sig .tc .vmem S32x128 .f32 := Memref.whole cc0_scratch7
abbrev ms0 (t : Fin cfg0.N) : Memref sig .tc .vmem S32x512 .bf16 := win0_0.stage (cfg0.slots t 0)
abbrev ms1 (t : Fin cfg0.N) : Memref sig .tc .vmem S32x16x512 .bf16 := win0_1.stage (cfg0.slots t 1)
abbrev ms2 (t : Fin cfg0.N) : Memref sig .tc .vmem S32x16x512 .bf16 := win0_2.stage (cfg0.slots t 2)
abbrev ms3 (t : Fin cfg0.N) : Memref sig .tc .vmem S128x512 .bf16 := win0_3.stage (cfg0.slots t 3)
abbrev ms4 (t : Fin cfg0.N) : Memref sig .tc .vmem S512x1536 .bf16 := win0_4.stage (cfg0.slots t 4)
abbrev ms5 (t : Fin cfg0.N) : Memref sig .tc .vmem S512x1536 .bf16 := win0_5.stage (cfg0.slots t 5)
abbrev ms6 (t : Fin cfg0.N) : Memref sig .tc .vmem S512x1536 .bf16 := win0_6.stage (cfg0.slots t 6)
abbrev ms7 (t : Fin cfg0.N) : Memref sig .tc .vmem S512x512 .bf16 := win0_7.stage (cfg0.slots t 7)
abbrev ms8 (t : Fin cfg0.N) : Memref sig .tc .vmem S512x128 .bf16 := win0_8.stage (cfg0.slots t 8)
abbrev ms9 (t : Fin cfg0.N) : Memref sig .tc .vmem S512x512 .bf16 := win0_9.stage (cfg0.slots t 9)
abbrev ms10 (t : Fin cfg0.N) : Memref sig .tc .vmem S512x512 .bf16 := win0_10.stage (cfg0.slots t 10)
abbrev ms11 (t : Fin cfg0.N) : Memref sig .tc .vmem S1x1536 .f32 := win0_11.stage (cfg0.slots t 11)
abbrev ms12 (t : Fin cfg0.N) : Memref sig .tc .vmem S1x1536 .f32 := win0_12.stage (cfg0.slots t 12)
abbrev ms13 (t : Fin cfg0.N) : Memref sig .tc .vmem S1x128 .f32 := win0_13.stage (cfg0.slots t 13)
abbrev ms14 (t : Fin cfg0.N) : Memref sig .tc .vmem S1x512 .f32 := win0_14.stage (cfg0.slots t 14)
abbrev ms15 (t : Fin cfg0.N) : Memref sig .tc .vmem S1x512 .f32 := win0_15.stage (cfg0.slots t 15)
abbrev ms16 (t : Fin cfg0.N) : Memref sig .tc .vmem S1x32x32 .i32 := win0_16.stage (cfg0.slots t 16)
abbrev ms17 (t : Fin cfg0.N) : Memref sig .tc .vmem S1x32x32 .i32 := win0_17.stage (cfg0.slots t 17)
abbrev ms18 (t : Fin cfg0.N) : Memref sig .tc .vmem S1x32x32 .i32 := win0_18.stage (cfg0.slots t 18)
abbrev ms19 (t : Fin cfg0.N) : Memref sig .tc .vmem S1x32x32 .i32 := win0_19.stage (cfg0.slots t 19)
abbrev ms20 (t : Fin cfg0.N) : Memref sig .tc .vmem S1x32x32 .i32 := win0_20.stage (cfg0.slots t 20)
abbrev ms21 (t : Fin cfg0.N) : Memref sig .tc .vmem S32x128 .f32 := win0_21.stage (cfg0.slots t 21)

/-- What the launch hands the region: each scratch buffer at some contents, and the generator register. -/
theorem PhiA0_eq (c : Dev nD) :
    (Pipeline.ΦA spec0 c : sProp 𝕄) = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

/-- What the first point starts from, and a point's change of what it finds, over the point's blocks. -/
def initAt (c : Dev nD) (t : Fin cfg0.N) : Carry F := Carry.init (iblk m c 0 t) (iblk m c 1 t) (iblk m c 2 t) (iblk m c 3 t) (iblk m c 4 t) (iblk m c 5 t) (iblk m c 7 t) (iblk m c 10 t) (iblk m c 14 t)
def stepAt (c : Dev nD) (t : Fin cfg0.N) (s : Carry F) : Carry F := s.step (iblk m c 6 t) (iblk m c 8 t) (iblk m c 9 t) (iblk m c 11 t) (iblk m c 12 t) (iblk m c 13 t) (iblk m c 15 t) (iblk m c 16 t) (iblk m c 17 t) (iblk m c 18 t) (iblk m c 19 t) (iblk m c 20 t)

/-- What point `n` leaves. -/
def carryAt (c : Dev nD) : (n : ℕ) → n < cfg0.N → Carry F
  | 0, hn => stepAt m c ⟨0, hn⟩ (initAt m c ⟨0, hn⟩)
  | n + 1, hn => stepAt m c ⟨n + 1, hn⟩ (carryAt c n (Nat.lt_of_succ_lt hn))

/-- The scratch and the register between points: before the first, at anything. -/
def PhiS (c : Dev nD) : (n : ℕ) → n ≤ cfg0.N → sProp 𝕄
  | 0, _ => Pipeline.ΦA spec0 c
  | n + 1, hn => iprop(iprop(owns (c : Thread nD τ) scM0 fullShare (carryAt m c n hn).tok ∗ owns (c : Thread nD τ) scM1 fullShare (carryAt m c n hn).sp0 ∗ owns (c : Thread nD τ) scM2 fullShare (carryAt m c n hn).sp1 ∗ owns (c : Thread nD τ) scM3 fullShare (carryAt m c n hn).keys ∗ owns (c : Thread nD τ) scM4 fullShare (carryAt m c n hn).h ∗ (∃ d, owns (c : Thread nD τ) scM5 fullShare d) ∗ (∃ d, owns (c : Thread nD τ) scM6 fullShare d) ∗ owns (c : Thread nD τ) scM7 fullShare (carryAt m c n hn).acc) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (carryAt m c n hn).tok ∗ owns (c : Thread nD τ) scM1 fullShare (carryAt m c n hn).sp0 ∗ owns (c : Thread nD τ) scM2 fullShare (carryAt m c n hn).sp1 ∗ owns (c : Thread nD τ) scM3 fullShare (carryAt m c n hn).keys ∗ owns (c : Thread nD τ) scM4 fullShare (carryAt m c n hn).h ∗ (∃ d, owns (c : Thread nD τ) scM5 fullShare d) ∗ (∃ d, owns (c : Thread nD τ) scM6 fullShare d) ∗ owns (c : Thread nD τ) scM7 fullShare (carryAt m c n hn).acc) ∗ (∃ r, prngReg c r)) := rfl

theorem PhiS_pos (c : Dev nD) (n : ℕ) (h : n ≤ cfg0.N) (hz : n ≠ 0) :
    PhiS m c n h = iprop(iprop(owns (c : Thread nD τ) scM0 fullShare (carryAt m c (n - 1) (by omega)).tok ∗ owns (c : Thread nD τ) scM1 fullShare (carryAt m c (n - 1) (by omega)).sp0 ∗ owns (c : Thread nD τ) scM2 fullShare (carryAt m c (n - 1) (by omega)).sp1 ∗ owns (c : Thread nD τ) scM3 fullShare (carryAt m c (n - 1) (by omega)).keys ∗ owns (c : Thread nD τ) scM4 fullShare (carryAt m c (n - 1) (by omega)).h ∗ (∃ d, owns (c : Thread nD τ) scM5 fullShare d) ∗ (∃ d, owns (c : Thread nD τ) scM6 fullShare d) ∗ owns (c : Thread nD τ) scM7 fullShare (carryAt m c (n - 1) (by omega)).acc) ∗ (∃ r, prngReg c r)) := by
  cases n with
  | zero => exact absurd rfl hz
  | succ n => rfl

theorem carryAt_zero (c : Dev nD) (t : Fin cfg0.N) (h : t.val = 0) : carryAt m c t.val t.isLt = stepAt m c t (initAt m c t) := by
  obtain ⟨n, hn⟩ := t; simp only at h; subst h; rfl

theorem carryAt_pos (c : Dev nD) (t : Fin cfg0.N) (h : t.val ≠ 0) :
    carryAt m c t.val t.isLt = stepAt m c t (carryAt m c (t.val - 1) (Nat.lt_of_le_of_lt (Nat.sub_le _ _) t.isLt)) := by
  obtain ⟨n, hn⟩ := t
  cases n with
  | zero => exact absurd rfl h
  | succ n => rfl

/-- The proof data: each input's buffer at its block, the output's at the accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (carryAt m c t.val t.isLt).acc
    | ⟨n + 22, h⟩ => Pipeline.Dat.unnamed (cfg := cfg0) ⟨n + 22, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = (carryAt m c t.val t.isLt).acc := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem leaves_0 (c : Dev nD) (t : Fin cfg0.N) : (dats m 0 c).leavesExact 0 t = owns (c : Thread nD τ) (ms0 t) fullShare (iblk m c 0 t) := by
  unfold Dat.leavesExact; rw [liveAt 0 (by decide) t, after_0]
theorem leaves_1 (c : Dev nD) (t : Fin cfg0.N) : (dats m 0 c).leavesExact 1 t = owns (c : Thread nD τ) (ms1 t) fullShare (iblk m c 1 t) := by
  unfold Dat.leavesExact; rw [liveAt 1 (by decide) t, after_1]
theorem leaves_2 (c : Dev nD) (t : Fin cfg0.N) : (dats m 0 c).leavesExact 2 t = owns (c : Thread nD τ) (ms2 t) fullShare (iblk m c 2 t) := by
  unfold Dat.leavesExact; rw [liveAt 2 (by decide) t, after_2]
theorem leaves_3 (c : Dev nD) (t : Fin cfg0.N) : (dats m 0 c).leavesExact 3 t = owns (c : Thread nD τ) (ms3 t) fullShare (iblk m c 3 t) := by
  unfold Dat.leavesExact; rw [liveAt 3 (by decide) t, after_3]
theorem leaves_4 (c : Dev nD) (t : Fin cfg0.N) : (dats m 0 c).leavesExact 4 t = owns (c : Thread nD τ) (ms4 t) fullShare (iblk m c 4 t) := by
  unfold Dat.leavesExact; rw [liveAt 4 (by decide) t, after_4]
theorem leaves_5 (c : Dev nD) (t : Fin cfg0.N) : (dats m 0 c).leavesExact 5 t = owns (c : Thread nD τ) (ms5 t) fullShare (iblk m c 5 t) := by
  unfold Dat.leavesExact; rw [liveAt 5 (by decide) t, after_5]
theorem leaves_6 (c : Dev nD) (t : Fin cfg0.N) : (dats m 0 c).leavesExact 6 t = owns (c : Thread nD τ) (ms6 t) fullShare (iblk m c 6 t) := by
  unfold Dat.leavesExact; rw [liveAt 6 (by decide) t, after_6]
theorem leaves_7 (c : Dev nD) (t : Fin cfg0.N) : (dats m 0 c).leavesExact 7 t = owns (c : Thread nD τ) (ms7 t) fullShare (iblk m c 7 t) := by
  unfold Dat.leavesExact; rw [liveAt 7 (by decide) t, after_7]
theorem leaves_8 (c : Dev nD) (t : Fin cfg0.N) : (dats m 0 c).leavesExact 8 t = owns (c : Thread nD τ) (ms8 t) fullShare (iblk m c 8 t) := by
  unfold Dat.leavesExact; rw [liveAt 8 (by decide) t, after_8]
theorem leaves_9 (c : Dev nD) (t : Fin cfg0.N) : (dats m 0 c).leavesExact 9 t = owns (c : Thread nD τ) (ms9 t) fullShare (iblk m c 9 t) := by
  unfold Dat.leavesExact; rw [liveAt 9 (by decide) t, after_9]
theorem leaves_10 (c : Dev nD) (t : Fin cfg0.N) : (dats m 0 c).leavesExact 10 t = owns (c : Thread nD τ) (ms10 t) fullShare (iblk m c 10 t) := by
  unfold Dat.leavesExact; rw [liveAt 10 (by decide) t, after_10]
theorem leaves_11 (c : Dev nD) (t : Fin cfg0.N) : (dats m 0 c).leavesExact 11 t = owns (c : Thread nD τ) (ms11 t) fullShare (iblk m c 11 t) := by
  unfold Dat.leavesExact; rw [liveAt 11 (by decide) t, after_11]
theorem leaves_12 (c : Dev nD) (t : Fin cfg0.N) : (dats m 0 c).leavesExact 12 t = owns (c : Thread nD τ) (ms12 t) fullShare (iblk m c 12 t) := by
  unfold Dat.leavesExact; rw [liveAt 12 (by decide) t, after_12]
theorem leaves_13 (c : Dev nD) (t : Fin cfg0.N) : (dats m 0 c).leavesExact 13 t = owns (c : Thread nD τ) (ms13 t) fullShare (iblk m c 13 t) := by
  unfold Dat.leavesExact; rw [liveAt 13 (by decide) t, after_13]
theorem leaves_14 (c : Dev nD) (t : Fin cfg0.N) : (dats m 0 c).leavesExact 14 t = owns (c : Thread nD τ) (ms14 t) fullShare (iblk m c 14 t) := by
  unfold Dat.leavesExact; rw [liveAt 14 (by decide) t, after_14]
theorem leaves_15 (c : Dev nD) (t : Fin cfg0.N) : (dats m 0 c).leavesExact 15 t = owns (c : Thread nD τ) (ms15 t) fullShare (iblk m c 15 t) := by
  unfold Dat.leavesExact; rw [liveAt 15 (by decide) t, after_15]
theorem leaves_16 (c : Dev nD) (t : Fin cfg0.N) : (dats m 0 c).leavesExact 16 t = owns (c : Thread nD τ) (ms16 t) fullShare (iblk m c 16 t) := by
  unfold Dat.leavesExact; rw [liveAt 16 (by decide) t, after_16]
theorem leaves_17 (c : Dev nD) (t : Fin cfg0.N) : (dats m 0 c).leavesExact 17 t = owns (c : Thread nD τ) (ms17 t) fullShare (iblk m c 17 t) := by
  unfold Dat.leavesExact; rw [liveAt 17 (by decide) t, after_17]
theorem leaves_18 (c : Dev nD) (t : Fin cfg0.N) : (dats m 0 c).leavesExact 18 t = owns (c : Thread nD τ) (ms18 t) fullShare (iblk m c 18 t) := by
  unfold Dat.leavesExact; rw [liveAt 18 (by decide) t, after_18]
theorem leaves_19 (c : Dev nD) (t : Fin cfg0.N) : (dats m 0 c).leavesExact 19 t = owns (c : Thread nD τ) (ms19 t) fullShare (iblk m c 19 t) := by
  unfold Dat.leavesExact; rw [liveAt 19 (by decide) t, after_19]
theorem leaves_20 (c : Dev nD) (t : Fin cfg0.N) : (dats m 0 c).leavesExact 20 t = owns (c : Thread nD τ) (ms20 t) fullShare (iblk m c 20 t) := by
  unfold Dat.leavesExact; rw [liveAt 20 (by decide) t, after_20]

/-- The output's buffer is left alone but at the last point, -/
theorem leaves_idle (c : Dev nD) (t : Fin cfg0.N) (h : ¬t.val % 8 = 7) :
    (dats m 0 c).leavesExact 21 t = iprop(∃ d, owns (c : Thread nD τ) (ms21 t) fullShare ((dats m 0 c).before 21 t d)) := by
  have e1 : cfg0.idle 21 (cfg0.grid.coords t) = true := by
    show cfg0.idle 21 (grid0.coords t) = true
    rw [idle_out, beq_eq_false_iff_ne.2 (fun e => h ((hcond0_1 t).1 e))]; rfl
  have e2 : (cfg0.win 21).flush t = false := by
    rw [Bool.eq_false_iff]; exact fun e => h ((flush0_21 t).1 e)
  unfold Dat.leavesExact; rw [e1, e2]

/-- and there it is left at the accumulator. -/
theorem leaves_last (c : Dev nD) (t : Fin cfg0.N) (h : t.val % 8 = 7) :
    (dats m 0 c).leavesExact 21 t = owns (c : Thread nD τ) (ms21 t) fullShare (carryAt m c t.val t.isLt).acc := by
  have e1 : cfg0.idle 21 (cfg0.grid.coords t) = false := by
    show cfg0.idle 21 (grid0.coords t) = false
    rw [idle_out, beq_iff_eq.2 ((hcond0_1 t).2 h)]; rfl
  unfold Dat.leavesExact; rw [e1, after_21]

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d)) ∗ (∃ d, owns (c : Thread nD τ) (ms16 t) fullShare ((dats m 0 c).before 16 t d)) ∗ (∃ d, owns (c : Thread nD τ) (ms17 t) fullShare ((dats m 0 c).before 17 t d)) ∗ (∃ d, owns (c : Thread nD τ) (ms18 t) fullShare ((dats m 0 c).before 18 t d)) ∗ (∃ d, owns (c : Thread nD τ) (ms19 t) fullShare ((dats m 0 c).before 19 t d)) ∗ (∃ d, owns (c : Thread nD τ) (ms20 t) fullShare ((dats m 0 c).before 20 t d)) ∗ (∃ d, owns (c : Thread nD τ) (ms21 t) fullShare ((dats m 0 c).before 21 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  unfold bodyPre bodyPost bodyAt0
  simp only [before_0, before_1, before_2, before_3, before_4, before_5, before_6, before_7, before_8, before_9, before_10, before_11, before_12, before_13, before_14, before_15, before_16, before_17, before_18, before_19, before_20]
  rw [show (dats m 0 c).owesAt () t.succ = (dats m 0 c).owesAt () t.castSucc from rfl]
  rw [show (dats m 0 c).Φ t.succ = PhiS m c (t.val + 1) t.isLt from rfl, PhiS_succ, PhiS_castSucc]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20]
  by_cases h0 : t.val = 0
  · have h1 : ¬t.val % 8 = 7 := by omega
    rw [leaves_idle m c t h1, PhiS_zero m c _ _ h0, PhiA0_eq, carryAt_zero m c t h0]
    iintro ⟨⟨⟨G0, G1, G2, G3, G4, G5, G6, G7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (run_first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)  ((hcond0_0 t).mpr (by omega)) (fun h => h1 ((hcond0_1 t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [G0]; · iexact G0
    isplitl [G1]; · iexact G1
    isplitl [G2]; · iexact G2
    isplitl [G3]; · iexact G3
    isplitl [G4]; · iexact G4
    isplitl [G7]; · iexact G7
    isplitl [G5]; · iexact G5
    isplitl [G6]; · iexact G6
    iintro ⟨H0, H1, H2, H3, H4, H5, H6, H7, H8, H9, H10, H11, H12, H13, H14, H15, H16, H17, H18, H19, H20, G0, G1, G2, G3, G4, G7, G5, G6⟩
    isplitl [G0 G1 G2 G3 G4 G5 G6 G7 Hg]
    · isplitl [G0 G1 G2 G3 G4 G5 G6 G7]
      · isplitl [G0]; · iexact G0
        isplitl [G1]; · iexact G1
        isplitl [G2]; · iexact G2
        isplitl [G3]; · iexact G3
        isplitl [G4]; · iexact G4
        isplitl [G5]; · iexact G5
        isplitl [G6]; · iexact G6
        iexact G7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexists d21; iexact H21
  · rw [PhiS_pos m c _ _ h0, carryAt_pos m c t h0]
    by_cases h1 : t.val % 8 = 7
    · rw [leaves_last m c t h1, carryAt_pos m c t h0]
      iintro ⟨⟨⟨G0, G1, G2, G3, G4, G5, G6, G7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply (run_last c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (carryAt m c (t.val - 1) (Nat.lt_of_le_of_lt (Nat.sub_le _ _) t.isLt)) (fun h => h0 (by have := (hcond0_0 t).mp h; omega)) ((hcond0_1 t).mpr h1) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [G0]; · iexact G0
      isplitl [G1]; · iexact G1
      isplitl [G2]; · iexact G2
      isplitl [G3]; · iexact G3
      isplitl [G4]; · iexact G4
      isplitl [G7]; · iexact G7
      isplitl [G5]; · iexact G5
      isplitl [G6]; · iexact G6
      isplitl [H21]; · iexists _; iexact H21
      iintro ⟨H0, H1, H2, H3, H4, H5, H6, H7, H8, H9, H10, H11, H12, H13, H14, H15, H16, H17, H18, H19, H20, G0, G1, G2, G3, G4, G7, G5, G6, H21⟩
      isplitl [G0 G1 G2 G3 G4 G5 G6 G7 Hg]
      · isplitl [G0 G1 G2 G3 G4 G5 G6 G7]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact G7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    · rw [leaves_idle m c t h1]
      iintro ⟨⟨⟨G0, G1, G2, G3, G4, G5, G6, G7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply (run_mid c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (carryAt m c (t.val - 1) (Nat.lt_of_le_of_lt (Nat.sub_le _ _) t.isLt)) (fun h => h0 (by have := (hcond0_0 t).mp h; omega)) (fun h => h1 ((hcond0_1 t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [G0]; · iexact G0
      isplitl [G1]; · iexact G1
      isplitl [G2]; · iexact G2
      isplitl [G3]; · iexact G3
      isplitl [G4]; · iexact G4
      isplitl [G7]; · iexact G7
      isplitl [G5]; · iexact G5
      isplitl [G6]; · iexact G6
      iintro ⟨H0, H1, H2, H3, H4, H5, H6, H7, H8, H9, H10, H11, H12, H13, H14, H15, H16, H17, H18, H19, H20, G0, G1, G2, G3, G4, G7, G5, G6⟩
      isplitl [G0 G1 G2 G3 G4 G5 G6 G7 Hg]
      · isplitl [G0 G1 G2 G3 G4 G5 G6 G7]
        · isplitl [G0]; · iexact G0
          isplitl [G1]; · iexact G1
          isplitl [G2]; · iexact G2
          isplitl [G3]; · iexact G3
          isplitl [G4]; · iexact G4
          isplitl [G5]; · iexact G5
          isplitl [G6]; · iexact G6
          iexact G7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexists d21; iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA0_eq]
  iintro ⟨⟨G0, G1, G2, G3, G4, G5, G6, G7⟩, Hg⟩
  isplitl [G0 G1 G2 G3 G4 G5 G6 G7]
  · isplitl [G0]; · iexists _; iexact G0
    isplitl [G1]; · iexists _; iexact G1
    isplitl [G2]; · iexists _; iexact G2
    isplitl [G3]; · iexists _; iexact G3
    isplitl [G4]; · iexists _; iexact G4
    isplitl [G5]; · iexact G5
    isplitl [G6]; · iexact G6
    iexists _; iexact G7
  iexact Hg

set_option backward.isDefEq.respectTransparency.types false in
/-- The run: every array as the proof data has it, every other buffer as the host lines leave it, every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.KernelIdeal.Values.lean ====
/- What one grid point computes, over the extended reals: each of its values read at an index, as the plain sums of
   the mathematics. -/
module

public import proofs.«01_k».proof.Proof.KernelIdeal.Step
public import proofs.«01_k».proof.Proof.Maths.Spec
public import Idealize.ShloMosaic.Lib.Pointwise

@[expose] public section

set_option maxRecDepth 16384

noncomputable section

namespace Cert.KernelIdeal.Hand

open Cert.KernelIdeal.Gen
open Idealize.ShloMosaic
open Cert.Maths (Args tm idx)

variable {A : Args}

/-- An index of a unit-stride rectangle of a rank-three array, placed in the array. -/
theorem emb3 {d0 d1 d2 e0 e1 e2 p q r : ℕ} {off : Fin 3 → ℕ} (hoff : off = ![p, q, r])
    (inb : ∀ a, off a + (⟨3, ![e0, e1, e2]⟩ : Shape).size a ≤ (⟨3, ![d0, d1, d2]⟩ : Shape).size a)
    (a : Fin e0) (b : Fin e1) (c : Fin e2) (ha : p + a.val < d0) (hb : q + b.val < d1) (hc : r + c.val < d2) :
    (Rect.unit (s := ⟨3, ![d0, d1, d2]⟩) off (⟨3, ![e0, e1, e2]⟩ : Shape).size inb).emb (ix3 a b c)
      = ix3 ⟨p + a.val, ha⟩ ⟨q + b.val, hb⟩ ⟨r + c.val, hc⟩ := by
  subst hoff
  funext i
  refine Fin.ext ((ValueKit.rect_emb_unit_val _ _ _ _ i).trans ?_)
  match i with
  | ⟨0, _⟩ => rfl
  | ⟨1, _⟩ => rfl
  | ⟨2, _⟩ => rfl

/-! ## The tables the first point makes -/

theorem tok_at {x4 : Vec Ideal S128x512 .bf16} {x5 : Vec Ideal S512x1536 .bf16} (h4 : ∀ v d, x4 (ix2 v d) = A.emb v d)
    (h5 : ∀ d g, x5 (ix2 d g) = A.wih g ⟨d.val, by omega⟩) (v : Fin 128) (g : Fin 1536) :
    k0_pay1 x4 x5 (ix2 v g) = ∑ d : Fin 512, A.emb v d * A.wih g ⟨d.val, by omega⟩ := by
  pointwise [k0_pay1]
  simp only [h4, h5]

/-- A row number of a scope table: the scope entry and the row of the half batch. -/
def row (s : Fin 32) (b : Fin 16) : Fin 512 := ⟨16 * s.val + b.val, by omega⟩

theorem sp0_at {x2 : Vec Ideal S32x16x512 .bf16} {x6 : Vec Ideal S512x1536 .bf16}
    (h2 : ∀ s b d, x2 (ix3 s b d) = A.sc ⟨b.val, by omega⟩ s d)
    (h6 : ∀ d g, x6 (ix2 d g) = A.wih g ⟨512 + d.val, by omega⟩) (s : Fin 32) (b : Fin 16) (g : Fin 1536) :
    k0_pay4 x2 x6 (ix2 (row s b) g) = ∑ d : Fin 512, A.sc ⟨b.val, by omega⟩ s d * A.wih g ⟨512 + d.val, by omega⟩ := by
  pointwise [k0_pay4, k0_pay2]
  have e1 : (row s b).val / 16 = s.val := by simp only [row]; omega
  have e2 : (row s b).val % 16 = b.val := by simp only [row]; omega
  simp only [e1, e2, Fin.eta, h2, h6]

theorem sp1_at {x3 : Vec Ideal S32x16x512 .bf16} {x6 : Vec Ideal S512x1536 .bf16}
    (h3 : ∀ s b d, x3 (ix3 s b d) = A.sc ⟨16 + b.val, by omega⟩ s d)
    (h6 : ∀ d g, x6 (ix2 d g) = A.wih g ⟨512 + d.val, by omega⟩) (s : Fin 32) (b : Fin 16) (g : Fin 1536) :
    k0_pay5 x3 x6 (ix2 (row s b) g) = ∑ d : Fin 512, A.sc ⟨16 + b.val, by omega⟩ s d * A.wih g ⟨512 + d.val, by omega⟩ := by
  pointwise [k0_pay5, k0_pay3]
  have e1 : (row s b).val / 16 = s.val := by simp only [row]; omega
  have e2 : (row s b).val % 16 = b.val := by simp only [row]; omega
  simp only [e1, e2, Fin.eta, h3, h6]

theorem keysLo_at {x2 : Vec Ideal S32x16x512 .bf16} {x11 : Vec Ideal S512x512 .bf16}
    (h2 : ∀ s b d, x2 (ix3 s b d) = A.sc ⟨b.val, by omega⟩ s d) (h11 : ∀ d e, x11 (ix2 d e) = A.we e d)
    (s : Fin 32) (b : Fin 16) (e : Fin 512) :
    k0_pay7 (k0_pay2 x2) (k0_pay6 x11) (constant S512x512 .f32 0x00000000#32) (ix3 s b e)
      = ∑ d : Fin 512, A.sc ⟨b.val, by omega⟩ s d * A.we e d := by
  pointwise [k0_pay7, k0_pay2, k0_pay6]
  simp only [h2, h11]

theorem keysHi_at {x3 : Vec Ideal S32x16x512 .bf16} {x11 : Vec Ideal S512x512 .bf16}
    (h3 : ∀ s b d, x3 (ix3 s b d) = A.sc ⟨16 + b.val, by omega⟩ s d) (h11 : ∀ d e, x11 (ix2 d e) = A.we e d)
    (s : Fin 32) (b : Fin 16) (e : Fin 512) :
    k0_pay8 (k0_pay3 x3) x11 (ix3 s b e) = ∑ d : Fin 512, A.sc ⟨16 + b.val, by omega⟩ s d * A.we e d := by
  pointwise [k0_pay8, k0_pay3]
  simp only [h3, h11]

/-- The attention keys: row `s`, batch row `b`. -/
theorem keys_at {x2 x3 : Vec Ideal S32x16x512 .bf16} {x11 : Vec Ideal S512x512 .bf16}
    (h2 : ∀ s b d, x2 (ix3 s b d) = A.sc ⟨b.val, by omega⟩ s d)
    (h3 : ∀ s b d, x3 (ix3 s b d) = A.sc ⟨16 + b.val, by omega⟩ s d) (h11 : ∀ d e, x11 (ix2 d e) = A.we e d)
    (s b : Fin 32) (e : Fin 512) : okV x2 x3 x11 (ix3 s b e) = ∑ d : Fin 512, A.sc b s d * A.we e d := by
  refine View.canon_apply_of_pieces (Val := Elt Ideal) (e := .f32) (fun y : S32x32x512.Idx => (∑ d : Fin 512, A.sc (y 1) (y 0) d * A.we (y 2) d : EReal)) (okL x2 x3 x11) ?_ _
    (okL_covers x2 x3 x11 _)
  intro p hp
  simp only [okL, List.mem_cons, List.mem_nil_iff, or_false] at hp
  rcases hp with rfl | rfl
  · intro x
    idx_vars x
    exact (keysHi_at h3 h11 _ _ _).trans (by rw [emb3 rfl (b := x1) (hb := by omega) (ha := by omega) (hc := by omega)]; simp only [Nat.zero_add]; rfl)
  · intro x
    idx_vars x
    exact (keysLo_at h2 h11 _ _ _).trans (by rw [emb3 rfl (b := x1) (hb := by omega) (ha := by omega) (hc := by omega)]; simp only [Nat.zero_add]; rfl)

theorem init_at {x1 : Vec Ideal S32x512 .bf16} {x8 : Vec Ideal S512x512 .bf16} {x15 : Vec Ideal S1x512 .f32}
    (h1 : ∀ b d, x1 (ix2 b d) = A.spec b d) (h8 : ∀ d e, x8 (ix2 d e) = A.wi e d) (h15 : ∀ e, x15 (ix2 0 e) = A.bi e)
    (b : Fin 32) (e : Fin 512) : k0_pay9 x1 x8 x15 (ix2 b e) = Maths.H A b 0 e := by
  pointwise [k0_pay9]
  simp only [h1, h8, h15]
  rfl

/-! ## The input projections -/

/-- The pointer's row of a scope table, or no row where the mask is zero. -/
theorem sum_ptr {p : BitVec 32} (hp : p.toNat < 32) (k : BitVec 1) (b : Fin 16) (f : Fin 512 → EReal) :
    ∑ x : Fin 512, Scalar.select (IntOp.cmpi CmpIPredicate.eq
        (Scalar.select (IntOp.cmpi CmpIPredicate.ne (k.setWidth 32) 0#32)
          (IntOp.addi (IntOp.muli p 16#32) (BitVec.ofNat 32 b.val)) 4294967295#32) (BitVec.ofNat 32 x.val)) (f x) 0
      = if k = 1#1 then f (row (idx 32 p) b) else 0 := by
  have hk : k = 0#1 ∨ k = 1#1 := by revert k; decide
  rcases hk with rfl | rfl
  · exact (Maths.sum_none (by decide) f).trans rfl
  · have hw : (IntOp.addi (IntOp.muli p 16#32) (BitVec.ofNat 32 b.val)).toNat = 16 * p.toNat + b.val := by
      simp only [IntOp.addi, IntOp.muli, BitVec.toNat_add, BitVec.toNat_mul, BitVec.toNat_ofNat]
      omega
    refine (Maths.sum_pick (by decide) (w := IntOp.addi (IntOp.muli p 16#32) (BitVec.ofNat 32 b.val)) (by rw [hw]; omega) f).trans ?_
    rw [if_pos rfl]
    exact congrArg f (Fin.ext (by
      rw [Maths.idx_val (by rw [hw]; omega), hw]
      show _ = 16 * (idx 32 p).val + b.val
      rw [Maths.idx_val hp]))

section Proj

variable (hA : A.Ok) (n : ℕ)
  {x12 : Vec Ideal S1x1536 .f32} {x17 x19 x21 : Vec Ideal S1x32x32 .i32} {tok : Vec Ideal S128x1536 .bf16} {sp0 sp1 : Vec Ideal S512x1536 .bf16}
  (h12 : ∀ g, x12 (ix2 0 g) = A.bih g)
  (h17 : ∀ i b, x17 (ix3 0 i b) = A.ti b (tm (32 * n + i.val)))
  (h19 : ∀ i b, x19 (ix3 0 i b) = A.pi b (tm (32 * n + i.val)))
  (h21 : ∀ i b, x21 (ix3 0 i b) = (A.pm b (tm (32 * n + i.val))).setWidth 32)
  (htok : ∀ v g, tok (ix2 v g) = ∑ d : Fin 512, A.emb v d * A.wih g ⟨d.val, by omega⟩)
  (hsp0 : ∀ s b g, sp0 (ix2 (row s b) g) = ∑ d : Fin 512, A.sc ⟨b.val, by omega⟩ s d * A.wih g ⟨512 + d.val, by omega⟩)
  (hsp1 : ∀ s b g, sp1 (ix2 (row s b) g) = ∑ d : Fin 512, A.sc ⟨16 + b.val, by omega⟩ s d * A.wih g ⟨512 + d.val, by omega⟩)

include hA h12 h17 h19 h21 htok hsp0 in
theorem xpLo_at (i : Fin 32) (b : Fin 16) (g : Fin 1536) :
    xpLo x12 x17 x19 x21 tok sp0 (ix3 i b g) = Maths.X A ⟨b.val, by omega⟩ (tm (32 * n + i.val)) g := by
  pointwise [xpLo, k0_pay16, k0_pay14, k0_pay15, k0_pay11, k0_pay12, k0_pay13]
  simp only [h12, h17, h19, h21]
  rw [Maths.sum_pick (by decide) (hA.ti _ _), sum_ptr (hA.pi _ _)]
  simp only [htok, hsp0]
  rfl

include hA h12 h17 h19 h21 htok hsp1 in
theorem xpHi_at (i : Fin 32) (b : Fin 16) (g : Fin 1536) :
    xpHi x12 x17 x19 x21 tok sp1 (ix3 i b g) = Maths.X A ⟨16 + b.val, by omega⟩ (tm (32 * n + i.val)) g := by
  pointwise [xpHi, k0_pay19, k0_pay17, k0_pay18, k0_pay11, k0_pay12, k0_pay13]
  simp only [h12, h17, h19, h21]
  rw [Maths.sum_pick (by decide) (hA.ti _ _), sum_ptr (hA.pi _ _)]
  simp only [htok, hsp1]
  rfl

include hA h12 h17 h19 h21 htok hsp0 hsp1 in
theorem xp_at (i b : Fin 32) (g : Fin 1536) :
    xpV x12 x17 x19 x21 tok sp0 sp1 (ix3 i b g) = Maths.X A b (tm (32 * n + i.val)) g := by
  refine View.canon_apply_of_pieces (Val := Elt Ideal) (e := .f32) (fun y : S32x32x1536.Idx => (Maths.X A (y 1) (tm (32 * n + (y 0).val)) (y 2) : EReal))
    (xpL x12 x17 x19 x21 tok sp0 sp1) ?_ _ (halvesX_covers _ _ _)
  intro p hp
  simp only [xpL, List.mem_cons, List.mem_nil_iff, or_false] at hp
  rcases hp with rfl | rfl
  · intro x
    idx_vars x
    exact (xpHi_at hA n h12 h17 h19 h21 htok hsp1 _ _ _).trans (by
      rw [emb3 rfl (b := x1) (hb := by omega) (ha := by omega) (hc := by omega)]; simp only [Nat.zero_add]; rfl)
  · intro x
    idx_vars x
    exact (xpLo_at hA n h12 h17 h19 h21 htok hsp0 _ _ _).trans (by
      rw [emb3 rfl (b := x1) (hb := by omega) (ha := by omega) (hc := by omega)]; simp only [Nat.zero_add]; rfl)

end Proj

/-! ## The states -/

theorem pay20_at (X : Vec Ideal S1x32x1536 .f32) (h : Vec Ideal S32x512 .f32) (w : Vec Ideal S512x1536 .bf16) (bb : Vec Ideal S1x1536 .f32)
    (b : Fin 32) (j : Fin 512) :
    k0_pay20 X h w bb (ix2 b j) = Maths.cell (fun g => X (ix3 0 b g))
      (fun g => (∑ d : Fin 512, h (ix2 b d) * w (ix2 d g) : EReal) + bb (ix2 0 g)) (fun j => h (ix2 b j)) j := by
  pointwise [k0_pay20]
  rfl

section States

variable (n : ℕ) {x7 : Vec Ideal S512x1536 .bf16} {x13 : Vec Ideal S1x1536 .f32} {X : Vec Ideal S32x32x1536 .f32} {h : Vec Ideal S32x512 .f32}
  (h7 : ∀ d g, x7 (ix2 d g) = A.whh g d) (h13 : ∀ g, x13 (ix2 0 g) = A.bhh g)
  (hX : ∀ i b g, X (ix3 i b g) = Maths.X A b (tm (32 * n + i.val)) g)
  (hh : ∀ b j, h (ix2 b j) = Maths.H A b (32 * n) j)

include h7 h13 hX in
theorem step_at {k : ℕ} (hk : k < k0_t1_loop.trips) {h' : Vec Ideal S32x512 .f32} (hh' : ∀ b j, h' (ix2 b j) = Maths.H A b (32 * n + k) j) (b : Fin 32) (j : Fin 512) :
    k0_pay20 (View.ld X (rowX ⟨k, hk⟩)) h' x7 x13 (ix2 b j) = Maths.H A b (32 * n + k + 1) j := by
  rw [pay20_at]
  have hrow : ∀ g, View.ld X (rowX ⟨k, hk⟩) (ix3 0 b g) = Maths.X A b (tm (32 * n + k)) g := fun g => by
    refine Eq.trans ?_ (hX ⟨k, by rw [trips_eq] at hk; exact hk⟩ b g)
    refine congrArg X ((emb3 (off := k0_off1 ⟨k, hk⟩) (k0_off1_eq _) _ 0 b g (by rw [trips_eq] at hk; exact hk) (by omega) (by omega)).trans ?_)
    simp only [Nat.zero_add]
    rfl
  simp only [hrow, hh', h7, h13]
  rfl

include h7 h13 hX hh in
theorem hV_at (k : ℕ) (hk : k ≤ k0_t1_loop.trips) (b : Fin 32) (j : Fin 512) : hV x7 x13 X h k (ix2 b j) = Maths.H A b (32 * n + k) j := by
  induction k generalizing b j with
  | zero => exact hh b j
  | succ k ih =>
    unfold hV
    rw [dif_pos (show k < k0_t1_loop.trips from hk)]
    pointwise [k0_pay21]
    exact step_at n h7 h13 hX hk (ih (by omega)) b j

include h7 h13 hX hh in
theorem oV_at (i b : Fin 32) (j : Fin 512) : oV x7 x13 X h (ix3 i b j) = Maths.H A b (32 * n + i.val + 1) j := by
  refine View.canon_apply_of_pieces (Val := Elt Ideal) (e := .f32) (fun y : S32x32x512.Idx => (Maths.H A (y 1) (32 * n + (y 0).val + 1) (y 2) : EReal))
    (oL x7 x13 X h k0_t1_loop.trips) ?_ _ (oL_covers x7 x13 X h _ le_rfl _ (by rw [trips_eq]; exact i.isLt))
  have key : ∀ k, k ≤ k0_t1_loop.trips → ∀ p ∈ oL x7 x13 X h k, ∀ x : p.1.shape.Idx,
      p.2 x = (Maths.H A (p.1.emb x 1) (32 * n + (p.1.emb x 0).val + 1) (p.1.emb x 2) : EReal) := by
    intro k
    induction k with
    | zero => intro _ p hp; cases hp
    | succ k ih =>
      intro hk p hp
      unfold oL at hp
      rw [dif_pos (show k < k0_t1_loop.trips from hk)] at hp
      rcases List.mem_cons.1 hp with rfl | hp
      · intro x
        idx_vars x
        pointwise [k0_pay22]
        refine (step_at n h7 h13 hX hk (hV_at n h7 h13 hX hh k (by omega)) _ _).trans ?_
        rw [emb3 (k0_off2_eq _) (b := x1) (ha := by rw [trips_eq] at hk; have := x0.isLt; show k + x0.val < 32; omega) (hb := by omega) (hc := by omega)]
        obtain rfl : x0 = 0 := Subsingleton.elim _ _
        simp only [Nat.zero_add]
        rfl
      · exact ih (by omega) p hp
  exact key _ le_rfl

end States

end Cert.KernelIdeal.Hand

end
-- ==== Proof.KernelIdeal.Scores.lean ====
/- The block's log-probabilities, over the extended reals: the token's and the pointer's, read at an index, and what
   they add to the accumulator. -/
module

public import proofs.«01_k».proof.Proof.KernelIdeal.Values

@[expose] public section

set_option maxRecDepth 16384

noncomputable section

namespace Cert.KernelIdeal.Hand

open Cert.KernelIdeal.Gen
open Idealize.ShloMosaic
open Cert.Maths (Args tm idx)

variable {A : Args}

/-- The printed starting value of a maximum is below every value. -/
theorem low_eq : Ideal.ofBits FTy.f32 4286578688#32 = ⊥ := by
  simp [Ideal.ofBits, Ideal.ieee]

/-- A row of the flattened block: the time and the batch row. -/
def flat (i b : Fin 32) : Fin 1024 := ⟨i.val * 32 + b.val, by omega⟩

theorem flat_mk (i b : Fin 32) (h : i.val * 32 + b.val < 1024) : (⟨i.val * 32 + b.val, h⟩ : Fin 1024) = flat i b := rfl
theorem flat_div (i b : Fin 32) : (flat i b).val / 32 = i.val := by simp only [flat]; omega
theorem flat_mod (i b : Fin 32) : (flat i b).val % 32 = b.val := by simp only [flat]; omega

/-- A sum that keeps the term the word numbers, or none where the mask is zero. -/
theorem sum_sel {w : BitVec 32} (hw : w.toNat < 32) (k : BitVec 1) (f : Fin 32 → EReal) :
    ∑ x : Fin 32, Scalar.select (IntOp.cmpi CmpIPredicate.eq
        (Scalar.select (IntOp.cmpi CmpIPredicate.ne (k.setWidth 32) 0#32) w 4294967295#32) (BitVec.ofNat 32 x.val)) (f x) 0
      = if k = 1#1 then f (idx 32 w) else 0 := by
  have hk : k = 0#1 ∨ k = 1#1 := by revert k; decide
  rcases hk with rfl | rfl
  · exact (Maths.sum_none (by decide) f).trans rfl
  · exact (Maths.sum_pick (by decide) hw f).trans rfl

section Block

variable (hA : A.Ok) (n : ℕ)
  {x9 : Vec Ideal S512x128 .bf16} {x10 : Vec Ideal S512x512 .bf16} {x14 : Vec Ideal S1x128 .f32} {x16 : Vec Ideal S1x512 .f32}
  {x18 x20 x21 : Vec Ideal S1x32x32 .i32} {ok o : Vec Ideal S32x32x512 .f32}
  (h9 : ∀ d v, x9 (ix2 d v) = A.wo v d) (h10 : ∀ d e, x10 (ix2 d e) = A.wd e d)
  (h14 : ∀ v, x14 (ix2 0 v) = A.bo v) (h16 : ∀ e, x16 (ix2 0 e) = A.va e)
  (h18 : ∀ i b, x18 (ix3 0 i b) = A.tt b (tm (32 * n + i.val)))
  (h20 : ∀ i b, x20 (ix3 0 i b) = A.pt b (tm (32 * n + i.val)))
  (h21 : ∀ i b, x21 (ix3 0 i b) = (A.pm b (tm (32 * n + i.val))).setWidth 32)
  (hok : ∀ s b e, ok (ix3 s b e) = ∑ d : Fin 512, A.sc b s d * A.we e d)
  (ho : ∀ i b j, o (ix3 i b j) = Maths.H A b (32 * n + i.val + 1) j)

include ho in
theorem flat_at (i b : Fin 32) (d : Fin 512) : k0_pay23 o (ix2 (flat i b) d) = Maths.H A b (32 * n + i.val + 1) d := by
  pointwise [k0_pay23]
  simp only [flat_div, flat_mod, Fin.eta, ho]

include h9 h14 ho in
theorem logit_at (i b : Fin 32) (v : Fin 128) :
    k0_pay24 o x9 x14 (ix2 (flat i b) v) = Maths.tokOf A (Maths.H A b (32 * n + i.val + 1)) v := by
  pointwise [k0_pay24]
  simp only [flat_at n ho, h9, h14]
  rfl

include h9 h14 ho in
theorem max_at (i b : Fin 32) :
    k0_pay25 o x9 x14 (ix2 (flat i b) 0) = Maths.mx (Maths.tokOf A (Maths.H A b (32 * n + i.val + 1))) := by
  pointwise [k0_pay25]
  simp only [logit_at n h9 h14 ho, low_eq]
  rfl

include h9 h14 ho in
theorem lse_at (i b : Fin 32) :
    k0_pay26 o x9 x14 (ix2 (flat i b) 0) = Maths.lse (Maths.tokOf A (Maths.H A b (32 * n + i.val + 1))) := by
  pointwise [k0_pay26]
  simp only [logit_at n h9 h14 ho, max_at n h9 h14 ho]
  rfl

include hA h9 h14 h18 ho in
/-- The token's log-probability. -/
theorem token_at (i b : Fin 32) :
    k0_pay27 (k0_pay24 o x9 x14) (k0_pay25 o x9 x14) (k0_pay26 o x9 x14) x18 (ix3 i b 0)
      = Maths.lsm (Maths.tokOf A (Maths.H A b (32 * n + i.val + 1))) (idx 128 (A.tt b (tm (32 * n + i.val)))) := by
  pointwise [k0_pay27]
  simp only [flat_mk, logit_at n h9 h14 ho, max_at n h9 h14 ho, lse_at n h9 h14 ho, h18]
  rw [Maths.sum_pick (by decide) (hA.tt _ _)]
  exact Maths.lsm_eq (Maths.tok_fin hA b _) _

include h10 h16 hok ho in
/-- One column of attention scores. -/
theorem col_at (s i b : Fin 32) (hs : ∀ a, (![s.val, 0, 0] : Fin 3 → ℕ) a + S1x32x512.size a ≤ S32x32x512.size a) :
    colV (k0_pay28 (k0_pay23 o) x10) (k0_pay29 x16) ok s.val hs (ix3 i b 0)
      = Maths.attOf A b (Maths.H A b (32 * n + i.val + 1)) s := by
  pointwise [colV, k0_pay33, k0_pay28, k0_pay29]
  simp only [flat_mk, flat_at n ho, h10, h16, hok]
  rfl

theorem rowK_inb (s : Fin 32) (a : Fin 3) : (![s.val, 0, 0] : Fin 3 → ℕ) a + S1x32x512.size a ≤ S32x32x512.size a := by
  match a with
  | ⟨0, _⟩ => show s.val + 1 ≤ 32; omega
  | ⟨1, _⟩ => show 0 + 32 ≤ 32; omega
  | ⟨2, _⟩ => show 0 + 512 ≤ 512; omega

include hA h9 h10 h14 h16 h18 h20 h21 hok ho in
/-- The accumulator after the block. -/
theorem acc_at (a : Vec Ideal S32x128 .f32) (b : Fin 32) (l : Fin 128) :
    accV x9 x10 x14 x16 x18 x20 x21 ok o a (ix2 b l)
      = (a (ix2 b l) : EReal) + ∑ i : Fin 32,
          (Maths.lsm (Maths.tokOf A (Maths.H A b (32 * n + i.val + 1))) (idx 128 (A.tt b (tm (32 * n + i.val))))
            + if A.pm b (tm (32 * n + i.val)) = 1#1 then
                Maths.lsm (Maths.attOf A b (Maths.H A b (32 * n + i.val + 1))) (idx 32 (A.pt b (tm (32 * n + i.val)))) else 0) := by
  unfold accV accR k0_pay67
  generalize hc : concatenate S32x32x32 2 _ _ = sc
  have hsc : ∀ i b s, sc (ix3 i b s) = Maths.attOf A b (Maths.H A b (32 * n + i.val + 1)) s := fun i b s => by
    rw [← hc]
    exact (concatenate_ofFn_unit_apply' (t := S32x32x32) (s₁ := S32x32x1) 2
      (fun s : Fin 32 => colV (k0_pay28 (k0_pay23 o) x10) (k0_pay29 x16) ok s.val (rowK_inb s)) (show Shape.Concatenates (List.replicate 32 S32x32x1) S32x32x32 2 by decide) rfl (ix3 i b s)).trans
      (col_at n h10 h16 hok ho s i b _)
  pointwise [k0_pay13]
  simp only [token_at hA n h9 h14 h18 ho, hsc, h20, h21, low_eq]
  refine congrArg (fun z : EReal => (a (ix2 b l) : EReal) + z) (Finset.sum_congr rfl fun i _ => ?_)
  congr 1
  rw [sum_sel (hA.pt _ _), sum_sel (hA.pt _ _) _ fun _ => 1]
  split
  · rw [mul_one]
    exact Maths.lsm_eq (Maths.att_fin hA b _) _
  · rw [mul_zero, sub_zero]

end Block

end Cert.KernelIdeal.Hand

end
-- ==== Proof.KernelIdeal.Result.lean ====
/- What the kernel's run leaves: each row's result, and the arguments as they were. -/
module

public import proofs.«01_k».proof.Proof.KernelIdeal.Launch
public import proofs.«01_k».proof.Proof.KernelIdeal.Scores
public import proofs.«01_k».proof.Proof.KernelIdeal.Blocks
public import proofs.«01_k».proof.Defs

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Maths (Args tm idx)

/-- One time's share of a row's result. -/
def share (A : Args) (b : Fin 32) (k : ℕ) : EReal :=
  Maths.lsm (Maths.tokOf A (Maths.H A b (k + 1))) (idx 128 (A.tt b (tm k)))
    + if A.pm b (tm k) = 1#1 then Maths.lsm (Maths.attOf A b (Maths.H A b (k + 1))) (idx 32 (A.pt b (tm k))) else 0

theorem share_sum (A : Args) (b : Fin 32) : ∑ k ∈ Finset.range 256, share A b k = Maths.R A b := by
  rw [Finset.sum_range]
  unfold Maths.R
  rw [← Finset.sum_add_distrib]
  refine Finset.sum_congr rfl fun t _ => ?_
  have e : tm t.val = t := Fin.ext (Nat.mod_eq_of_lt t.isLt)
  simp only [share, Maths.tokLL, Maths.ptrLL, e]

/-- What is carried into block `n`: the tables, the state, and the shares of the times before it. -/
structure Carries (A : Args) (n : ℕ) (s : Carry Ideal) : Prop where
  tok : ∀ v g, s.tok (ix2 v g) = ∑ d : Fin 512, A.emb v d * A.wih g ⟨d.val, by omega⟩
  sp0 : ∀ k b g, s.sp0 (ix2 (row k b) g) = ∑ d : Fin 512, A.sc ⟨b.val, by omega⟩ k d * A.wih g ⟨512 + d.val, by omega⟩
  sp1 : ∀ k b g, s.sp1 (ix2 (row k b) g) = ∑ d : Fin 512, A.sc ⟨16 + b.val, by omega⟩ k d * A.wih g ⟨512 + d.val, by omega⟩
  keys : ∀ k b e, s.keys (ix3 k b e) = ∑ d : Fin 512, A.sc b k d * A.we e d
  h : ∀ b j, s.h (ix2 b j) = Maths.H A b (32 * n) j
  acc : ∀ b l, s.acc (ix2 b l) = (∑ k ∈ Finset.range (32 * n), share A b k : EReal)

theorem init_carries {A : Args} {x1 : Vec Ideal S32x512 .bf16} {x2 x3 : Vec Ideal S32x16x512 .bf16} {x4 : Vec Ideal S128x512 .bf16}
    {x5 x6 : Vec Ideal S512x1536 .bf16} {x8 x11 : Vec Ideal S512x512 .bf16} {x15 : Vec Ideal S1x512 .f32}
    (h1 : ∀ b d, x1 (ix2 b d) = A.spec b d) (h2 : ∀ s b d, x2 (ix3 s b d) = A.sc ⟨b.val, by omega⟩ s d)
    (h3 : ∀ s b d, x3 (ix3 s b d) = A.sc ⟨16 + b.val, by omega⟩ s d) (h4 : ∀ v d, x4 (ix2 v d) = A.emb v d)
    (h5 : ∀ d g, x5 (ix2 d g) = A.wih g ⟨d.val, by omega⟩) (h6 : ∀ d g, x6 (ix2 d g) = A.wih g ⟨512 + d.val, by omega⟩)
    (h8 : ∀ d e, x8 (ix2 d e) = A.wi e d) (h11 : ∀ d e, x11 (ix2 d e) = A.we e d) (h15 : ∀ e, x15 (ix2 0 e) = A.bi e) :
    Carries A 0 (Carry.init x1 x2 x3 x4 x5 x6 x8 x11 x15) := by
  refine ⟨?_, ?_, ?_, ?_, ?_, ?_⟩
  · dsimp only [Carry.init]
    exact tok_at h4 h5
  · dsimp only [Carry.init]
    exact sp0_at h2 h6
  · dsimp only [Carry.init]
    exact sp1_at h3 h6
  · intro k b e
    dsimp only [Carry.init]
    exact keys_at h2 h3 h11 k b e
  · intro b e
    dsimp only [Carry.init]
    exact init_at h1 h8 h15 b e
  · intro b l
    rw [Nat.mul_zero, Finset.sum_range_zero]
    show k0_pay10 (F := Ideal) (ix2 b l) = _
    pointwise [k0_pay10]

variable (m : (ℓ : Loc nD τ sig) → Buf (Elt Ideal) ℓ) (c : Dev nD)

theorem initAt_carries (t : Fin cfg0.N) : Carries (args m c) 0 (initAt m c t) :=
  init_carries (blk0 m c t) (blk1 m c t) (blk2 m c t) (blk3 m c t) (blk4 m c t) (blk5 m c t) (blk7 m c t) (blk10 m c t) (blk14 m c t)

variable {m c}

theorem stepAt_carries (hA : (args m c).Ok) (t : Fin cfg0.N) {s : Carry Ideal} (hs : Carries (args m c) t.val s) :
    Carries (args m c) (t.val + 1) (stepAt m c t s) := by
  have hX := xp_at hA t.val (blk11 m c t) (blk16 m c t) (blk18 m c t) (blk20 m c t) hs.tok hs.sp0 hs.sp1
  have hO := oV_at t.val (blk6 m c t) (blk12 m c t) hX hs.h
  refine ⟨hs.tok, hs.sp0, hs.sp1, hs.keys, fun b j => ?_, fun b l => ?_⟩
  · refine (hV_at t.val (blk6 m c t) (blk12 m c t) hX hs.h k0_t1_loop.trips le_rfl b j).trans ?_
    rw [trips_eq, Nat.mul_succ]
  · refine (acc_at hA t.val (blk8 m c t) (blk9 m c t) (blk13 m c t) (blk15 m c t) (blk17 m c t) (blk19 m c t) (blk20 m c t)
      hs.keys hO s.acc b l).trans ?_
    rw [Nat.mul_succ, Finset.sum_range_add, hs.acc, Finset.sum_range (n := 32)]
    rfl

theorem carryAt_carries (hA : (args m c).Ok) : ∀ (n : ℕ) (hn : n < cfg0.N), Carries (args m c) (n + 1) (carryAt m c n hn)
  | 0, hn => stepAt_carries hA ⟨0, hn⟩ (initAt_carries m c _)
  | n + 1, hn => stepAt_carries hA ⟨n + 1, hn⟩ (carryAt_carries hA n (Nat.lt_of_succ_lt hn))

/-- The output array after the last block. -/
theorem out_at (hA : (args m c).Ok) : (dats m 0 c).arrAt 21 cfg0.N = fun j : S32x128.Idx => (Maths.R (args m c) (j 0) : EReal) := by
  refine (dats m 0 c).arrAt_eq_of_after_last 21 ⟨7, by decide⟩ (by decide +kernel) _ fun j => ?_
  rw [after_21]
  refine ((carryAt_carries hA 7 (by decide)).acc (j 0) (j 1)).trans ?_
  exact share_sum _ _

/-- The host's slice of it. -/
theorem tail_at (hA : (args m c).Ok) : Pipeline.afterTail₀ cfgs (dats m) 0 (V0 m) [hostOps1] c main_v42
    = fun j : S32.Idx => (Maths.R (args m c) (j 0) : EReal) := by
  funext j
  idx_vars j
  unfold Pipeline.afterTail₀
  after_reads_at
  rw [show Pipeline.withArrays (cfgs 0).spec c (V0 m c) (fun w => (dats m 0 c).arrAt w (cfgs 0).N) (Proc.devRef .tc main_v40) = _ from
    Pipeline.withArrays_arr spec0 launch0.win.arr_inj c (V0 m c) (fun w => (dats m 0 c).arrAt w cfg0.N) 21, out_at hA]
  rfl

/-- The kernel's run: each row's result, and the arguments unchanged. -/
theorem run_result (ρ : Dev nD → PrngReg) (hA : ∀ c, (args m c).Ok) :
    θ_run defs (onTc (τ := τ) (main (F := Ideal))) (s₀ m ρ) (fun r => ∀ c : Dev nD,
      r.2.mem ((c.tc : Thread nD τ).loc main_v42) = fun j : S32.Idx => (Maths.R (args m c) (j 0) : EReal)) :=
  (θ_run defs _ _).mono (fun _ h c => ((h.1.rest_eq c main_v42 (Pipeline.mem_restRefs_of main_v42 (by decide) (by decide))).trans (tail_at (hA c))))
    (run_main_quiescent m ρ)

end Cert.KernelIdeal.Hand

end
-- ==== Proof.KernelIdeal.Frame.lean ====
/- The frame: the arguments end unchanged and every counter at zero. -/
module

public import proofs.«01_k».proof.Proof.KernelIdeal.Launch
public import proofs.«01_k».proof.Defs

@[expose] public section

noncomputable section

namespace Cert.KernelIdeal.Hand

open Idealize.ShloMosaic Idealize.ShloMosaic.TcCoe Idealize.SL.Sem
open Cert.KernelIdeal Cert.KernelIdeal.Gen

theorem quiescent : Cert.quiescent_KernelIdeal (hKernelIdeal := facts) := fun m ρ _ =>
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.Reference.Ops.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference program as stretches of host operations around one counted loop: the lists of operations, in the
    program's order, and the program as the chain of these lists. -/

@[expose] public section

set_option maxRecDepth 1384

noncomputable section

namespace Cert.ReferenceIdeal.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 25 host operations of @main, in order. -/
abbrev hostOps0 : List (HloOp τ sig (Elt F)) :=
  [ StableHlo.unary main_arg3 main_v0 ((transpose S512x512 [1, 0] · transposes_S512x512_S512x512_1_0) : (⟨S512x512, .f32⟩ : BufTy).Contents (Elt F) → (⟨S512x512, .f32⟩ : BufTy).Contents (Elt F)),
    StableHlo.binary main_arg2 main_v0 main_v1 ((fun l r => Host.dotGeneral dot_S32x512_S512x512_S32x512_1_0_0_1_n_n none l r) : (⟨S32x512, .f32⟩ : BufTy).Contents (Elt F) → (⟨S512x512, .f32⟩ : BufTy).Contents (Elt F) → (⟨S32x512, .f32⟩ : BufTy).Contents (Elt F)),
    StableHlo.unary main_arg4 main_v2 (broadcastInDim S1x512 ![1] bcast_S512_S1x512_1 : (⟨S512, .f32⟩ : BufTy).Contents (Elt F) → (⟨S1x512, .f32⟩ : BufTy).Contents (Elt F)),
    StableHlo.unary main_v2 main_v3 (broadcastInDim S32x512 ![0, 1] bcast_S1x512_S32x512_0_1 : (⟨S1x512, .f32⟩ : BufTy).Contents (Elt F) → (⟨S32x512, .f32⟩ : BufTy).Contents (Elt F)),
    StableHlo.binary main_v1 main_v3 main_v4 (addf : (⟨S32x512, .f32⟩ : BufTy).Contents (Elt F) → (⟨S32x512, .f32⟩ : BufTy).Contents (Elt F) → (⟨S32x512, .f32⟩ : BufTy).Contents (Elt F)),
    StableHlo.nullary main_c (constantI S_ 32 0#32),
    StableHlo.unary main_c main_v5 (broadcastInDim S32x256 ![] bcast_S_S32x256 : (⟨S_, .i32⟩ : BufTy).Contents (Elt F) → (⟨S32x256, .i32⟩ : BufTy).Contents (Elt F)),
    StableHlo.binary main_arg14 main_v5 main_v6 (cmpi .slt : (⟨S32x256, .i32⟩ : BufTy).Contents (Elt F) → (⟨S32x256, .i32⟩ : BufTy).Contents (Elt F) → (⟨S32x256, .i1⟩ : BufTy).Contents (Elt F)),
    StableHlo.nullary main_c_0 (constantI S_ 32 128#32),
    StableHlo.unary main_c_0 main_v7 (broadcastInDim S32x256 ![] bcast_S_S32x256 : (⟨S_, .i32⟩ : BufTy).Contents (Elt F) → (⟨S32x256, .i32⟩ : BufTy).Contents (Elt F)),
    StableHlo.binary main_arg14 main_v7 main_v8 (addi : (⟨S32x256, .i32⟩ : BufTy).Contents (Elt F) → (⟨S32x256, .i32⟩ : BufTy).Contents (Elt F) → (⟨S32x256, .i32⟩ : BufTy).Contents (Elt F)),
    StableHlo.ternary main_v6 main_v8 main_arg14 main_v9 (select : (⟨S32x256, .i1⟩ : BufTy).Contents (Elt F) → (⟨S32x256, .i32⟩ : BufTy).Contents (Elt F) → (⟨S32x256, .i32⟩ : BufTy).Contents (Elt F) → (⟨S32x256, .i32⟩ : BufTy).Contents (Elt F)),
    StableHlo.unary main_v9 main_v10 (broadcastInDim S32x256x1 ![0, 1] bcast_S32x256_S32x256x1_0_1 : (⟨S32x256, .i32⟩ : BufTy).Contents (Elt F) → (⟨S32x256x1, .i32⟩ : BufTy).Contents (Elt F)),
    StableHlo.binary main_arg0 main_v10 main_v11 ((fun x i => Host.gather gather_S128x512_S32x256x1_S32x256x512_2_0_n_n_0_2_1512 x i) : (⟨S128x512, .f32⟩ : BufTy).Contents (Elt F) → (⟨S32x256x1, .i32⟩ : BufTy).Contents (Elt F) → (⟨S32x256x512, .f32⟩ : BufTy).Contents (Elt F)),
    StableHlo.nullary main_c_1 (constantI S_ 32 0#32),
    StableHlo.unary main_c_1 main_v12 (broadcastInDim S32x256 ![] bcast_S_S32x256 : (⟨S_, .i32⟩ : BufTy).Contents (Elt F) → (⟨S32x256, .i32⟩ : BufTy).Contents (Elt F)),
    StableHlo.binary main_arg16 main_v12 main_v13 (cmpi .slt : (⟨S32x256, .i32⟩ : BufTy).Contents (Elt F) → (⟨S32x256, .i32⟩ : BufTy).Contents (Elt F) → (⟨S32x256, .i1⟩ : BufTy).Contents (Elt F)),
    StableHlo.nullary main_c_2 (constantI S_ 32 32#32),
    StableHlo.unary main_c_2 main_v14 (broadcastInDim S32x256 ![] bcast_S_S32x256 : (⟨S_, .i32⟩ : BufTy).Contents (Elt F) → (⟨S32x256, .i32⟩ : BufTy).Contents (Elt F)),
    StableHlo.binary main_arg16 main_v14 main_v15 (addi : (⟨S32x256, .i32⟩ : BufTy).Contents (Elt F) → (⟨S32x256, .i32⟩ : BufTy).Contents (Elt F) → (⟨S32x256, .i32⟩ : BufTy).Contents (Elt F)),
    StableHlo.ternary main_v13 main_v15 main_arg16 main_v16 (select : (⟨S32x256, .i1⟩ : BufTy).Contents (Elt F) → (⟨S32x256, .i32⟩ : BufTy).Contents (Elt F) → (⟨S32x256, .i32⟩ : BufTy).Contents (Elt F) → (⟨S32x256, .i32⟩ : BufTy).Contents (Elt F)),
    StableHlo.unary main_v16 main_v17 (broadcastInDim S32x256x1 ![0, 1] bcast_S32x256_S32x256x1_0_1 : (⟨S32x256, .i32⟩ : BufTy).Contents (Elt F) → (⟨S32x256x1, .i32⟩ : BufTy).Contents (Elt F)),
    StableHlo.binary main_arg1 main_v17 main_v18 ((fun x i => Host.gather gather_S32x32x512_S32x256x1_S32x256x512_2_1_0_0_1_2_11512 x i) : (⟨S32x32x512, .f32⟩ : BufTy).Contents (Elt F) → (⟨S32x256x1, .i32⟩ : BufTy).Contents (Elt F) → (⟨S32x256x512, .f32⟩ : BufTy).Contents (Elt F)),
    StableHlo.unary main_arg18 main_v19 (broadcastInDim S32x256x1 ![0, 1] bcast_S32x256_S32x256x1_0_1 : (⟨S32x256, .i1⟩ : BufTy).Contents (Elt F) → (⟨S32x256x1, .i1⟩ : BufTy).Contents (Elt F)),
    StableHlo.nullary main_cst (constant S_ .f32 0x00000000#32) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub ..⟩
/-- 4 host operations of @_where (main_call0), in order. -/
abbrev hostOps0_1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_v19 : StableHlo.TRef sig ⟨S32x256x1, .i1⟩) (.of main_call0_v1 : StableHlo.TRef sig ⟨S32x256x512, .i1⟩) (broadcastInDim S32x256x512 ![0, 1, 2] bcast_S32x256x1_S32x256x512_0_1_2),
    StableHlo.TRef.unary (.of main_call0_v0 : StableHlo.TRef sig ⟨S_, .f32⟩) (.of main_call0_v2 : StableHlo.TRef sig ⟨S32x256x512, .f32⟩) (broadcastInDim S32x256x512 ![] bcast_S_S32x256x512),
    StableHlo.TRef.ternary (.of main_call0_v1 : StableHlo.TRef sig ⟨S32x256x512, .i1⟩) (.of main_v18 : StableHlo.TRef sig ⟨S32x256x512, .f32⟩) (.of main_call0_v2 : StableHlo.TRef sig ⟨S32x256x512, .f32⟩) (.of main_v20 : StableHlo.TRef sig ⟨S32x256x512, .f32⟩) select ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 16 host operations of @main, in order. -/
abbrev hostOps0_2 : List (HloOp τ sig (Elt F)) :=
  [ StableHlo.binary main_v11 main_v20 main_v21 ((fun a b => concatenate S32x256x1024 2 [⟨S32x256x512, a⟩, ⟨S32x256x512, b⟩] concatenates_S32x256x512_S32x256x512_S32x256x1024_d2) : (⟨S32x256x512, .f32⟩ : BufTy).Contents (Elt F) → (⟨S32x256x512, .f32⟩ : BufTy).Contents (Elt F) → (⟨S32x256x1024, .f32⟩ : BufTy).Contents (Elt F)),
    StableHlo.unary main_arg5 main_v22 ((transpose S1024x1536 [1, 0] · transposes_S1536x1024_S1024x1536_1_0) : (⟨S1536x1024, .f32⟩ : BufTy).Contents (Elt F) → (⟨S1024x1536, .f32⟩ : BufTy).Contents (Elt F)),
    StableHlo.binary main_v21 main_v22 main_v23 ((fun l r => Host.dotGeneral dot_S32x256x1024_S1024x1536_S32x256x1536_2_0_01_1_n_n none l r) : (⟨S32x256x1024, .f32⟩ : BufTy).Contents (Elt F) → (⟨S1024x1536, .f32⟩ : BufTy).Contents (Elt F) → (⟨S32x256x1536, .f32⟩ : BufTy).Contents (Elt F)),
    StableHlo.unary main_arg7 main_v24 (broadcastInDim S1x1x1536 ![2] bcast_S1536_S1x1x1536_2 : (⟨S1536, .f32⟩ : BufTy).Contents (Elt F) → (⟨S1x1x1536, .f32⟩ : BufTy).Contents (Elt F)),
    StableHlo.unary main_v24 main_v25 (broadcastInDim S32x256x1536 ![0, 1, 2] bcast_S1x1x1536_S32x256x1536_0_1_2 : (⟨S1x1x1536, .f32⟩ : BufTy).Contents (Elt F) → (⟨S32x256x1536, .f32⟩ : BufTy).Contents (Elt F)),
    StableHlo.binary main_v23 main_v25 main_v26 (addf : (⟨S32x256x1536, .f32⟩ : BufTy).Contents (Elt F) → (⟨S32x256x1536, .f32⟩ : BufTy).Contents (Elt F) → (⟨S32x256x1536, .f32⟩ : BufTy).Contents (Elt F)),
    StableHlo.unary main_v26 main_v27 ((transpose S256x32x1536 [1, 0, 2] · transposes_S32x256x1536_S256x32x1536_1_0_2) : (⟨S32x256x1536, .f32⟩ : BufTy).Contents (Elt F) → (⟨S256x32x1536, .f32⟩ : BufTy).Contents (Elt F)),
    StableHlo.nullary main_cst_3 (constant S_ .f32 0x00000000#32),
    StableHlo.unary main_cst_3 main_v28 (broadcastInDim S256x32x512 ![] bcast_S_S256x32x512 : (⟨S_, .f32⟩ : BufTy).Contents (Elt F) → (⟨S256x32x512, .f32⟩ : BufTy).Contents (Elt F)),
    StableHlo.nullary main_c_4 (constantI S_ 32 0#32),
    StableHlo.unary main_v27 main_v29_0 id,
    StableHlo.unary main_arg6 main_v29_1 id,
    StableHlo.unary main_arg8 main_v29_2 id,
    StableHlo.unary main_c_4 main_v29_3 id,
    StableHlo.unary main_v4 main_v29_4 id,
    StableHlo.unary main_v28 main_v29_5 id ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 6 host operations of @main, in order. -/
abbrev hostOps0_3 : List (HloOp τ sig (Elt F)) :=
  [ StableHlo.unary main_v29_5 main_v30 ((transpose S32x256x512 [1, 0, 2] · transposes_S256x32x512_S32x256x512_1_0_2) : (⟨S256x32x512, .f32⟩ : BufTy).Contents (Elt F) → (⟨S32x256x512, .f32⟩ : BufTy).Contents (Elt F)),
    StableHlo.unary main_arg9 main_v31 ((transpose S512x128 [1, 0] · transposes_S128x512_S512x128_1_0) : (⟨S128x512, .f32⟩ : BufTy).Contents (Elt F) → (⟨S512x128, .f32⟩ : BufTy).Contents (Elt F)),
    StableHlo.binary main_v30 main_v31 main_v32 ((fun l r => Host.dotGeneral dot_S32x256x512_S512x128_S32x256x128_2_0_01_1_n_n none l r) : (⟨S32x256x512, .f32⟩ : BufTy).Contents (Elt F) → (⟨S512x128, .f32⟩ : BufTy).Contents (Elt F) → (⟨S32x256x128, .f32⟩ : BufTy).Contents (Elt F)),
    StableHlo.unary main_arg10 main_v33 (broadcastInDim S1x1x128 ![2] bcast_S128_S1x1x128_2 : (⟨S128, .f32⟩ : BufTy).Contents (Elt F) → (⟨S1x1x128, .f32⟩ : BufTy).Contents (Elt F)),
    StableHlo.unary main_v33 main_v34 (broadcastInDim S32x256x128 ![0, 1, 2] bcast_S1x1x128_S32x256x128_0_1_2 : (⟨S1x1x128, .f32⟩ : BufTy).Contents (Elt F) → (⟨S32x256x128, .f32⟩ : BufTy).Contents (Elt F)),
    StableHlo.binary main_v32 main_v34 main_v35 (addf : (⟨S32x256x128, .f32⟩ : BufTy).Contents (Elt F) → (⟨S32x256x128, .f32⟩ : BufTy).Contents (Elt F) → (⟨S32x256x128, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 15 host operations of @log_softmax (main_call3), in order. -/
abbrev hostOps0_4 : List (HloOp τ sig (Elt F)) :=
  [ StableHlo.TRef.nullary (.of main_call3_cst : StableHlo.TRef sig ⟨S_, .f32⟩) (constant S_ .f32 0xFF800000#32),
    StableHlo.TRef.binary (.of main_v35 : StableHlo.TRef sig ⟨S32x256x128, .f32⟩) (.of main_call3_cst : StableHlo.TRef sig ⟨S_, .f32⟩) (.of main_call3_v0 : StableHlo.TRef sig ⟨S32x256, .f32⟩) (fun x v => Host.reduce FloatOps.maximumf x v reducesTo_S32x256x128_S32x256_d2 h_S_),
    StableHlo.TRef.nullary (.of main_call3_cst_0 : StableHlo.TRef sig ⟨S_, .f32⟩) (constant S_ .f32 0xFF800000#32),
    StableHlo.TRef.unary (.of main_call3_cst_0 : StableHlo.TRef sig ⟨S_, .f32⟩) (.of main_call3_v1 : StableHlo.TRef sig ⟨S32x256, .f32⟩) (broadcastInDim S32x256 ![] bcast_S_S32x256),
    StableHlo.TRef.binary (.of main_call3_v1 : StableHlo.TRef sig ⟨S32x256, .f32⟩) (.of main_call3_v0 : StableHlo.TRef sig ⟨S32x256, .f32⟩) (.of main_call3_v2 : StableHlo.TRef sig ⟨S32x256, .f32⟩) maximumf,
    StableHlo.TRef.unary (.of main_call3_v2 : StableHlo.TRef sig ⟨S32x256, .f32⟩) (.of main_call3_v3 : StableHlo.TRef sig ⟨S32x256x1, .f32⟩) (broadcastInDim S32x256x1 ![0, 1] bcast_S32x256_S32x256x1_0_1),
    StableHlo.TRef.unary (.of main_call3_v3 : StableHlo.TRef sig ⟨S32x256x1, .f32⟩) (.of main_call3_v4 : StableHlo.TRef sig ⟨S32x256x128, .f32⟩) (broadcastInDim S32x256x128 ![0, 1, 2] bcast_S32x256x1_S32x256x128_0_1_2),
    StableHlo.TRef.binary (.of main_v35 : StableHlo.TRef sig ⟨S32x256x128, .f32⟩) (.of main_call3_v4 : StableHlo.TRef sig ⟨S32x256x128, .f32⟩) (.of main_call3_v5 : StableHlo.TRef sig ⟨S32x256x128, .f32⟩) subf,
    StableHlo.TRef.unary (.of main_call3_v5 : StableHlo.TRef sig ⟨S32x256x128, .f32⟩) (.of main_call3_v6 : StableHlo.TRef sig ⟨S32x256x128, .f32⟩) Host.exp,
    StableHlo.TRef.nullary (.of main_call3_cst_1 : StableHlo.TRef sig ⟨S_, .f32⟩) (constant S_ .f32 0x00000000#32),
    StableHlo.TRef.binary (.of main_call3_v6 : StableHlo.TRef sig ⟨S32x256x128, .f32⟩) (.of main_call3_cst_1 : StableHlo.TRef sig ⟨S_, .f32⟩) (.of main_call3_v7 : StableHlo.TRef sig ⟨S32x256, .f32⟩) (fun x v => Host.reduceAdd x v reducesTo_S32x256x128_S32x256_d2 h_S_),
    StableHlo.TRef.unary (.of main_call3_v7 : StableHlo.TRef sig ⟨S32x256, .f32⟩) (.of main_call3_v8 : StableHlo.TRef sig ⟨S32x256x1, .f32⟩) (broadcastInDim S32x256x1 ![0, 1] bcast_S32x256_S32x256x1_0_1),
    StableHlo.TRef.unary (.of main_call3_v8 : StableHlo.TRef sig ⟨S32x256x1, .f32⟩) (.of main_call3_v9 : StableHlo.TRef sig ⟨S32x256x1, .f32⟩) Host.log,
    StableHlo.TRef.unary (.of main_call3_v9 : StableHlo.TRef sig ⟨S32x256x1, .f32⟩) (.of main_call3_v10 : StableHlo.TRef sig ⟨S32x256x128, .f32⟩) (broadcastInDim S32x256x128 ![0, 1, 2] bcast_S32x256x1_S32x256x128_0_1_2),
    StableHlo.TRef.binary (.of main_call3_v5 : StableHlo.TRef sig ⟨S32x256x128, .f32⟩) (.of main_call3_v10 : StableHlo.TRef sig ⟨S32x256x128, .f32⟩) (.of main_v36 : StableHlo.TRef sig ⟨S32x256x128, .f32⟩) subf ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
/-- 1 host operation of @main, in order. -/
abbrev hostOps0_5 : List (HloOp τ sig (Elt F)) :=
  [ StableHlo.unary main_arg15 main_v37 (broadcastInDim S32x256x1 ![0, 1] bcast_S32x256_S32x256x1_0_1 : (⟨S32x256, .i32⟩ : BufTy).Contents (Elt F) → (⟨S32x256x1, .i32⟩ : BufTy).Contents (Elt F)) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  StableHlo.unary_bufs_sub ..
/-- 22 host operations of @take_along_axis (main_call4), in order. -/
abbrev hostOps0_6 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S32x256x1, .i32⟩) (broadcastInDim S32x256x1 ![] bcast_S_S32x256x1),
    StableHlo.TRef.binary (.of main_v37 : StableHlo.TRef sig ⟨S32x256x1, .i32⟩) (.of main_call4_v0 : StableHlo.TRef sig ⟨S32x256x1, .i32⟩) (.of main_call4_v1 : StableHlo.TRef sig ⟨S32x256x1, .i1⟩) (cmpi .slt),
    StableHlo.TRef.nullary (.of main_call4_c_0 : StableHlo.TRef sig ⟨S_, .i32⟩) (constantI S_ 32 128#32),
    StableHlo.TRef.unary (.of main_call4_c_0 : StableHlo.TRef sig ⟨S_, .i32⟩) (.of main_call4_v2 : StableHlo.TRef sig ⟨S32x256x1, .i32⟩) (broadcastInDim S32x256x1 ![] bcast_S_S32x256x1),
    StableHlo.TRef.binary (.of main_v37 : StableHlo.TRef sig ⟨S32x256x1, .i32⟩) (.of main_call4_v2 : StableHlo.TRef sig ⟨S32x256x1, .i32⟩) (.of main_call4_v3 : StableHlo.TRef sig ⟨S32x256x1, .i32⟩) addi,
    StableHlo.TRef.ternary (.of main_call4_v1 : StableHlo.TRef sig ⟨S32x256x1, .i1⟩) (.of main_call4_v3 : StableHlo.TRef sig ⟨S32x256x1, .i32⟩) (.of main_v37 : StableHlo.TRef sig ⟨S32x256x1, .i32⟩) (.of main_call4_v4 : StableHlo.TRef sig ⟨S32x256x1, .i32⟩) select,
    StableHlo.TRef.reshape (.of main_call4_v4 : StableHlo.TRef sig ⟨S32x256x1, .i32⟩) (.of main_call4_v5 : StableHlo.TRef sig ⟨S32x256x1x1, .i32⟩) (rfl : (.i32 : EltTy) = .i32) shapeCasts_S32x256x1_S32x256x1x1,
    StableHlo.TRef.nullary (.of main_call4_c_1 : StableHlo.TRef sig ⟨S1, .i32⟩) (constantI S1 32 127#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S32x256x1x1, .i32⟩) (broadcastInDim S32x256x1x1 ![] bcast_S_S32x256x1x1),
    StableHlo.TRef.binary (.of main_call4_v5 : StableHlo.TRef sig ⟨S32x256x1x1, .i32⟩) (.of main_call4_v6 : StableHlo.TRef sig ⟨S32x256x1x1, .i32⟩) (.of main_call4_v7 : StableHlo.TRef sig ⟨S32x256x1x1, .i1⟩) (cmpi .sge),
    StableHlo.TRef.unary (.of main_call4_c_1 : StableHlo.TRef sig ⟨S1, .i32⟩) (.of main_call4_v8 : StableHlo.TRef sig ⟨S1x1x1x1, .i32⟩) (broadcastInDim S1x1x1x1 ![3] bcast_S1_S1x1x1x1_3),
    StableHlo.TRef.unary (.of main_call4_v8 : StableHlo.TRef sig ⟨S1x1x1x1, .i32⟩) (.of main_call4_v9 : StableHlo.TRef sig ⟨S32x256x1x1, .i32⟩) (broadcastInDim S32x256x1x1 ![0, 1, 2, 3] bcast_S1x1x1x1_S32x256x1x1_0_1_2_3),
    StableHlo.TRef.binary (.of main_call4_v5 : StableHlo.TRef sig ⟨S32x256x1x1, .i32⟩) (.of main_call4_v9 : StableHlo.TRef sig ⟨S32x256x1x1, .i32⟩) (.of main_call4_v10 : StableHlo.TRef sig ⟨S32x256x1x1, .i1⟩) (cmpi .sle),
    StableHlo.TRef.binary (.of main_call4_v7 : StableHlo.TRef sig ⟨S32x256x1x1, .i1⟩) (.of main_call4_v10 : StableHlo.TRef sig ⟨S32x256x1x1, .i1⟩) (.of main_call4_v11 : StableHlo.TRef sig ⟨S32x256x1x1, .i1⟩) andi,
    StableHlo.TRef.nullary (.of main_call4_c_3 : StableHlo.TRef sig ⟨S_, .i1⟩) (constantI S_ 1 1#1),
    StableHlo.TRef.binary (.of main_call4_v11 : StableHlo.TRef sig ⟨S32x256x1x1, .i1⟩) (.of main_call4_c_3 : StableHlo.TRef sig ⟨S_, .i1⟩) (.of main_call4_v12 : StableHlo.TRef sig ⟨S32x256x1, .i1⟩) (fun x v => Host.reduce IntOp.andi x v reducesTo_S32x256x1x1_S32x256x1_d3 h_S_),
    StableHlo.TRef.binary (.of main_v36 : StableHlo.TRef sig ⟨S32x256x128, .f32⟩) (.of main_call4_v5 : StableHlo.TRef sig ⟨S32x256x1x1, .i32⟩) (.of main_call4_v13 : StableHlo.TRef sig ⟨S32x256x1, .f32⟩) (fun x i => Host.gather gather_S32x256x128_S32x256x1x1_S32x256x1_n_2_01_01_2_3_111 x i),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S32x256x1, .f32⟩) (broadcastInDim S32x256x1 ![] bcast_S_S32x256x1),
    StableHlo.TRef.ternary (.of main_call4_v12 : StableHlo.TRef sig ⟨S32x256x1, .i1⟩) (.of main_call4_v13 : StableHlo.TRef sig ⟨S32x256x1, .f32⟩) (.of main_call4_v14 : StableHlo.TRef sig ⟨S32x256x1, .f32⟩) (.of main_v38 : StableHlo.TRef sig ⟨S32x256x1, .f32⟩) select ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 14 host operations of @main, in order. -/
abbrev hostOps0_7 : List (HloOp τ sig (Elt F)) :=
  [ StableHlo.reshape main_v38 main_v39 (rfl : (.f32 : EltTy) = .f32) shapeCasts_S32x256x1_S32x256,
    StableHlo.nullary main_cst_5 (constant S_ .f32 0x00000000#32),
    StableHlo.binary main_v39 main_cst_5 main_v40 ((fun x v => Host.reduceAdd x v reducesTo_S32x256_S32_d1 h_S_) : (⟨S32x256, .f32⟩ : BufTy).Contents (Elt F) → (⟨S_, .f32⟩ : BufTy).Contents (Elt F) → (⟨S32, .f32⟩ : BufTy).Contents (Elt F)),
    StableHlo.unary main_arg11 main_v41 ((transpose S512x512 [1, 0] · transposes_S512x512_S512x512_1_0) : (⟨S512x512, .f32⟩ : BufTy).Contents (Elt F) → (⟨S512x512, .f32⟩ : BufTy).Contents (Elt F)),
    StableHlo.binary main_v30 main_v41 main_v42 ((fun l r => Host.dotGeneral dot_S32x256x512_S512x512_S32x256x512_2_0_01_1_n_n none l r) : (⟨S32x256x512, .f32⟩ : BufTy).Contents (Elt F) → (⟨S512x512, .f32⟩ : BufTy).Contents (Elt F) → (⟨S32x256x512, .f32⟩ : BufTy).Contents (Elt F)),
    StableHlo.unary main_arg12 main_v43 ((transpose S512x512 [1, 0] · transposes_S512x512_S512x512_1_0) : (⟨S512x512, .f32⟩ : BufTy).Contents (Elt F) → (⟨S512x512, .f32⟩ : BufTy).Contents (Elt F)),
    StableHlo.binary main_arg1 main_v43 main_v44 ((fun l r => Host.dotGeneral dot_S32x32x512_S512x512_S32x32x512_2_0_01_1_n_n none l r) : (⟨S32x32x512, .f32⟩ : BufTy).Contents (Elt F) → (⟨S512x512, .f32⟩ : BufTy).Contents (Elt F) → (⟨S32x32x512, .f32⟩ : BufTy).Contents (Elt F)),
    StableHlo.unary main_v42 main_v45 (broadcastInDim S32x256x1x512 ![0, 1, 3] bcast_S32x256x512_S32x256x1x512_0_1_3 : (⟨S32x256x512, .f32⟩ : BufTy).Contents (Elt F) → (⟨S32x256x1x512, .f32⟩ : BufTy).Contents (Elt F)),
    StableHlo.unary main_v44 main_v46 (broadcastInDim S32x1x32x512 ![0, 2, 3] bcast_S32x32x512_S32x1x32x512_0_2_3 : (⟨S32x32x512, .f32⟩ : BufTy).Contents (Elt F) → (⟨S32x1x32x512, .f32⟩ : BufTy).Contents (Elt F)),
    StableHlo.unary main_v45 main_v47 (broadcastInDim S32x256x32x512 ![0, 1, 2, 3] bcast_S32x256x1x512_S32x256x32x512_0_1_2_3 : (⟨S32x256x1x512, .f32⟩ : BufTy).Contents (Elt F) → (⟨S32x256x32x512, .f32⟩ : BufTy).Contents (Elt F)),
    StableHlo.unary main_v46 main_v48 (broadcastInDim S32x256x32x512 ![0, 1, 2, 3] bcast_S32x1x32x512_S32x256x32x512_0_1_2_3 : (⟨S32x1x32x512, .f32⟩ : BufTy).Contents (Elt F) → (⟨S32x256x32x512, .f32⟩ : BufTy).Contents (Elt F)),
    StableHlo.binary main_v47 main_v48 main_v49 (addf : (⟨S32x256x32x512, .f32⟩ : BufTy).Contents (Elt F) → (⟨S32x256x32x512, .f32⟩ : BufTy).Contents (Elt F) → (⟨S32x256x32x512, .f32⟩ : BufTy).Contents (Elt F)),
    StableHlo.unary main_v49 main_v50 (Host.tanh : (⟨S32x256x32x512, .f32⟩ : BufTy).Contents (Elt F) → (⟨S32x256x32x512, .f32⟩ : BufTy).Contents (Elt F)),
    StableHlo.binary main_v50 main_arg13 main_v51 ((fun l r => Host.dotGeneral dot_S32x256x32x512_S512_S32x256x32_3_0_012_n_n_n none l r) : (⟨S32x256x32x512, .f32⟩ : BufTy).Contents (Elt F) → (⟨S512, .f32⟩ : BufTy).Contents (Elt F) → (⟨S32x256x32, .f32⟩ : BufTy).Contents (Elt F)) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub ..⟩
/-- 15 host operations of @log_softmax_0 (main_call5), in order. -/
abbrev hostOps0_8 : List (HloOp τ sig (Elt F)) :=
  [ StableHlo.TRef.nullary (.of main_call5_cst : StableHlo.TRef sig ⟨S_, .f32⟩) (constant S_ .f32 0xFF800000#32),
    StableHlo.TRef.binary (.of main_v51 : StableHlo.TRef sig ⟨S32x256x32, .f32⟩) (.of main_call5_cst : StableHlo.TRef sig ⟨S_, .f32⟩) (.of main_call5_v0 : StableHlo.TRef sig ⟨S32x256, .f32⟩) (fun x v => Host.reduce FloatOps.maximumf x v reducesTo_S32x256x32_S32x256_d2 h_S_),
    StableHlo.TRef.nullary (.of main_call5_cst_0 : StableHlo.TRef sig ⟨S_, .f32⟩) (constant S_ .f32 0xFF800000#32),
    StableHlo.TRef.unary (.of main_call5_cst_0 : StableHlo.TRef sig ⟨S_, .f32⟩) (.of main_call5_v1 : StableHlo.TRef sig ⟨S32x256, .f32⟩) (broadcastInDim S32x256 ![] bcast_S_S32x256),
    StableHlo.TRef.binary (.of main_call5_v1 : StableHlo.TRef sig ⟨S32x256, .f32⟩) (.of main_call5_v0 : StableHlo.TRef sig ⟨S32x256, .f32⟩) (.of main_call5_v2 : StableHlo.TRef sig ⟨S32x256, .f32⟩) maximumf,
    StableHlo.TRef.unary (.of main_call5_v2 : StableHlo.TRef sig ⟨S32x256, .f32⟩) (.of main_call5_v3 : StableHlo.TRef sig ⟨S32x256x1, .f32⟩) (broadcastInDim S32x256x1 ![0, 1] bcast_S32x256_S32x256x1_0_1),
    StableHlo.TRef.unary (.of main_call5_v3 : StableHlo.TRef sig ⟨S32x256x1, .f32⟩) (.of main_call5_v4 : StableHlo.TRef sig ⟨S32x256x32, .f32⟩) (broadcastInDim S32x256x32 ![0, 1, 2] bcast_S32x256x1_S32x256x32_0_1_2),
    StableHlo.TRef.binary (.of main_v51 : StableHlo.TRef sig ⟨S32x256x32, .f32⟩) (.of main_call5_v4 : StableHlo.TRef sig ⟨S32x256x32, .f32⟩) (.of main_call5_v5 : StableHlo.TRef sig ⟨S32x256x32, .f32⟩) subf,
    StableHlo.TRef.unary (.of main_call5_v5 : StableHlo.TRef sig ⟨S32x256x32, .f32⟩) (.of main_call5_v6 : StableHlo.TRef sig ⟨S32x256x32, .f32⟩) Host.exp,
    StableHlo.TRef.nullary (.of main_call5_cst_1 : StableHlo.TRef sig ⟨S_, .f32⟩) (constant S_ .f32 0x00000000#32),
    StableHlo.TRef.binary (.of main_call5_v6 : StableHlo.TRef sig ⟨S32x256x32, .f32⟩) (.of main_call5_cst_1 : StableHlo.TRef sig ⟨S_, .f32⟩) (.of main_call5_v7 : StableHlo.TRef sig ⟨S32x256, .f32⟩) (fun x v => Host.reduceAdd x v reducesTo_S32x256x32_S32x256_d2 h_S_),
    StableHlo.TRef.unary (.of main_call5_v7 : StableHlo.TRef sig ⟨S32x256, .f32⟩) (.of main_call5_v8 : StableHlo.TRef sig ⟨S32x256x1, .f32⟩) (broadcastInDim S32x256x1 ![0, 1] bcast_S32x256_S32x256x1_0_1),
    StableHlo.TRef.unary (.of main_call5_v8 : StableHlo.TRef sig ⟨S32x256x1, .f32⟩) (.of main_call5_v9 : StableHlo.TRef sig ⟨S32x256x1, .f32⟩) Host.log,
    StableHlo.TRef.unary (.of main_call5_v9 : StableHlo.TRef sig ⟨S32x256x1, .f32⟩) (.of main_call5_v10 : StableHlo.TRef sig ⟨S32x256x32, .f32⟩) (broadcastInDim S32x256x32 ![0, 1, 2] bcast_S32x256x1_S32x256x32_0_1_2),
    StableHlo.TRef.binary (.of main_call5_v5 : StableHlo.TRef sig ⟨S32x256x32, .f32⟩) (.of main_call5_v10 : StableHlo.TRef sig ⟨S32x256x32, .f32⟩) (.of main_v52 : StableHlo.TRef sig ⟨S32x256x32, .f32⟩) subf ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
/-- 1 host operation of @main, in order. -/
abbrev hostOps0_9 : List (HloOp τ sig (Elt F)) :=
  [ StableHlo.unary main_arg17 main_v53 (broadcastInDim S32x256x1 ![0, 1] bcast_S32x256_S32x256x1_0_1 : (⟨S32x256, .i32⟩ : BufTy).Contents (Elt F) → (⟨S32x256x1, .i32⟩ : BufTy).Contents (Elt F)) ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  StableHlo.unary_bufs_sub ..
/-- 22 host operations of @take_along_axis_1 (main_call6), in order. -/
abbrev hostOps0_10 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S32x256x1, .i32⟩) (broadcastInDim S32x256x1 ![] bcast_S_S32x256x1),
    StableHlo.TRef.binary (.of main_v53 : StableHlo.TRef sig ⟨S32x256x1, .i32⟩) (.of main_call6_v0 : StableHlo.TRef sig ⟨S32x256x1, .i32⟩) (.of main_call6_v1 : StableHlo.TRef sig ⟨S32x256x1, .i1⟩) (cmpi .slt),
    StableHlo.TRef.nullary (.of main_call6_c_0 : StableHlo.TRef sig ⟨S_, .i32⟩) (constantI S_ 32 32#32),
    StableHlo.TRef.unary (.of main_call6_c_0 : StableHlo.TRef sig ⟨S_, .i32⟩) (.of main_call6_v2 : StableHlo.TRef sig ⟨S32x256x1, .i32⟩) (broadcastInDim S32x256x1 ![] bcast_S_S32x256x1),
    StableHlo.TRef.binary (.of main_v53 : StableHlo.TRef sig ⟨S32x256x1, .i32⟩) (.of main_call6_v2 : StableHlo.TRef sig ⟨S32x256x1, .i32⟩) (.of main_call6_v3 : StableHlo.TRef sig ⟨S32x256x1, .i32⟩) addi,
    StableHlo.TRef.ternary (.of main_call6_v1 : StableHlo.TRef sig ⟨S32x256x1, .i1⟩) (.of main_call6_v3 : StableHlo.TRef sig ⟨S32x256x1, .i32⟩) (.of main_v53 : StableHlo.TRef sig ⟨S32x256x1, .i32⟩) (.of main_call6_v4 : StableHlo.TRef sig ⟨S32x256x1, .i32⟩) select,
    StableHlo.TRef.reshape (.of main_call6_v4 : StableHlo.TRef sig ⟨S32x256x1, .i32⟩) (.of main_call6_v5 : StableHlo.TRef sig ⟨S32x256x1x1, .i32⟩) (rfl : (.i32 : EltTy) = .i32) shapeCasts_S32x256x1_S32x256x1x1,
    StableHlo.TRef.nullary (.of main_call6_c_1 : StableHlo.TRef sig ⟨S1, .i32⟩) (constantI S1 32 31#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S32x256x1x1, .i32⟩) (broadcastInDim S32x256x1x1 ![] bcast_S_S32x256x1x1),
    StableHlo.TRef.binary (.of main_call6_v5 : StableHlo.TRef sig ⟨S32x256x1x1, .i32⟩) (.of main_call6_v6 : StableHlo.TRef sig ⟨S32x256x1x1, .i32⟩) (.of main_call6_v7 : StableHlo.TRef sig ⟨S32x256x1x1, .i1⟩) (cmpi .sge),
    StableHlo.TRef.unary (.of main_call6_c_1 : StableHlo.TRef sig ⟨S1, .i32⟩) (.of main_call6_v8 : StableHlo.TRef sig ⟨S1x1x1x1, .i32⟩) (broadcastInDim S1x1x1x1 ![3] bcast_S1_S1x1x1x1_3),
    StableHlo.TRef.unary (.of main_call6_v8 : StableHlo.TRef sig ⟨S1x1x1x1, .i32⟩) (.of main_call6_v9 : StableHlo.TRef sig ⟨S32x256x1x1, .i32⟩) (broadcastInDim S32x256x1x1 ![0, 1, 2, 3] bcast_S1x1x1x1_S32x256x1x1_0_1_2_3),
    StableHlo.TRef.binary (.of main_call6_v5 : StableHlo.TRef sig ⟨S32x256x1x1, .i32⟩) (.of main_call6_v9 : StableHlo.TRef sig ⟨S32x256x1x1, .i32⟩) (.of main_call6_v10 : StableHlo.TRef sig ⟨S32x256x1x1, .i1⟩) (cmpi .sle),
    StableHlo.TRef.binary (.of main_call6_v7 : StableHlo.TRef sig ⟨S32x256x1x1, .i1⟩) (.of main_call6_v10 : StableHlo.TRef sig ⟨S32x256x1x1, .i1⟩) (.of main_call6_v11 : StableHlo.TRef sig ⟨S32x256x1x1, .i1⟩) andi,
    StableHlo.TRef.nullary (.of main_call6_c_3 : StableHlo.TRef sig ⟨S_, .i1⟩) (constantI S_ 1 1#1),
    StableHlo.TRef.binary (.of main_call6_v11 : StableHlo.TRef sig ⟨S32x256x1x1, .i1⟩) (.of main_call6_c_3 : StableHlo.TRef sig ⟨S_, .i1⟩) (.of main_call6_v12 : StableHlo.TRef sig ⟨S32x256x1, .i1⟩) (fun x v => Host.reduce IntOp.andi x v reducesTo_S32x256x1x1_S32x256x1_d3 h_S_),
    StableHlo.TRef.binary (.of main_v52 : StableHlo.TRef sig ⟨S32x256x32, .f32⟩) (.of main_call6_v5 : StableHlo.TRef sig ⟨S32x256x1x1, .i32⟩) (.of main_call6_v13 : StableHlo.TRef sig ⟨S32x256x1, .f32⟩) (fun x i => Host.gather gather_S32x256x32_S32x256x1x1_S32x256x1_n_2_01_01_2_3_111 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S32x256x1, .f32⟩) (broadcastInDim S32x256x1 ![] bcast_S_S32x256x1),
    StableHlo.TRef.ternary (.of main_call6_v12 : StableHlo.TRef sig ⟨S32x256x1, .i1⟩) (.of main_call6_v13 : StableHlo.TRef sig ⟨S32x256x1, .f32⟩) (.of main_call6_v14 : StableHlo.TRef sig ⟨S32x256x1, .f32⟩) (.of main_v54 : StableHlo.TRef sig ⟨S32x256x1, .f32⟩) select ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 2 host operations of @main, in order. -/
abbrev hostOps0_11 : List (HloOp τ sig (Elt F)) :=
  [ StableHlo.reshape main_v54 main_v55 (rfl : (.f32 : EltTy) = .f32) shapeCasts_S32x256x1_S32x256,
    StableHlo.nullary main_cst_6 (constant S_ .f32 0x00000000#32) ]
/-- Each touches TensorCore references only (`HostSeg.ofOps` over `StableHlo.tcRefs`, or a subset by `sub_ucRefs`). -/
theorem hostOps0_11_sub : (hostOps0_11 : List (HloOp τ sig (Elt F))).Forall fun op => op.bufs ⊆ StableHlo.tcRefs τ sig :=
  ⟨StableHlo.reshape_bufs_sub .., StableHlo.nullary_bufs_sub ..⟩
/-- 3 host operations of @_where_2 (main_call7), in order. -/
abbrev hostOps0_12 : List (HloOp τ sig (Elt F)) :=
  [ StableHlo.TRef.unary (.of main_cst_6 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S32x256, .f32⟩) (broadcastInDim S32x256 ![] bcast_S_S32x256),
    StableHlo.TRef.ternary (.of main_arg18 : StableHlo.TRef sig ⟨S32x256, .i1⟩) (.of main_v55 : StableHlo.TRef sig ⟨S32x256, .f32⟩) (.of main_call7_v1 : StableHlo.TRef sig ⟨S32x256, .f32⟩) (.of main_v56 : StableHlo.TRef sig ⟨S32x256, .f32⟩) select ]
/-- Each touches TensorCore references only (`HostSeg.ofOps` over `StableHlo.tcRefs`, or a subset by `sub_ucRefs`). -/
theorem hostOps0_12_sub : (hostOps0_12 : List (HloOp τ sig (Elt F))).Forall fun op => op.bufs ⊆ StableHlo.tcRefs τ sig :=
  ⟨StableHlo.unary_bufs_sub .., StableHlo.unary_bufs_sub .., StableHlo.ternary_bufs_sub ..⟩
/-- 3 host operations of @main, in order. -/
abbrev hostOps0_13 : List (HloOp τ sig (Elt F)) :=
  [ StableHlo.nullary main_cst_7 (constant S_ .f32 0x00000000#32),
    StableHlo.binary main_v56 main_cst_7 main_v57 ((fun x v => Host.reduceAdd x v reducesTo_S32x256_S32_d1 h_S_) : (⟨S32x256, .f32⟩ : BufTy).Contents (Elt F) → (⟨S_, .f32⟩ : BufTy).Contents (Elt F) → (⟨S32, .f32⟩ : BufTy).Contents (Elt F)),
    StableHlo.binary main_v40 main_v57 main_v58 (addf : (⟨S32, .f32⟩ : BufTy).Contents (Elt F) → (⟨S32, .f32⟩ : BufTy).Contents (Elt F) → (⟨S32, .f32⟩ : BufTy).Contents (Elt F)) ]
/-- Each touches TensorCore references only (`HostSeg.ofOps` over `StableHlo.tcRefs`, or a subset by `sub_ucRefs`). -/
theorem hostOps0_13_sub : (hostOps0_13 : List (HloOp τ sig (Elt F))).Forall fun op => op.bufs ⊆ StableHlo.tcRefs τ sig :=
  ⟨StableHlo.nullary_bufs_sub .., StableHlo.binary_bufs_sub .., StableHlo.binary_bufs_sub ..⟩
/-- 25 host operations of @main, window 0 (statements 1 … 60), in order. -/
abbrev main_part0_ops0 : List (HloOp τ sig (Elt F)) :=
  [ StableHlo.unary main_arg3 main_v0 ((transpose S512x512 [1, 0] · transposes_S512x512_S512x512_1_0) : (⟨S512x512, .f32⟩ : BufTy).Contents (Elt F) → (⟨S512x512, .f32⟩ : BufTy).Contents (Elt F)),
    StableHlo.binary main_arg2 main_v0 main_v1 ((fun l r => Host.dotGeneral dot_S32x512_S512x512_S32x512_1_0_0_1_n_n none l r) : (⟨S32x512, .f32⟩ : BufTy).Contents (Elt F) → (⟨S512x512, .f32⟩ : BufTy).Contents (Elt F) → (⟨S32x512, .f32⟩ : BufTy).Contents (Elt F)),
    StableHlo.unary main_arg4 main_v2 (broadcastInDim S1x512 ![1] bcast_S512_S1x512_1 : (⟨S512, .f32⟩ : BufTy).Contents (Elt F) → (⟨S1x512, .f32⟩ : BufTy).Contents (Elt F)),
    StableHlo.unary main_v2 main_v3 (broadcastInDim S32x512 ![0, 1] bcast_S1x512_S32x512_0_1 : (⟨S1x512, .f32⟩ : BufTy).Contents (Elt F) → (⟨S32x512, .f32⟩ : BufTy).Contents (Elt F)),
    StableHlo.binary main_v1 main_v3 main_v4 (addf : (⟨S32x512, .f32⟩ : BufTy).Contents (Elt F) → (⟨S32x512, .f32⟩ : BufTy).Contents (Elt F) → (⟨S32x512, .f32⟩ : BufTy).Contents (Elt F)),
    StableHlo.nullary main_c (constantI S_ 32 0#32),
    StableHlo.unary main_c main_v5 (broadcastInDim S32x256 ![] bcast_S_S32x256 : (⟨S_, .i32⟩ : BufTy).Contents (Elt F) → (⟨S32x256, .i32⟩ : BufTy).Contents (Elt F)),
    StableHlo.binary main_arg14 main_v5 main_v6 (cmpi .slt : (⟨S32x256, .i32⟩ : BufTy).Contents (Elt F) → (⟨S32x256, .i32⟩ : BufTy).Contents (Elt F) → (⟨S32x256, .i1⟩ : BufTy).Contents (Elt F)),
    StableHlo.nullary main_c_0 (constantI S_ 32 128#32),
    StableHlo.unary main_c_0 main_v7 (broadcastInDim S32x256 ![] bcast_S_S32x256 : (⟨S_, .i32⟩ : BufTy).Contents (Elt F) → (⟨S32x256, .i32⟩ : BufTy).Contents (Elt F)),
    StableHlo.binary main_arg14 main_v7 main_v8 (addi : (⟨S32x256, .i32⟩ : BufTy).Contents (Elt F) → (⟨S32x256, .i32⟩ : BufTy).Contents (Elt F) → (⟨S32x256, .i32⟩ : BufTy).Contents (Elt F)),
    StableHlo.ternary main_v6 main_v8 main_arg14 main_v9 (select : (⟨S32x256, .i1⟩ : BufTy).Contents (Elt F) → (⟨S32x256, .i32⟩ : BufTy).Contents (Elt F) → (⟨S32x256, .i32⟩ : BufTy).Contents (Elt F) → (⟨S32x256, .i32⟩ : BufTy).Contents (Elt F)),
    StableHlo.unary main_v9 main_v10 (broadcastInDim S32x256x1 ![0, 1] bcast_S32x256_S32x256x1_0_1 : (⟨S32x256, .i32⟩ : BufTy).Contents (Elt F) → (⟨S32x256x1, .i32⟩ : BufTy).Contents (Elt F)),
    StableHlo.binary main_arg0 main_v10 main_v11 ((fun x i => Host.gather gather_S128x512_S32x256x1_S32x256x512_2_0_n_n_0_2_1512 x i) : (⟨S128x512, .f32⟩ : BufTy).Contents (Elt F) → (⟨S32x256x1, .i32⟩ : BufTy).Contents (Elt F) → (⟨S32x256x512, .f32⟩ : BufTy).Contents (Elt F)),
    StableHlo.nullary main_c_1 (constantI S_ 32 0#32),
    StableHlo.unary main_c_1 main_v12 (broadcastInDim S32x256 ![] bcast_S_S32x256 : (⟨S_, .i32⟩ : BufTy).Contents (Elt F) → (⟨S32x256, .i32⟩ : BufTy).Contents (Elt F)),
    StableHlo.binary main_arg16 main_v12 main_v13 (cmpi .slt : (⟨S32x256, .i32⟩ : BufTy).Contents (Elt F) → (⟨S32x256, .i32⟩ : BufTy).Contents (Elt F) → (⟨S32x256, .i1⟩ : BufTy).Contents (Elt F)),
    StableHlo.nullary main_c_2 (constantI S_ 32 32#32),
    StableHlo.unary main_c_2 main_v14 (broadcastInDim S32x256 ![] bcast_S_S32x256 : (⟨S_, .i32⟩ : BufTy).Contents (Elt F) → (⟨S32x256, .i32⟩ : BufTy).Contents (Elt F)),
    StableHlo.binary main_arg16 main_v14 main_v15 (addi : (⟨S32x256, .i32⟩ : BufTy).Contents (Elt F) → (⟨S32x256, .i32⟩ : BufTy).Contents (Elt F) → (⟨S32x256, .i32⟩ : BufTy).Contents (Elt F)),
    StableHlo.ternary main_v13 main_v15 main_arg16 main_v16 (select : (⟨S32x256, .i1⟩ : BufTy).Contents (Elt F) → (⟨S32x256, .i32⟩ : BufTy).Contents (Elt F) → (⟨S32x256, .i32⟩ : BufTy).Contents (Elt F) → (⟨S32x256, .i32⟩ : BufTy).Contents (Elt F)),
    StableHlo.unary main_v16 main_v17 (broadcastInDim S32x256x1 ![0, 1] bcast_S32x256_S32x256x1_0_1 : (⟨S32x256, .i32⟩ : BufTy).Contents (Elt F) → (⟨S32x256x1, .i32⟩ : BufTy).Contents (Elt F)),
    StableHlo.binary main_arg1 main_v17 main_v18 ((fun x i => Host.gather gather_S32x32x512_S32x256x1_S32x256x512_2_1_0_0_1_2_11512 x i) : (⟨S32x32x512, .f32⟩ : BufTy).Contents (Elt F) → (⟨S32x256x1, .i32⟩ : BufTy).Contents (Elt F) → (⟨S32x256x512, .f32⟩ : BufTy).Contents (Elt F)),
    StableHlo.unary main_arg18 main_v19 (broadcastInDim S32x256x1 ![0, 1] bcast_S32x256_S32x256x1_0_1 : (⟨S32x256, .i1⟩ : BufTy).Contents (Elt F) → (⟨S32x256x1, .i1⟩ : BufTy).Contents (Elt F)),
    StableHlo.nullary main_cst (constant S_ .f32 0x00000000#32) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub ..⟩
/-- 4 host operations of @_where (main_call0), window 0 (statements 1 … 60), in order. -/
abbrev main_part0_ops1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_v19 : StableHlo.TRef sig ⟨S32x256x1, .i1⟩) (.of main_call0_v1 : StableHlo.TRef sig ⟨S32x256x512, .i1⟩) (broadcastInDim S32x256x512 ![0, 1, 2] bcast_S32x256x1_S32x256x512_0_1_2),
    StableHlo.TRef.unary (.of main_call0_v0 : StableHlo.TRef sig ⟨S_, .f32⟩) (.of main_call0_v2 : StableHlo.TRef sig ⟨S32x256x512, .f32⟩) (broadcastInDim S32x256x512 ![] bcast_S_S32x256x512),
    StableHlo.TRef.ternary (.of main_call0_v1 : StableHlo.TRef sig ⟨S32x256x512, .i1⟩) (.of main_v18 : StableHlo.TRef sig ⟨S32x256x512, .f32⟩) (.of main_call0_v2 : StableHlo.TRef sig ⟨S32x256x512, .f32⟩) (.of main_v20 : StableHlo.TRef sig ⟨S32x256x512, .f32⟩) select ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 16 host operations of @main, window 0 (statements 1 … 60), in order. -/
abbrev main_part0_ops2 : List (HloOp τ sig (Elt F)) :=
  [ StableHlo.binary main_v11 main_v20 main_v21 ((fun a b => concatenate S32x256x1024 2 [⟨S32x256x512, a⟩, ⟨S32x256x512, b⟩] concatenates_S32x256x512_S32x256x512_S32x256x1024_d2) : (⟨S32x256x512, .f32⟩ : BufTy).Contents (Elt F) → (⟨S32x256x512, .f32⟩ : BufTy).Contents (Elt F) → (⟨S32x256x1024, .f32⟩ : BufTy).Contents (Elt F)),
    StableHlo.unary main_arg5 main_v22 ((transpose S1024x1536 [1, 0] · transposes_S1536x1024_S1024x1536_1_0) : (⟨S1536x1024, .f32⟩ : BufTy).Contents (Elt F) → (⟨S1024x1536, .f32⟩ : BufTy).Contents (Elt F)),
    StableHlo.binary main_v21 main_v22 main_v23 ((fun l r => Host.dotGeneral dot_S32x256x1024_S1024x1536_S32x256x1536_2_0_01_1_n_n none l r) : (⟨S32x256x1024, .f32⟩ : BufTy).Contents (Elt F) → (⟨S1024x1536, .f32⟩ : BufTy).Contents (Elt F) → (⟨S32x256x1536, .f32⟩ : BufTy).Contents (Elt F)),
    StableHlo.unary main_arg7 main_v24 (broadcastInDim S1x1x1536 ![2] bcast_S1536_S1x1x1536_2 : (⟨S1536, .f32⟩ : BufTy).Contents (Elt F) → (⟨S1x1x1536, .f32⟩ : BufTy).Contents (Elt F)),
    StableHlo.unary main_v24 main_v25 (broadcastInDim S32x256x1536 ![0, 1, 2] bcast_S1x1x1536_S32x256x1536_0_1_2 : (⟨S1x1x1536, .f32⟩ : BufTy).Contents (Elt F) → (⟨S32x256x1536, .f32⟩ : BufTy).Contents (Elt F)),
    StableHlo.binary main_v23 main_v25 main_v26 (addf : (⟨S32x256x1536, .f32⟩ : BufTy).Contents (Elt F) → (⟨S32x256x1536, .f32⟩ : BufTy).Contents (Elt F) → (⟨S32x256x1536, .f32⟩ : BufTy).Contents (Elt F)),
    StableHlo.unary main_v26 main_v27 ((transpose S256x32x1536 [1, 0, 2] · transposes_S32x256x1536_S256x32x1536_1_0_2) : (⟨S32x256x1536, .f32⟩ : BufTy).Contents (Elt F) → (⟨S256x32x1536, .f32⟩ : BufTy).Contents (Elt F)),
    StableHlo.nullary main_cst_3 (constant S_ .f32 0x00000000#32),
    StableHlo.unary main_cst_3 main_v28 (broadcastInDim S256x32x512 ![] bcast_S_S256x32x512 : (⟨S_, .f32⟩ : BufTy).Contents (Elt F) → (⟨S256x32x512, .f32⟩ : BufTy).Contents (Elt F)),
    StableHlo.nullary main_c_4 (constantI S_ 32 0#32),
    StableHlo.unary main_v27 main_v29_0 id,
    StableHlo.unary main_arg6 main_v29_1 id,
    StableHlo.unary main_arg8 main_v29_2 id,
    StableHlo.unary main_c_4 main_v29_3 id,
    StableHlo.unary main_v4 main_v29_4 id,
    StableHlo.unary main_v28 main_v29_5 id ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 6 host operations of @main, window 0 (statements 1 … 60), in order. -/
abbrev main_part0_ops3 : List (HloOp τ sig (Elt F)) :=
  [ StableHlo.unary main_v29_5 main_v30 ((transpose S32x256x512 [1, 0, 2] · transposes_S256x32x512_S32x256x512_1_0_2) : (⟨S256x32x512, .f32⟩ : BufTy).Contents (Elt F) → (⟨S32x256x512, .f32⟩ : BufTy).Contents (Elt F)),
    StableHlo.unary main_arg9 main_v31 ((transpose S512x128 [1, 0] · transposes_S128x512_S512x128_1_0) : (⟨S128x512, .f32⟩ : BufTy).Contents (Elt F) → (⟨S512x128, .f32⟩ : BufTy).Contents (Elt F)),
    StableHlo.binary main_v30 main_v31 main_v32 ((fun l r => Host.dotGeneral dot_S32x256x512_S512x128_S32x256x128_2_0_01_1_n_n none l r) : (⟨S32x256x512, .f32⟩ : BufTy).Contents (Elt F) → (⟨S512x128, .f32⟩ : BufTy).Contents (Elt F) → (⟨S32x256x128, .f32⟩ : BufTy).Contents (Elt F)),
    StableHlo.unary main_arg10 main_v33 (broadcastInDim S1x1x128 ![2] bcast_S128_S1x1x128_2 : (⟨S128, .f32⟩ : BufTy).Contents (Elt F) → (⟨S1x1x128, .f32⟩ : BufTy).Contents (Elt F)),
    StableHlo.unary main_v33 main_v34 (broadcastInDim S32x256x128 ![0, 1, 2] bcast_S1x1x128_S32x256x128_0_1_2 : (⟨S1x1x128, .f32⟩ : BufTy).Contents (Elt F) → (⟨S32x256x128, .f32⟩ : BufTy).Contents (Elt F)),
    StableHlo.binary main_v32 main_v34 main_v35 (addf : (⟨S32x256x128, .f32⟩ : BufTy).Contents (Elt F) → (⟨S32x256x128, .f32⟩ : BufTy).Contents (Elt F) → (⟨S32x256x128, .f32⟩ : BufTy).Contents (Elt F)) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 15 host operations of @log_softmax (main_call3), window 0 (statements 1 … 60), in order. -/
abbrev main_part0_ops4 : List (HloOp τ sig (Elt F)) :=
  [ StableHlo.TRef.nullary (.of main_call3_cst : StableHlo.TRef sig ⟨S_, .f32⟩) (constant S_ .f32 0xFF800000#32),
    StableHlo.TRef.binary (.of main_v35 : StableHlo.TRef sig ⟨S32x256x128, .f32⟩) (.of main_call3_cst : StableHlo.TRef sig ⟨S_, .f32⟩) (.of main_call3_v0 : StableHlo.TRef sig ⟨S32x256, .f32⟩) (fun x v => Host.reduce FloatOps.maximumf x v reducesTo_S32x256x128_S32x256_d2 h_S_),
    StableHlo.TRef.nullary (.of main_call3_cst_0 : StableHlo.TRef sig ⟨S_, .f32⟩) (constant S_ .f32 0xFF800000#32),
    StableHlo.TRef.unary (.of main_call3_cst_0 : StableHlo.TRef sig ⟨S_, .f32⟩) (.of main_call3_v1 : StableHlo.TRef sig ⟨S32x256, .f32⟩) (broadcastInDim S32x256 ![] bcast_S_S32x256),
    StableHlo.TRef.binary (.of main_call3_v1 : StableHlo.TRef sig ⟨S32x256, .f32⟩) (.of main_call3_v0 : StableHlo.TRef sig ⟨S32x256, .f32⟩) (.of main_call3_v2 : StableHlo.TRef sig ⟨S32x256, .f32⟩) maximumf,
    StableHlo.TRef.unary (.of main_call3_v2 : StableHlo.TRef sig ⟨S32x256, .f32⟩) (.of main_call3_v3 : StableHlo.TRef sig ⟨S32x256x1, .f32⟩) (broadcastInDim S32x256x1 ![0, 1] bcast_S32x256_S32x256x1_0_1),
    StableHlo.TRef.unary (.of main_call3_v3 : StableHlo.TRef sig ⟨S32x256x1, .f32⟩) (.of main_call3_v4 : StableHlo.TRef sig ⟨S32x256x128, .f32⟩) (broadcastInDim S32x256x128 ![0, 1, 2] bcast_S32x256x1_S32x256x128_0_1_2),
    StableHlo.TRef.binary (.of main_v35 : StableHlo.TRef sig ⟨S32x256x128, .f32⟩) (.of main_call3_v4 : StableHlo.TRef sig ⟨S32x256x128, .f32⟩) (.of main_call3_v5 : StableHlo.TRef sig ⟨S32x256x128, .f32⟩) subf,
    StableHlo.TRef.unary (.of main_call3_v5 : StableHlo.TRef sig ⟨S32x256x128, .f32⟩) (.of main_call3_v6 : StableHlo.TRef sig ⟨S32x256x128, .f32⟩) Host.exp,
    StableHlo.TRef.nullary (.of main_call3_cst_1 : StableHlo.TRef sig ⟨S_, .f32⟩) (constant S_ .f32 0x00000000#32),
    StableHlo.TRef.binary (.of main_call3_v6 : StableHlo.TRef sig ⟨S32x256x128, .f32⟩) (.of main_call3_cst_1 : StableHlo.TRef sig ⟨S_, .f32⟩) (.of main_call3_v7 : StableHlo.TRef sig ⟨S32x256, .f32⟩) (fun x v => Host.reduceAdd x v reducesTo_S32x256x128_S32x256_d2 h_S_),
    StableHlo.TRef.unary (.of main_call3_v7 : StableHlo.TRef sig ⟨S32x256, .f32⟩) (.of main_call3_v8 : StableHlo.TRef sig ⟨S32x256x1, .f32⟩) (broadcastInDim S32x256x1 ![0, 1] bcast_S32x256_S32x256x1_0_1),
    StableHlo.TRef.unary (.of main_call3_v8 : StableHlo.TRef sig ⟨S32x256x1, .f32⟩) (.of main_call3_v9 : StableHlo.TRef sig ⟨S32x256x1, .f32⟩) Host.log,
    StableHlo.TRef.unary (.of main_call3_v9 : StableHlo.TRef sig ⟨S32x256x1, .f32⟩) (.of main_call3_v10 : StableHlo.TRef sig ⟨S32x256x128, .f32⟩) (broadcastInDim S32x256x128 ![0, 1, 2] bcast_S32x256x1_S32x256x128_0_1_2),
    StableHlo.TRef.binary (.of main_call3_v5 : StableHlo.TRef sig ⟨S32x256x128, .f32⟩) (.of main_call3_v10 : StableHlo.TRef sig ⟨S32x256x128, .f32⟩) (.of main_v36 : StableHlo.TRef sig ⟨S32x256x128, .f32⟩) subf ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
/-- 1 host operation of @main, window 0 (statements 1 … 60), in order. -/
abbrev main_part0_ops5 : List (HloOp τ sig (Elt F)) :=
  [ StableHlo.unary main_arg15 main_v37 (broadcastInDim S32x256x1 ![0, 1] bcast_S32x256_S32x256x1_0_1 : (⟨S32x256, .i32⟩ : BufTy).Contents (Elt F) → (⟨S32x256x1, .i32⟩ : BufTy).Contents (Elt F)) ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  StableHlo.unary_bufs_sub ..
/-- 22 host operations of @take_along_axis (main_call4), window 0 (statements 1 … 60), in order. -/
abbrev main_part0_ops6 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S32x256x1, .i32⟩) (broadcastInDim S32x256x1 ![] bcast_S_S32x256x1),
    StableHlo.TRef.binary (.of main_v37 : StableHlo.TRef sig ⟨S32x256x1, .i32⟩) (.of main_call4_v0 : StableHlo.TRef sig ⟨S32x256x1, .i32⟩) (.of main_call4_v1 : StableHlo.TRef sig ⟨S32x256x1, .i1⟩) (cmpi .slt),
    StableHlo.TRef.nullary (.of main_call4_c_0 : StableHlo.TRef sig ⟨S_, .i32⟩) (constantI S_ 32 128#32),
    StableHlo.TRef.unary (.of main_call4_c_0 : StableHlo.TRef sig ⟨S_, .i32⟩) (.of main_call4_v2 : StableHlo.TRef sig ⟨S32x256x1, .i32⟩) (broadcastInDim S32x256x1 ![] bcast_S_S32x256x1),
    StableHlo.TRef.binary (.of main_v37 : StableHlo.TRef sig ⟨S32x256x1, .i32⟩) (.of main_call4_v2 : StableHlo.TRef sig ⟨S32x256x1, .i32⟩) (.of main_call4_v3 : StableHlo.TRef sig ⟨S32x256x1, .i32⟩) addi,
    StableHlo.TRef.ternary (.of main_call4_v1 : StableHlo.TRef sig ⟨S32x256x1, .i1⟩) (.of main_call4_v3 : StableHlo.TRef sig ⟨S32x256x1, .i32⟩) (.of main_v37 : StableHlo.TRef sig ⟨S32x256x1, .i32⟩) (.of main_call4_v4 : StableHlo.TRef sig ⟨S32x256x1, .i32⟩) select,
    StableHlo.TRef.reshape (.of main_call4_v4 : StableHlo.TRef sig ⟨S32x256x1, .i32⟩) (.of main_call4_v5 : StableHlo.TRef sig ⟨S32x256x1x1, .i32⟩) (rfl : (.i32 : EltTy) = .i32) shapeCasts_S32x256x1_S32x256x1x1,
    StableHlo.TRef.nullary (.of main_call4_c_1 : StableHlo.TRef sig ⟨S1, .i32⟩) (constantI S1 32 127#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S32x256x1x1, .i32⟩) (broadcastInDim S32x256x1x1 ![] bcast_S_S32x256x1x1),
    StableHlo.TRef.binary (.of main_call4_v5 : StableHlo.TRef sig ⟨S32x256x1x1, .i32⟩) (.of main_call4_v6 : StableHlo.TRef sig ⟨S32x256x1x1, .i32⟩) (.of main_call4_v7 : StableHlo.TRef sig ⟨S32x256x1x1, .i1⟩) (cmpi .sge),
    StableHlo.TRef.unary (.of main_call4_c_1 : StableHlo.TRef sig ⟨S1, .i32⟩) (.of main_call4_v8 : StableHlo.TRef sig ⟨S1x1x1x1, .i32⟩) (broadcastInDim S1x1x1x1 ![3] bcast_S1_S1x1x1x1_3),
    StableHlo.TRef.unary (.of main_call4_v8 : StableHlo.TRef sig ⟨S1x1x1x1, .i32⟩) (.of main_call4_v9 : StableHlo.TRef sig ⟨S32x256x1x1, .i32⟩) (broadcastInDim S32x256x1x1 ![0, 1, 2, 3] bcast_S1x1x1x1_S32x256x1x1_0_1_2_3),
    StableHlo.TRef.binary (.of main_call4_v5 : StableHlo.TRef sig ⟨S32x256x1x1, .i32⟩) (.of main_call4_v9 : StableHlo.TRef sig ⟨S32x256x1x1, .i32⟩) (.of main_call4_v10 : StableHlo.TRef sig ⟨S32x256x1x1, .i1⟩) (cmpi .sle),
    StableHlo.TRef.binary (.of main_call4_v7 : StableHlo.TRef sig ⟨S32x256x1x1, .i1⟩) (.of main_call4_v10 : StableHlo.TRef sig ⟨S32x256x1x1, .i1⟩) (.of main_call4_v11 : StableHlo.TRef sig ⟨S32x256x1x1, .i1⟩) andi,
    StableHlo.TRef.nullary (.of main_call4_c_3 : StableHlo.TRef sig ⟨S_, .i1⟩) (constantI S_ 1 1#1),
    StableHlo.TRef.binary (.of main_call4_v11 : StableHlo.TRef sig ⟨S32x256x1x1, .i1⟩) (.of main_call4_c_3 : StableHlo.TRef sig ⟨S_, .i1⟩) (.of main_call4_v12 : StableHlo.TRef sig ⟨S32x256x1, .i1⟩) (fun x v => Host.reduce IntOp.andi x v reducesTo_S32x256x1x1_S32x256x1_d3 h_S_),
    StableHlo.TRef.binary (.of main_v36 : StableHlo.TRef sig ⟨S32x256x128, .f32⟩) (.of main_call4_v5 : StableHlo.TRef sig ⟨S32x256x1x1, .i32⟩) (.of main_call4_v13 : StableHlo.TRef sig ⟨S32x256x1, .f32⟩) (fun x i => Host.gather gather_S32x256x128_S32x256x1x1_S32x256x1_n_2_01_01_2_3_111 x i),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v14 : StableHlo.TRef sig ⟨S32x256x1, .f32⟩) (broadcastInDim S32x256x1 ![] bcast_S_S32x256x1),
    StableHlo.TRef.ternary (.of main_call4_v12 : StableHlo.TRef sig ⟨S32x256x1, .i1⟩) (.of main_call4_v13 : StableHlo.TRef sig ⟨S32x256x1, .f32⟩) (.of main_call4_v14 : StableHlo.TRef sig ⟨S32x256x1, .f32⟩) (.of main_v38 : StableHlo.TRef sig ⟨S32x256x1, .f32⟩) select ]
/-- Each touches TensorCore references only (`HostSeg.ofOps` over `StableHlo.tcRefs`, or a subset by `sub_ucRefs`). -/
theorem main_part0_ops6_sub : (main_part0_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 8 host operations of @main, window 0 (statements 1 … 60), in order. -/
abbrev main_part0_ops7 : List (HloOp τ sig (Elt F)) :=
  [ StableHlo.reshape main_v38 main_v39 (rfl : (.f32 : EltTy) = .f32) shapeCasts_S32x256x1_S32x256,
    StableHlo.nullary main_cst_5 (constant S_ .f32 0x00000000#32),
    StableHlo.binary main_v39 main_cst_5 main_v40 ((fun x v => Host.reduceAdd x v reducesTo_S32x256_S32_d1 h_S_) : (⟨S32x256, .f32⟩ : BufTy).Contents (Elt F) → (⟨S_, .f32⟩ : BufTy).Contents (Elt F) → (⟨S32, .f32⟩ : BufTy).Contents (Elt F)),
    StableHlo.unary main_arg11 main_v41 ((transpose S512x512 [1, 0] · transposes_S512x512_S512x512_1_0) : (⟨S512x512, .f32⟩ : BufTy).Contents (Elt F) → (⟨S512x512, .f32⟩ : BufTy).Contents (Elt F)),
    StableHlo.binary main_v30 main_v41 main_v42 ((fun l r => Host.dotGeneral dot_S32x256x512_S512x512_S32x256x512_2_0_01_1_n_n none l r) : (⟨S32x256x512, .f32⟩ : BufTy).Contents (Elt F) → (⟨S512x512, .f32⟩ : BufTy).Contents (Elt F) → (⟨S32x256x512, .f32⟩ : BufTy).Contents (Elt F)),
    StableHlo.unary main_arg12 main_v43 ((transpose S512x512 [1, 0] · transposes_S512x512_S512x512_1_0) : (⟨S512x512, .f32⟩ : BufTy).Contents (Elt F) → (⟨S512x512, .f32⟩ : BufTy).Contents (Elt F)),
    StableHlo.binary main_arg1 main_v43 main_v44 ((fun l r => Host.dotGeneral dot_S32x32x512_S512x512_S32x32x512_2_0_01_1_n_n none l r) : (⟨S32x32x512, .f32⟩ : BufTy).Contents (Elt F) → (⟨S512x512, .f32⟩ : BufTy).Contents (Elt F) → (⟨S32x32x512, .f32⟩ : BufTy).Contents (Elt F)),
    StableHlo.unary main_v42 main_v45 (broadcastInDim S32x256x1x512 ![0, 1, 3] bcast_S32x256x512_S32x256x1x512_0_1_3 : (⟨S32x256x512, .f32⟩ : BufTy).Contents (Elt F) → (⟨S32x256x1x512, .f32⟩ : BufTy).Contents (Elt F)) ]
/-- Each touches TensorCore references only (`HostSeg.ofOps` over `StableHlo.tcRefs`, or a subset by `sub_ucRefs`). -/
theorem main_part0_ops7_sub : (main_part0_ops7 : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.binary_bufs_sub .., StableHlo.unary_bufs_sub .., StableHlo.binary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    HostLoop.enter 0,
    StableHlo.seq main_part0_ops3,
    StableHlo.seq main_part0_ops4,
    StableHlo.seq main_part0_ops5,
    StableHlo.seq main_part0_ops6 ]
  (StableHlo.seq main_part0_ops7) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 6 host operations of @main, window 1 (statements 61 … 76), in order. -/
abbrev main_part1_ops0 : List (HloOp τ sig (Elt F)) :=
  [ StableHlo.unary main_v44 main_v46 (broadcastInDim S32x1x32x512 ![0, 2, 3] bcast_S32x32x512_S32x1x32x512_0_2_3 : (⟨S32x32x512, .f32⟩ : BufTy).Contents (Elt F) → (⟨S32x1x32x512, .f32⟩ : BufTy).Contents (Elt F)),
    StableHlo.unary main_v45 main_v47 (broadcastInDim S32x256x32x512 ![0, 1, 2, 3] bcast_S32x256x1x512_S32x256x32x512_0_1_2_3 : (⟨S32x256x1x512, .f32⟩ : BufTy).Contents (Elt F) → (⟨S32x256x32x512, .f32⟩ : BufTy).Contents (Elt F)),
    StableHlo.unary main_v46 main_v48 (broadcastInDim S32x256x32x512 ![0, 1, 2, 3] bcast_S32x1x32x512_S32x256x32x512_0_1_2_3 : (⟨S32x1x32x512, .f32⟩ : BufTy).Contents (Elt F) → (⟨S32x256x32x512, .f32⟩ : BufTy).Contents (Elt F)),
    StableHlo.binary main_v47 main_v48 main_v49 (addf : (⟨S32x256x32x512, .f32⟩ : BufTy).Contents (Elt F) → (⟨S32x256x32x512, .f32⟩ : BufTy).Contents (Elt F) → (⟨S32x256x32x512, .f32⟩ : BufTy).Contents (Elt F)),
    StableHlo.unary main_v49 main_v50 (Host.tanh : (⟨S32x256x32x512, .f32⟩ : BufTy).Contents (Elt F) → (⟨S32x256x32x512, .f32⟩ : BufTy).Contents (Elt F)),
    StableHlo.binary main_v50 main_arg13 main_v51 ((fun l r => Host.dotGeneral dot_S32x256x32x512_S512_S32x256x32_3_0_012_n_n_n none l r) : (⟨S32x256x32x512, .f32⟩ : BufTy).Contents (Elt F) → (⟨S512, .f32⟩ : BufTy).Contents (Elt F) → (⟨S32x256x32, .f32⟩ : BufTy).Contents (Elt F)) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.binary_bufs_sub ..⟩
/-- 15 host operations of @log_softmax_0 (main_call5), window 1 (statements 61 … 76), in order. -/
abbrev main_part1_ops1 : List (HloOp τ sig (Elt F)) :=
  [ StableHlo.TRef.nullary (.of main_call5_cst : StableHlo.TRef sig ⟨S_, .f32⟩) (constant S_ .f32 0xFF800000#32),
    StableHlo.TRef.binary (.of main_v51 : StableHlo.TRef sig ⟨S32x256x32, .f32⟩) (.of main_call5_cst : StableHlo.TRef sig ⟨S_, .f32⟩) (.of main_call5_v0 : StableHlo.TRef sig ⟨S32x256, .f32⟩) (fun x v => Host.reduce FloatOps.maximumf x v reducesTo_S32x256x32_S32x256_d2 h_S_),
    StableHlo.TRef.nullary (.of main_call5_cst_0 : StableHlo.TRef sig ⟨S_, .f32⟩) (constant S_ .f32 0xFF800000#32),
    StableHlo.TRef.unary (.of main_call5_cst_0 : StableHlo.TRef sig ⟨S_, .f32⟩) (.of main_call5_v1 : StableHlo.TRef sig ⟨S32x256, .f32⟩) (broadcastInDim S32x256 ![] bcast_S_S32x256),
    StableHlo.TRef.binary (.of main_call5_v1 : StableHlo.TRef sig ⟨S32x256, .f32⟩) (.of main_call5_v0 : StableHlo.TRef sig ⟨S32x256, .f32⟩) (.of main_call5_v2 : StableHlo.TRef sig ⟨S32x256, .f32⟩) maximumf,
    StableHlo.TRef.unary (.of main_call5_v2 : StableHlo.TRef sig ⟨S32x256, .f32⟩) (.of main_call5_v3 : StableHlo.TRef sig ⟨S32x256x1, .f32⟩) (broadcastInDim S32x256x1 ![0, 1] bcast_S32x256_S32x256x1_0_1),
    StableHlo.TRef.unary (.of main_call5_v3 : StableHlo.TRef sig ⟨S32x256x1, .f32⟩) (.of main_call5_v4 : StableHlo.TRef sig ⟨S32x256x32, .f32⟩) (broadcastInDim S32x256x32 ![0, 1, 2] bcast_S32x256x1_S32x256x32_0_1_2),
    StableHlo.TRef.binary (.of main_v51 : StableHlo.TRef sig ⟨S32x256x32, .f32⟩) (.of main_call5_v4 : StableHlo.TRef sig ⟨S32x256x32, .f32⟩) (.of main_call5_v5 : StableHlo.TRef sig ⟨S32x256x32, .f32⟩) subf,
    StableHlo.TRef.unary (.of main_call5_v5 : StableHlo.TRef sig ⟨S32x256x32, .f32⟩) (.of main_call5_v6 : StableHlo.TRef sig ⟨S32x256x32, .f32⟩) Host.exp,
    StableHlo.TRef.nullary (.of main_call5_cst_1 : StableHlo.TRef sig ⟨S_, .f32⟩) (constant S_ .f32 0x00000000#32),
    StableHlo.TRef.binary (.of main_call5_v6 : StableHlo.TRef sig ⟨S32x256x32, .f32⟩) (.of main_call5_cst_1 : StableHlo.TRef sig ⟨S_, .f32⟩) (.of main_call5_v7 : StableHlo.TRef sig ⟨S32x256, .f32⟩) (fun x v => Host.reduceAdd x v reducesTo_S32x256x32_S32x256_d2 h_S_),
    StableHlo.TRef.unary (.of main_call5_v7 : StableHlo.TRef sig ⟨S32x256, .f32⟩) (.of main_call5_v8 : StableHlo.TRef sig ⟨S32x256x1, .f32⟩) (broadcastInDim S32x256x1 ![0, 1] bcast_S32x256_S32x256x1_0_1),
    StableHlo.TRef.unary (.of main_call5_v8 : StableHlo.TRef sig ⟨S32x256x1, .f32⟩) (.of main_call5_v9 : StableHlo.TRef sig ⟨S32x256x1, .f32⟩) Host.log,
    StableHlo.TRef.unary (.of main_call5_v9 : StableHlo.TRef sig ⟨S32x256x1, .f32⟩) (.of main_call5_v10 : StableHlo.TRef sig ⟨S32x256x32, .f32⟩) (broadcastInDim S32x256x32 ![0, 1, 2] bcast_S32x256x1_S32x256x32_0_1_2),
    StableHlo.TRef.binary (.of main_call5_v5 : StableHlo.TRef sig ⟨S32x256x32, .f32⟩) (.of main_call5_v10 : StableHlo.TRef sig ⟨S32x256x32, .f32⟩) (.of main_v52 : StableHlo.TRef sig ⟨S32x256x32, .f32⟩) subf ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
/-- 1 host operation of @main, window 1 (statements 61 … 76), in order. -/
abbrev main_part1_ops2 : List (HloOp τ sig (Elt F)) :=
  [ StableHlo.unary main_arg17 main_v53 (broadcastInDim S32x256x1 ![0, 1] bcast_S32x256_S32x256x1_0_1 : (⟨S32x256, .i32⟩ : BufTy).Contents (Elt F) → (⟨S32x256x1, .i32⟩ : BufTy).Contents (Elt F)) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  StableHlo.unary_bufs_sub ..
/-- 22 host operations of @take_along_axis_1 (main_call6), window 1 (statements 61 … 76), in order. -/
abbrev main_part1_ops3 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S32x256x1, .i32⟩) (broadcastInDim S32x256x1 ![] bcast_S_S32x256x1),
    StableHlo.TRef.binary (.of main_v53 : StableHlo.TRef sig ⟨S32x256x1, .i32⟩) (.of main_call6_v0 : StableHlo.TRef sig ⟨S32x256x1, .i32⟩) (.of main_call6_v1 : StableHlo.TRef sig ⟨S32x256x1, .i1⟩) (cmpi .slt),
    StableHlo.TRef.nullary (.of main_call6_c_0 : StableHlo.TRef sig ⟨S_, .i32⟩) (constantI S_ 32 32#32),
    StableHlo.TRef.unary (.of main_call6_c_0 : StableHlo.TRef sig ⟨S_, .i32⟩) (.of main_call6_v2 : StableHlo.TRef sig ⟨S32x256x1, .i32⟩) (broadcastInDim S32x256x1 ![] bcast_S_S32x256x1),
    StableHlo.TRef.binary (.of main_v53 : StableHlo.TRef sig ⟨S32x256x1, .i32⟩) (.of main_call6_v2 : StableHlo.TRef sig ⟨S32x256x1, .i32⟩) (.of main_call6_v3 : StableHlo.TRef sig ⟨S32x256x1, .i32⟩) addi,
    StableHlo.TRef.ternary (.of main_call6_v1 : StableHlo.TRef sig ⟨S32x256x1, .i1⟩) (.of main_call6_v3 : StableHlo.TRef sig ⟨S32x256x1, .i32⟩) (.of main_v53 : StableHlo.TRef sig ⟨S32x256x1, .i32⟩) (.of main_call6_v4 : StableHlo.TRef sig ⟨S32x256x1, .i32⟩) select,
    StableHlo.TRef.reshape (.of main_call6_v4 : StableHlo.TRef sig ⟨S32x256x1, .i32⟩) (.of main_call6_v5 : StableHlo.TRef sig ⟨S32x256x1x1, .i32⟩) (rfl : (.i32 : EltTy) = .i32) shapeCasts_S32x256x1_S32x256x1x1,
    StableHlo.TRef.nullary (.of main_call6_c_1 : StableHlo.TRef sig ⟨S1, .i32⟩) (constantI S1 32 31#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S32x256x1x1, .i32⟩) (broadcastInDim S32x256x1x1 ![] bcast_S_S32x256x1x1),
    StableHlo.TRef.binary (.of main_call6_v5 : StableHlo.TRef sig ⟨S32x256x1x1, .i32⟩) (.of main_call6_v6 : StableHlo.TRef sig ⟨S32x256x1x1, .i32⟩) (.of main_call6_v7 : StableHlo.TRef sig ⟨S32x256x1x1, .i1⟩) (cmpi .sge),
    StableHlo.TRef.unary (.of main_call6_c_1 : StableHlo.TRef sig ⟨S1, .i32⟩) (.of main_call6_v8 : StableHlo.TRef sig ⟨S1x1x1x1, .i32⟩) (broadcastInDim S1x1x1x1 ![3] bcast_S1_S1x1x1x1_3),
    StableHlo.TRef.unary (.of main_call6_v8 : StableHlo.TRef sig ⟨S1x1x1x1, .i32⟩) (.of main_call6_v9 : StableHlo.TRef sig ⟨S32x256x1x1, .i32⟩) (broadcastInDim S32x256x1x1 ![0, 1, 2, 3] bcast_S1x1x1x1_S32x256x1x1_0_1_2_3),
    StableHlo.TRef.binary (.of main_call6_v5 : StableHlo.TRef sig ⟨S32x256x1x1, .i32⟩) (.of main_call6_v9 : StableHlo.TRef sig ⟨S32x256x1x1, .i32⟩) (.of main_call6_v10 : StableHlo.TRef sig ⟨S32x256x1x1, .i1⟩) (cmpi .sle),
    StableHlo.TRef.binary (.of main_call6_v7 : StableHlo.TRef sig ⟨S32x256x1x1, .i1⟩) (.of main_call6_v10 : StableHlo.TRef sig ⟨S32x256x1x1, .i1⟩) (.of main_call6_v11 : StableHlo.TRef sig ⟨S32x256x1x1, .i1⟩) andi,
    StableHlo.TRef.nullary (.of main_call6_c_3 : StableHlo.TRef sig ⟨S_, .i1⟩) (constantI S_ 1 1#1),
    StableHlo.TRef.binary (.of main_call6_v11 : StableHlo.TRef sig ⟨S32x256x1x1, .i1⟩) (.of main_call6_c_3 : StableHlo.TRef sig ⟨S_, .i1⟩) (.of main_call6_v12 : StableHlo.TRef sig ⟨S32x256x1, .i1⟩) (fun x v => Host.reduce IntOp.andi x v reducesTo_S32x256x1x1_S32x256x1_d3 h_S_),
    StableHlo.TRef.binary (.of main_v52 : StableHlo.TRef sig ⟨S32x256x32, .f32⟩) (.of main_call6_v5 : StableHlo.TRef sig ⟨S32x256x1x1, .i32⟩) (.of main_call6_v13 : StableHlo.TRef sig ⟨S32x256x1, .f32⟩) (fun x i => Host.gather gather_S32x256x32_S32x256x1x1_S32x256x1_n_2_01_01_2_3_111 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S32x256x1, .f32⟩) (broadcastInDim S32x256x1 ![] bcast_S_S32x256x1),
    StableHlo.TRef.ternary (.of main_call6_v12 : StableHlo.TRef sig ⟨S32x256x1, .i1⟩) (.of main_call6_v13 : StableHlo.TRef sig ⟨S32x256x1, .f32⟩) (.of main_call6_v14 : StableHlo.TRef sig ⟨S32x256x1, .f32⟩) (.of main_v54 : StableHlo.TRef sig ⟨S32x256x1, .f32⟩) select ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 2 host operations of @main, window 1 (statements 61 … 76), in order. -/
abbrev main_part1_ops4 : List (HloOp τ sig (Elt F)) :=
  [ StableHlo.reshape main_v54 main_v55 (rfl : (.f32 : EltTy) = .f32) shapeCasts_S32x256x1_S32x256,
    StableHlo.nullary main_cst_6 (constant S_ .f32 0x00000000#32) ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.reshape_bufs_sub .., StableHlo.nullary_bufs_sub ..⟩
/-- 3 host operations of @_where_2 (main_call7), window 1 (statements 61 … 76), in order. -/
abbrev main_part1_ops5 : List (HloOp τ sig (Elt F)) :=
  [ StableHlo.TRef.unary (.of main_cst_6 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S32x256, .f32⟩) (broadcastInDim S32x256 ![] bcast_S_S32x256),
    StableHlo.TRef.ternary (.of main_arg18 : StableHlo.TRef sig ⟨S32x256, .i1⟩) (.of main_v55 : StableHlo.TRef sig ⟨S32x256, .f32⟩) (.of main_call7_v1 : StableHlo.TRef sig ⟨S32x256, .f32⟩) (.of main_v56 : StableHlo.TRef sig ⟨S32x256, .f32⟩) select ]
/-- Each touches TensorCore references only (`HostSeg.ofOps` over `StableHlo.tcRefs`, or a subset by `sub_ucRefs`). -/
theorem main_part1_ops5_sub : (main_part1_ops5 : List (HloOp τ sig (Elt F))).Forall fun op => op.bufs ⊆ StableHlo.tcRefs τ sig :=
  ⟨StableHlo.unary_bufs_sub .., StableHlo.unary_bufs_sub .., StableHlo.ternary_bufs_sub ..⟩
/-- 3 host operations of @main, window 1 (statements 61 … 76), in order. -/
abbrev main_part1_ops6 : List (HloOp τ sig (Elt F)) :=
  [ StableHlo.nullary main_cst_7 (constant S_ .f32 0x00000000#32),
    StableHlo.binary main_v56 main_cst_7 main_v57 ((fun x v => Host.reduceAdd x v reducesTo_S32x256_S32_d1 h_S_) : (⟨S32x256, .f32⟩ : BufTy).Contents (Elt F) → (⟨S_, .f32⟩ : BufTy).Contents (Elt F) → (⟨S32, .f32⟩ : BufTy).Contents (Elt F)),
    StableHlo.binary main_v40 main_v57 main_v58 (addf : (⟨S32, .f32⟩ : BufTy).Contents (Elt F) → (⟨S32, .f32⟩ : BufTy).Contents (Elt F) → (⟨S32, .f32⟩ : BufTy).Contents (Elt F)) ]
/-- Each touches TensorCore references only (`HostSeg.ofOps` over `StableHlo.tcRefs`, or a subset by `sub_ucRefs`). -/
theorem main_part1_ops6_sub : (main_part1_ops6 : List (HloOp τ sig (Elt F))).Forall fun op => op.bufs ⊆ StableHlo.tcRefs τ sig :=
  ⟨StableHlo.nullary_bufs_sub .., StableHlo.binary_bufs_sub .., StableHlo.binary_bufs_sub ..⟩
/-- The last window of `main` (`main_part1`, statements 61 … 76) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    HostLoop.enter 0,
    StableHlo.seq main_part0_ops3,
    StableHlo.seq main_part0_ops4,
    StableHlo.seq main_part0_ops5,
    StableHlo.seq main_part0_ops6,
    StableHlo.seq main_part0_ops7,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .prog (HostLoop.enter 0),
    .ops [main_part0_ops3],
    .ops [main_part0_ops4],
    .ops [main_part0_ops5],
    .ops [main_part0_ops6],
    .ops [main_part0_ops7, main_part1_ops0],
    .ops [main_part1_ops1],
    .ops [main_part1_ops2],
    .ops [main_part1_ops3],
    .ops [main_part1_ops4],
    .ops [main_part1_ops5],
    .ops [main_part1_ops6] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    HostLoop.enter 0,
    StableHlo.seq main_part0_ops3,
    StableHlo.seq main_part0_ops4,
    StableHlo.seq main_part0_ops5,
    StableHlo.seq main_part0_ops6,
    StableHlo.seq main_part0_ops7,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    HostLoop.enter 0,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    HostLoop.enter 0,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 4 host operations of @dynamic_index_in_dim (main_while0b_call1), in order. -/
abbrev while0Ops0 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v29_0 : StableHlo.TRef sig ⟨S256x32x1536, .f32⟩) ![(.of main_v29_3 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x32x1536, .f32⟩) (fun x i => Host.dynamicSlice S1x32x1536 x (fun k => (i k (Shape.Idx.first h_S_)).toInt) sliceFits_S256x32x1536_S1x32x1536),
    StableHlo.TRef.reshape (.of main_while0b_call1_v0 : StableHlo.TRef sig ⟨S1x32x1536, .f32⟩) (.of main_while0b_v59 : StableHlo.TRef sig ⟨S32x1536, .f32⟩) (rfl : (.f32 : EltTy) = .f32) shapeCasts_S1x32x1536_S32x1536 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 38 host operations of host loop 0's body region, in order. -/
abbrev while0Ops0_1 : List (HloOp τ sig (Elt F)) :=
  ( StableHlo.unary main_v29_1 main_while0b_v60 ((transpose S512x1536 [1, 0] · transposes_S1536x512_S512x1536_1_0) : (⟨S1536x512, .f32⟩ : BufTy).Contents (Elt F) → (⟨S512x1536, .f32⟩ : BufTy).Contents (Elt F))
  :: StableHlo.binary main_v29_4 main_while0b_v60 main_while0b_v61 ((fun l r => Host.dotGeneral dot_S32x512_S512x1536_S32x1536_1_0_0_1_n_n none l r) : (⟨S32x512, .f32⟩ : BufTy).Contents (Elt F) → (⟨S512x1536, .f32⟩ : BufTy).Contents (Elt F) → (⟨S32x1536, .f32⟩ : BufTy).Contents (Elt F))
  :: StableHlo.unary main_v29_2 main_while0b_v62 (broadcastInDim S1x1536 ![1] bcast_S1536_S1x1536_1 : (⟨S1536, .f32⟩ : BufTy).Contents (Elt F) → (⟨S1x1536, .f32⟩ : BufTy).Contents (Elt F))
  :: StableHlo.unary main_while0b_v62 main_while0b_v63 (broadcastInDim S32x1536 ![0, 1] bcast_S1x1536_S32x1536_0_1 : (⟨S1x1536, .f32⟩ : BufTy).Contents (Elt F) → (⟨S32x1536, .f32⟩ : BufTy).Contents (Elt F))
  :: StableHlo.binary main_while0b_v61 main_while0b_v63 main_while0b_v64 (addf : (⟨S32x1536, .f32⟩ : BufTy).Contents (Elt F) → (⟨S32x1536, .f32⟩ : BufTy).Contents (Elt F) → (⟨S32x1536, .f32⟩ : BufTy).Contents (Elt F))
  :: StableHlo.unary main_while0b_v59 main_while0b_v65 ((extractStridedSlice S32x512 ![0, 0] · slices_S32x1536_S32x512_0_0) : (⟨S32x1536, .f32⟩ : BufTy).Contents (Elt F) → (⟨S32x512, .f32⟩ : BufTy).Contents (Elt F))
  :: StableHlo.unary main_while0b_v59 main_while0b_v66 ((extractStridedSlice S32x512 ![0, 512] · slices_S32x1536_S32x512_0_512) : (⟨S32x1536, .f32⟩ : BufTy).Contents (Elt F) → (⟨S32x512, .f32⟩ : BufTy).Contents (Elt F))
  :: StableHlo.unary main_while0b_v59 main_while0b_v67 ((extractStridedSlice S32x512 ![0, 1024] · slices_S32x1536_S32x512_0_1024) : (⟨S32x1536, .f32⟩ : BufTy).Contents (Elt F) → (⟨S32x512, .f32⟩ : BufTy).Contents (Elt F))
  :: StableHlo.unary main_while0b_v64 main_while0b_v68 ((extractStridedSlice S32x512 ![0, 0] · slices_S32x1536_S32x512_0_0) : (⟨S32x1536, .f32⟩ : BufTy).Contents (Elt F) → (⟨S32x512, .f32⟩ : BufTy).Contents (Elt F))
  :: StableHlo.unary main_while0b_v64 main_while0b_v69 ((extractStridedSlice S32x512 ![0, 512] · slices_S32x1536_S32x512_0_512) : (⟨S32x1536, .f32⟩ : BufTy).Contents (Elt F) → (⟨S32x512, .f32⟩ : BufTy).Contents (Elt F))
  :: StableHlo.unary main_while0b_v64 main_while0b_v70 ((extractStridedSlice S32x512 ![0, 1024] · slices_S32x1536_S32x512_0_1024) : (⟨S32x1536, .f32⟩ : BufTy).Contents (Elt F) → (⟨S32x512, .f32⟩ : BufTy).Contents (Elt F))
  :: StableHlo.binary main_while0b_v65 main_while0b_v68 main_while0b_v71 (addf : (⟨S32x512, .f32⟩ : BufTy).Contents (Elt F) → (⟨S32x512, .f32⟩ : BufTy).Contents (Elt F) → (⟨S32x512, .f32⟩ : BufTy).Contents (Elt F))
  :: StableHlo.unary main_while0b_v71 main_while0b_v72 (Host.negf : (⟨S32x512, .f32⟩ : BufTy).Contents (Elt F) → (⟨S32x512, .f32⟩ : BufTy).Contents (Elt F))
  :: StableHlo.unary main_while0b_v72 main_while0b_v73 (Host.exp : (⟨S32x512, .f32⟩ : BufTy).Contents (Elt F) → (⟨S32x512, .f32⟩ : BufTy).Contents (Elt F))
  :: StableHlo.nullary main_while0b_cst_13 (constant S_ .f32 0x3F800000#32)
  :: StableHlo.unary main_while0b_cst_13 main_while0b_v74 (broadcastInDim S32x512 ![] bcast_S_S32x512 : (⟨S_, .f32⟩ : BufTy).Contents (Elt F) → (⟨S32x512, .f32⟩ : BufTy).Contents (Elt F))
  :: StableHlo.binary main_while0b_v74 main_while0b_v73 main_while0b_v75 (addf : (⟨S32x512, .f32⟩ : BufTy).Contents (Elt F) → (⟨S32x512, .f32⟩ : BufTy).Contents (Elt F) → (⟨S32x512, .f32⟩ : BufTy).Contents (Elt F))
  :: StableHlo.nullary main_while0b_cst_14 (constant S_ .f32 0x3F800000#32)
  :: StableHlo.unary main_while0b_cst_14 main_while0b_v76 (broadcastInDim S32x512 ![] bcast_S_S32x512 : (⟨S_, .f32⟩ : BufTy).Contents (Elt F) → (⟨S32x512, .f32⟩ : BufTy).Contents (Elt F))
  :: StableHlo.binary main_while0b_v76 main_while0b_v75 main_while0b_v77 (Host.divf : (⟨S32x512, .f32⟩ : BufTy).Contents (Elt F) → (⟨S32x512, .f32⟩ : BufTy).Contents (Elt F) → (⟨S32x512, .f32⟩ : BufTy).Contents (Elt F))
  :: StableHlo.binary main_while0b_v66 main_while0b_v69 main_while0b_v78 (addf : (⟨S32x512, .f32⟩ : BufTy).Contents (Elt F) → (⟨S32x512, .f32⟩ : BufTy).Contents (Elt F) → (⟨S32x512, .f32⟩ : BufTy).Contents (Elt F))
  :: StableHlo.unary main_while0b_v78 main_while0b_v79 (Host.negf : (⟨S32x512, .f32⟩ : BufTy).Contents (Elt F) → (⟨S32x512, .f32⟩ : BufTy).Contents (Elt F))
  :: StableHlo.unary main_while0b_v79 main_while0b_v80 (Host.exp : (⟨S32x512, .f32⟩ : BufTy).Contents (Elt F) → (⟨S32x512, .f32⟩ : BufTy).Contents (Elt F))
  :: StableHlo.nullary main_while0b_cst_15 (constant S_ .f32 0x3F800000#32)
  :: StableHlo.unary main_while0b_cst_15 main_while0b_v81 (broadcastInDim S32x512 ![] bcast_S_S32x512 : (⟨S_, .f32⟩ : BufTy).Contents (Elt F) → (⟨S32x512, .f32⟩ : BufTy).Contents (Elt F))
  :: StableHlo.binary main_while0b_v81 main_while0b_v80 main_while0b_v82 (addf : (⟨S32x512, .f32⟩ : BufTy).Contents (Elt F) → (⟨S32x512, .f32⟩ : BufTy).Contents (Elt F) → (⟨S32x512, .f32⟩ : BufTy).Contents (Elt F))
  :: StableHlo.nullary main_while0b_cst_16 (constant S_ .f32 0x3F800000#32)
  :: StableHlo.unary main_while0b_cst_16 main_while0b_v83 (broadcastInDim S32x512 ![] bcast_S_S32x512 : (⟨S_, .f32⟩ : BufTy).Contents (Elt F) → (⟨S32x512, .f32⟩ : BufTy).Contents (Elt F))
  :: StableHlo.binary main_while0b_v83 main_while0b_v82 main_while0b_v84 (Host.divf : (⟨S32x512, .f32⟩ : BufTy).Contents (Elt F) → (⟨S32x512, .f32⟩ : BufTy).Contents (Elt F) → (⟨S32x512, .f32⟩ : BufTy).Contents (Elt F))
  :: StableHlo.binary main_while0b_v77 main_while0b_v70 main_while0b_v85 (mulf : (⟨S32x512, .f32⟩ : BufTy).Contents (Elt F) → (⟨S32x512, .f32⟩ : BufTy).Contents (Elt F) → (⟨S32x512, .f32⟩ : BufTy).Contents (Elt F))
  :: StableHlo.binary main_while0b_v67 main_while0b_v85 main_while0b_v86 (addf : (⟨S32x512, .f32⟩ : BufTy).Contents (Elt F) → (⟨S32x512, .f32⟩ : BufTy).Contents (Elt F) → (⟨S32x512, .f32⟩ : BufTy).Contents (Elt F))
  :: StableHlo.unary main_while0b_v86 main_while0b_v87 (Host.tanh : (⟨S32x512, .f32⟩ : BufTy).Contents (Elt F) → (⟨S32x512, .f32⟩ : BufTy).Contents (Elt F))
  :: StableHlo.nullary main_while0b_cst_17 (constant S_ .f32 0x3F800000#32)
  :: StableHlo.unary main_while0b_cst_17 main_while0b_v88 (broadcastInDim S32x512 ![] bcast_S_S32x512 : (⟨S_, .f32⟩ : BufTy).Contents (Elt F) → (⟨S32x512, .f32⟩ : BufTy).Contents (Elt F))
  :: StableHlo.binary main_while0b_v88 main_while0b_v84 main_while0b_v89 (subf : (⟨S32x512, .f32⟩ : BufTy).Contents (Elt F) → (⟨S32x512, .f32⟩ : BufTy).Contents (Elt F) → (⟨S32x512, .f32⟩ : BufTy).Contents (Elt F))
  :: StableHlo.binary main_while0b_v89 main_while0b_v87 main_while0b_v90 (mulf : (⟨S32x512, .f32⟩ : BufTy).Contents (Elt F) → (⟨S32x512, .f32⟩ : BufTy).Contents (Elt F) → (⟨S32x512, .f32⟩ : BufTy).Contents (Elt F))
  :: StableHlo.binary main_while0b_v84 main_v29_4 main_while0b_v91 (mulf : (⟨S32x512, .f32⟩ : BufTy).Contents (Elt F) → (⟨S32x512, .f32⟩ : BufTy).Contents (Elt F) → (⟨S32x512, .f32⟩ : BufTy).Contents (Elt F))
  :: StableHlo.binary main_while0b_v90 main_while0b_v91 main_while0b_v92 (addf : (⟨S32x512, .f32⟩ : BufTy).Contents (Elt F) → (⟨S32x512, .f32⟩ : BufTy).Contents (Elt F) → (⟨S32x512, .f32⟩ : BufTy).Contents (Elt F))
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩
/-- 4 host operations of @dynamic_update_index_in_dim (main_while0b_call2), in order. -/
abbrev while0Ops0_2 : List (HloOp τ sig (Elt F)) :=
  [ StableHlo.TRef.unary (.of main_while0b_v92 : StableHlo.TRef sig ⟨S32x512, .f32⟩) (.of main_while0b_call2_v0 : StableHlo.TRef sig ⟨S1x32x512, .f32⟩) (broadcastInDim S1x32x512 ![1, 2] bcast_S32x512_S1x32x512_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v29_5 : StableHlo.TRef sig ⟨S256x32x512, .f32⟩) (.of main_while0b_call2_v0 : StableHlo.TRef sig ⟨S1x32x512, .f32⟩) ![(.of main_v29_3 : StableHlo.TRef sig ⟨S_, .i32⟩), (.of main_while0b_call2_c : StableHlo.TRef sig ⟨S_, .i32⟩), (.of main_while0b_call2_c_0 : StableHlo.TRef sig ⟨S_, .i32⟩)] (.of main_while0b_v93 : StableHlo.TRef sig ⟨S256x32x512, .f32⟩) (fun x u i => Host.dynamicUpdateSlice x u (fun k => (i k (Shape.Idx.first h_S_)).toInt) updateFits_S256x32x512_S1x32x512) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 host operations of host loop 0's body region, in order. -/
abbrev while0Ops0_3 : List (HloOp τ sig (Elt F)) :=
  [ StableHlo.nullary main_while0b_c_18 (constantI S_ 32 1#32),
    StableHlo.binary main_v29_3 main_while0b_c_18 main_while0b_v94 (addi : (⟨S_, .i32⟩ : BufTy).Contents (Elt F) → (⟨S_, .i32⟩ : BufTy).Contents (Elt F) → (⟨S_, .i32⟩ : BufTy).Contents (Elt F)),
    StableHlo.unary main_while0b_v94 main_v29_3 id,
    StableHlo.unary main_while0b_v92 main_v29_4 id,
    StableHlo.unary main_while0b_v93 main_v29_5 id ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons]
  chain_rfl

end Cert.ReferenceIdeal.Ref

end
-- ==== Proof.Reference.Fold.lean ====
module

public import proofs.«01_k».proof.Proof.Reference.Ops

/-! The reference program's run: every weakly fair execution ends with the buffers at the fold of the operation lists
    (the lines before the loop, 256 trips, the lines after), and the arguments are written by none of them. -/

@[expose] public section

set_option maxRecDepth 1384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_c, main_v5, main_v6, main_c_0, main_v7, main_v8, main_v9, main_v10, main_v11, main_c_1, main_v12, main_v13, main_c_2, main_v14, main_v15, main_v16, main_v17, main_v18, main_v19, main_cst]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_v1, main_call0_v2, main_v20]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v21, main_v22, main_v23, main_v24, main_v25, main_v26, main_v27, main_cst_3, main_v28, main_c_4, main_v29_0, main_v29_1, main_v29_2, main_v29_3, main_v29_4, main_v29_5]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call1_c, main_while0b_call1_c_0, main_while0b_call1_v0, main_while0b_v59]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v60, main_while0b_v61, main_while0b_v62, main_while0b_v63, main_while0b_v64, main_while0b_v65, main_while0b_v66, main_while0b_v67, main_while0b_v68, main_while0b_v69, main_while0b_v70, main_while0b_v71, main_while0b_v72, main_while0b_v73, main_while0b_cst_13, main_while0b_v74, main_while0b_v75, main_while0b_cst_14, main_while0b_v76, main_while0b_v77, main_while0b_v78, main_while0b_v79, main_while0b_v80, main_while0b_cst_15, main_while0b_v81, main_while0b_v82, main_while0b_cst_16, main_while0b_v83, main_while0b_v84, main_while0b_v85, main_while0b_v86, main_while0b_v87, main_while0b_cst_17, main_while0b_v88, main_while0b_v89, main_while0b_v90, main_while0b_v91, main_while0b_v92]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call2_v0, main_while0b_call2_c, main_while0b_call2_c_0, main_while0b_v93]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_c_18, main_while0b_v94, main_v29_3, main_v29_4, main_v29_5]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl
/-- No operation of `hostOps0_11` allocates a buffer. -/
theorem hostOps0_11_fresh : (hostOps0_11 : List (HloOp τ sig (Elt F))).Forall fun op => op.fresh = ∅ :=
  StableHlo.forall_fresh_of_map rfl
/-- No operation of `hostOps0_12` allocates a buffer. -/
theorem hostOps0_12_fresh : (hostOps0_12 : List (HloOp τ sig (Elt F))).Forall fun op => op.fresh = ∅ :=
  StableHlo.forall_fresh_of_map rfl
/-- No operation of `hostOps0_13` allocates a buffer. -/
theorem hostOps0_13_fresh : (hostOps0_13 : List (HloOp τ sig (Elt F))).Forall fun op => op.fresh = ∅ :=
  StableHlo.forall_fresh_of_map rfl
/-- The reference each operation of `hostOps0_3` writes, in order. -/
abbrev hostOps0_3_W : List (Ref sig .tc) := [main_v30, main_v31, main_v32, main_v33, main_v34, main_v35]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v36]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_v37]
theorem hostOps0_5_writes : (hostOps0_5 : List (HloOp τ sig (Elt F))).Forall fun op => op.writes ⊆ (hostOps0_5_W.map (Proc.devRef (τ := τ) .tc)).toFinset :=
  StableHlo.forall_writes_sub_of_map rfl
/-- The reference each operation of `hostOps0_6` writes, in order. -/
abbrev hostOps0_6_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v38]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_v39, main_cst_5, main_v40, main_v41, main_v42, main_v43, main_v44, main_v45, main_v46, main_v47, main_v48, main_v49, main_v50, main_v51]
theorem hostOps0_7_writes : (hostOps0_7 : List (HloOp τ sig (Elt F))).Forall fun op => op.writes ⊆ (hostOps0_7_W.map (Proc.devRef (τ := τ) .tc)).toFinset :=
  StableHlo.forall_writes_sub_of_map rfl
/-- The reference each operation of `hostOps0_8` writes, in order. -/
abbrev hostOps0_8_W : List (Ref sig .tc) := [main_call5_cst, main_call5_v0, main_call5_cst_0, main_call5_v1, main_call5_v2, main_call5_v3, main_call5_v4, main_call5_v5, main_call5_v6, main_call5_cst_1, main_call5_v7, main_call5_v8, main_call5_v9, main_call5_v10, main_v52]
theorem hostOps0_8_writes : (hostOps0_8 : List (HloOp τ sig (Elt F))).Forall fun op => op.writes ⊆ (hostOps0_8_W.map (Proc.devRef (τ := τ) .tc)).toFinset :=
  StableHlo.forall_writes_sub_of_map rfl
/-- The reference each operation of `hostOps0_9` writes, in order. -/
abbrev hostOps0_9_W : List (Ref sig .tc) := [main_v53]
theorem hostOps0_9_writes : (hostOps0_9 : List (HloOp τ sig (Elt F))).Forall fun op => op.writes ⊆ (hostOps0_9_W.map (Proc.devRef (τ := τ) .tc)).toFinset :=
  StableHlo.forall_writes_sub_of_map rfl
/-- The reference each operation of `hostOps0_10` writes, in order. -/
abbrev hostOps0_10_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v54]
theorem hostOps0_10_writes : (hostOps0_10 : List (HloOp τ sig (Elt F))).Forall fun op => op.writes ⊆ (hostOps0_10_W.map (Proc.devRef (τ := τ) .tc)).toFinset :=
  StableHlo.forall_writes_sub_of_map rfl
/-- The reference each operation of `hostOps0_11` writes, in order. -/
abbrev hostOps0_11_W : List (Ref sig .tc) := [main_v55, main_cst_6]
theorem hostOps0_11_writes : (hostOps0_11 : List (HloOp τ sig (Elt F))).Forall fun op => op.writes ⊆ (hostOps0_11_W.map (Proc.devRef (τ := τ) .tc)).toFinset :=
  StableHlo.forall_writes_sub_of_map rfl
/-- The reference each operation of `hostOps0_12` writes, in order. -/
abbrev hostOps0_12_W : List (Ref sig .tc) := [main_call7_v0, main_call7_v1, main_v56]
theorem hostOps0_12_writes : (hostOps0_12 : List (HloOp τ sig (Elt F))).Forall fun op => op.writes ⊆ (hostOps0_12_W.map (Proc.devRef (τ := τ) .tc)).toFinset :=
  StableHlo.forall_writes_sub_of_map rfl
/-- The reference each operation of `hostOps0_13` writes, in order. -/
abbrev hostOps0_13_W : List (Ref sig .tc) := [main_cst_7, main_v57, main_v58]
theorem hostOps0_13_writes : (hostOps0_13 : List (HloOp τ sig (Elt F))).Forall fun op => op.writes ⊆ (hostOps0_13_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_13 (constantI S_ 32 256#32),
    StableHlo.binary main_v29_3 main_while0c_c_13 main_while0c_v59 (cmpi .slt) ]

/-- @main's stretches before the loop, the loop body's, and @main's after the loop. -/
abbrev preI : List (List (HloOp τ sig (Elt F))) := [hostOps0, hostOps0_1, hostOps0_2]
abbrev bodyI : List (List (HloOp τ sig (Elt F))) := [while0Ops0, while0Ops0_1, while0Ops0_2, while0Ops0_3]
abbrev postI : List (List (HloOp τ sig (Elt F))) := [hostOps0_3, hostOps0_4, hostOps0_5, hostOps0_6, hostOps0_7, hostOps0_8, hostOps0_9, hostOps0_10, hostOps0_11, hostOps0_12, hostOps0_13]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.nil)))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.nil))))
theorem hpost : Plain (postI (F := F)) := .cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.cons hostOps0_11_sub (hf := List.forall_iff_forall_mem.mp hostOps0_11_fresh) (.cons hostOps0_12_sub (hf := List.forall_iff_forall_mem.mp hostOps0_12_fresh) (.cons hostOps0_13_sub (hf := List.forall_iff_forall_mem.mp hostOps0_13_fresh) (.nil)))))))))))

/-- The reference each operation of `condOps` writes, in order. -/
abbrev condOps_W : List (Ref sig .tc) := [main_while0c_c_13, main_while0c_v59]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v29_3`) is written by one stretch of the body, `while0Ops0_3`: not by the condition, nor by the
    body's other stretches. -/
theorem ctr_cond (V : Valuation τ sig (Elt F)) : after condOps V (Proc.devRef .tc main_v29_3) = V (Proc.devRef .tc main_v29_3) :=
  after_of_writes_sub condOps V condOps_writes (by decide +kernel)
theorem ctr_while0Ops0 (V : Valuation τ sig (Elt F)) : after while0Ops0 V (Proc.devRef .tc main_v29_3) = V (Proc.devRef .tc main_v29_3) :=
  after_of_writes_sub while0Ops0 V while0Ops0_writes (by decide +kernel)
theorem ctr_while0Ops0_1 (V : Valuation τ sig (Elt F)) : after while0Ops0_1 V (Proc.devRef .tc main_v29_3) = V (Proc.devRef .tc main_v29_3) :=
  after_of_writes_sub while0Ops0_1 V while0Ops0_1_writes (by decide +kernel)
theorem ctr_while0Ops0_2 (V : Valuation τ sig (Elt F)) : after while0Ops0_2 V (Proc.devRef .tc main_v29_3) = V (Proc.devRef .tc main_v29_3) :=
  after_of_writes_sub while0Ops0_2 V while0Ops0_2_writes (by decide +kernel)

set_option maxRecDepth 100000 in
/-- `while0Ops0_3` leaves the counter one step on. -/
theorem ctr_step (X : Valuation τ sig (Elt F)) :
    after while0Ops0_3 X (Proc.devRef .tc main_v29_3) = addi (X (Proc.devRef .tc main_v29_3)) (constantI S_ 32 1#32) := by
  after_results
  rfl

/-- The counter is the loop's lower bound at the loop's entry: its last writer before the loop read back. -/
theorem ctr_entry (c : Dev nD) : entryContents preI m c (Proc.devRef .tc main_v29_3) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v29_3) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 256 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v29_3 HostLoop.idx0)
        (HloOp.result _ (atK m k c) main_while0c_c_13 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 256 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 256 m ρ (cond_spec m)

/-! ## The arguments -/

/-- The program's arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- No argument is in a list of written references. -/
abbrev Apart (W : List (Ref sig .tc)) : Prop :=
  ∀ b ∈ argRefs, b ∉ W

theorem hostOps0_apart : Apart hostOps0_W := by decide +kernel
theorem hostOps0_1_apart : Apart hostOps0_1_W := by decide +kernel
theorem hostOps0_2_apart : Apart hostOps0_2_W := by decide +kernel
theorem hostOps0_3_apart : Apart hostOps0_3_W := by decide +kernel
theorem hostOps0_4_apart : Apart hostOps0_4_W := by decide +kernel
theorem hostOps0_5_apart : Apart hostOps0_5_W := by decide +kernel
theorem hostOps0_6_apart : Apart hostOps0_6_W := by decide +kernel
theorem hostOps0_7_apart : Apart hostOps0_7_W := by decide +kernel
theorem hostOps0_8_apart : Apart hostOps0_8_W := by decide +kernel
theorem hostOps0_9_apart : Apart hostOps0_9_W := by decide +kernel
theorem hostOps0_10_apart : Apart hostOps0_10_W := by decide +kernel
theorem hostOps0_11_apart : Apart hostOps0_11_W := by decide +kernel
theorem hostOps0_12_apart : Apart hostOps0_12_W := by decide +kernel
theorem hostOps0_13_apart : Apart hostOps0_13_W := by decide +kernel
theorem while0Ops0_apart : Apart while0Ops0_W := by decide +kernel
theorem while0Ops0_1_apart : Apart while0Ops0_1_W := by decide +kernel
theorem while0Ops0_2_apart : Apart while0Ops0_2_W := by decide +kernel
theorem while0Ops0_3_apart : Apart while0Ops0_3_W := by decide +kernel
theorem condOps_apart : Apart condOps_W := by decide +kernel

/-- The lines before the loop leave the arguments as they were. -/
theorem pre_keeps (V : Valuation τ sig (Elt F)) (b : Ref sig .tc) (hb : b ∈ argRefs) :
    afterL preI V (Proc.devRef .tc b) = V (Proc.devRef .tc b) := by
  simp only [preI, afterL_cons, afterL_nil]
  rw [after_of_writes_sub hostOps0_2 _ hostOps0_2_writes (hostOps0_2_apart b hb), after_of_writes_sub hostOps0_1 _ hostOps0_1_writes (hostOps0_1_apart b hb), after_of_writes_sub hostOps0 _ hostOps0_writes (hostOps0_apart b hb)]

/-- One trip's body leaves the arguments as they were. -/
theorem body_keeps (V : Valuation τ sig (Elt F)) (b : Ref sig .tc) (hb : b ∈ argRefs) :
    afterL bodyI V (Proc.devRef .tc b) = V (Proc.devRef .tc b) := by
  simp only [bodyI, afterL_cons, afterL_nil]
  rw [after_of_writes_sub while0Ops0_3 _ while0Ops0_3_writes (while0Ops0_3_apart b hb), after_of_writes_sub while0Ops0_2 _ while0Ops0_2_writes (while0Ops0_2_apart b hb), after_of_writes_sub while0Ops0_1 _ while0Ops0_1_writes (while0Ops0_1_apart b hb), after_of_writes_sub while0Ops0 _ while0Ops0_writes (while0Ops0_apart b hb)]

/-- The lines after the loop leave the arguments as they were. -/
theorem post_keeps (V : Valuation τ sig (Elt F)) (b : Ref sig .tc) (hb : b ∈ argRefs) :
    afterL postI V (Proc.devRef .tc b) = V (Proc.devRef .tc b) := by
  simp only [postI, afterL_cons, afterL_nil]
  rw [after_of_writes_sub hostOps0_13 _ hostOps0_13_writes (hostOps0_13_apart b hb), after_of_writes_sub hostOps0_12 _ hostOps0_12_writes (hostOps0_12_apart b hb), after_of_writes_sub hostOps0_11 _ hostOps0_11_writes (hostOps0_11_apart b hb), after_of_writes_sub hostOps0_10 _ hostOps0_10_writes (hostOps0_10_apart b hb), after_of_writes_sub hostOps0_9 _ hostOps0_9_writes (hostOps0_9_apart b hb), after_of_writes_sub hostOps0_8 _ hostOps0_8_writes (hostOps0_8_apart b hb), after_of_writes_sub hostOps0_7 _ hostOps0_7_writes (hostOps0_7_apart b hb), after_of_writes_sub hostOps0_6 _ hostOps0_6_writes (hostOps0_6_apart b hb), after_of_writes_sub hostOps0_5 _ hostOps0_5_writes (hostOps0_5_apart b hb), after_of_writes_sub hostOps0_4 _ hostOps0_4_writes (hostOps0_4_apart b hb), after_of_writes_sub hostOps0_3 _ hostOps0_3_writes (hostOps0_3_apart b hb)]

/-- The condition's operations leave the arguments as they were. -/
theorem cond_keeps (V : Valuation τ sig (Elt F)) (b : Ref sig .tc) (hb : b ∈ argRefs) :
    after condOps V (Proc.devRef .tc b) = V (Proc.devRef .tc b) :=
  after_of_writes_sub condOps V condOps_writes (condOps_apart b hb)

/-- Before every condition the arguments are as launched. -/
theorem atK_keeps (c : Dev nD) (b : Ref sig .tc) (hb : b ∈ argRefs) :
    ∀ k, atK m k c (Proc.devRef .tc b) = m ((c.tc : Thread nD τ).loc b)
  | 0 => by
    rw [show atK m 0 c = entryContents preI m c from rfl]
    exact pre_keeps _ b hb
  | k + 1 => by
    rw [show atK m (k + 1) c = afterL bodyI (after condOps (atK m k c)) from rfl, body_keeps _ b hb, cond_keeps _ b hb]
    exact atK_keeps c b hb k

/-- The run ends with the arguments as launched. -/
theorem final_keeps (c : Dev nD) (b : Ref sig .tc) (hb : b ∈ argRefs) :
    finalContents condOps preI bodyI postI 256 m c (Proc.devRef .tc b) = m ((c.tc : Thread nD τ).loc b) :=
  (post_keeps _ b hb).trans ((cond_keeps _ b hb).trans (atK_keeps m c b hb 256))

end Cert.ReferenceIdeal.Ref

end
-- ==== Proof.Reference.Gathers.lean ====
module

public import proofs.«01_k».proof.Proof.Reference.Fold
public import proofs.«01_k».proof.Proof.Maths.Spec
public import Idealize.ShloMosaic.Lib.Pointwise
public import Idealize.ShloMosaic.Lib.StableHlo.ReadAt

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem Idealize.ShloMosaic.StableHlo
open Cert.Maths (Args tm idx)

/-- A gather at an index, by its coordinates. -/
theorem gather_eq {s u t : Shape} {α : Type} {w : Nat} (d : GatherDims s u t) (x : s.Idx → α) (i : IVec u w) (j : t.Idx) (p : s.Idx)
    (h : ∀ a, d.start j i a + d.batchCoord j a + d.offCoord j a = (p a).val) : Host.gather d x i j = x p := by
  unfold Host.gather
  congr 1
  funext a
  exact Fin.ext (h a)

/-- A word in range, read signed and held to the range, is itself. -/
theorem clamp_eq {n : ℕ} [NeZero n] {w : BitVec 32} (hn : n ≤ 4096) (hw : w.toNat < n) : min w.toInt.toNat (n - 1) + 0 + 0 = (idx n w).val := by
  rw [Maths.idx_val hw, BitVec.toInt_eq_toNat_of_lt (by omega)]
  omega

theorem gather_emb (x : Vec Ideal S128x512 .f32) (i : IVec S32x256x1 32) (b : Fin 32) (t : Fin 256) (e : Fin 512) (h : (i (ix3 b t 0)).toNat < 128) :
    Host.gather gather_S128x512_S32x256x1_S32x256x512_2_0_n_n_0_2_1512 x i (ix3 b t e) = x (ix2 (idx 128 (i (ix3 b t 0))) e) := by
  refine gather_eq _ _ _ _ _ fun a => ?_
  match a with
  | ⟨0, _⟩ =>
    refine Eq.trans ?_ (clamp_eq (n := 128) (by decide) h)
    show min (i (GatherDims.siIdx gather_S128x512_S32x256x1_S32x256x512_2_0_n_n_0_2_1512 (ix3 b t e) ⟨0, by decide⟩)).toInt.toNat (128 - 1) + 0 + 0 = _
    congr 6
    funext c
    match c with
    | ⟨0, _⟩ => rfl
    | ⟨1, _⟩ => rfl
    | ⟨2, _⟩ => rfl
  | ⟨1, _⟩ =>
    show 0 + 0 + e.val = e.val
    omega

theorem gather_scope (x : Vec Ideal S32x32x512 .f32) (i : IVec S32x256x1 32) (b : Fin 32) (t : Fin 256) (e : Fin 512) (h : (i (ix3 b t 0)).toNat < 32) :
    Host.gather gather_S32x32x512_S32x256x1_S32x256x512_2_1_0_0_1_2_11512 x i (ix3 b t e) = x (ix3 b (idx 32 (i (ix3 b t 0))) e) := by
  refine gather_eq _ _ _ _ _ fun a => ?_
  match a with
  | ⟨0, _⟩ =>
    show 0 + b.val + 0 = b.val
    omega
  | ⟨1, _⟩ =>
    refine Eq.trans ?_ (clamp_eq (n := 32) (by decide) h)
    show min (i (GatherDims.siIdx gather_S32x32x512_S32x256x1_S32x256x512_2_1_0_0_1_2_11512 (ix3 b t e) ⟨0, by decide⟩)).toInt.toNat (32 - 1) + 0 + 0 = _
    congr 6
    funext c
    match c with
    | ⟨0, _⟩ => rfl
    | ⟨1, _⟩ => rfl
    | ⟨2, _⟩ => rfl
  | ⟨2, _⟩ =>
    show 0 + 0 + e.val = e.val
    omega

theorem gather_tok (x : Vec Ideal S32x256x128 .f32) (i : IVec S32x256x1x1 32) (b : Fin 32) (t : Fin 256) (h : (i (ix4 b t 0 0)).toNat < 128) :
    Host.gather gather_S32x256x128_S32x256x1x1_S32x256x1_n_2_01_01_2_3_111 x i (ix3 b t 0) = x (ix3 b t (idx 128 (i (ix4 b t 0 0)))) := by
  refine gather_eq _ _ _ _ _ fun a => ?_
  match a with
  | ⟨0, _⟩ =>
    show 0 + b.val + 0 = b.val
    omega
  | ⟨1, _⟩ =>
    show 0 + t.val + 0 = t.val
    omega
  | ⟨2, _⟩ =>
    refine Eq.trans ?_ (clamp_eq (n := 128) (by decide) h)
    show min (i (GatherDims.siIdx gather_S32x256x128_S32x256x1x1_S32x256x1_n_2_01_01_2_3_111 (ix3 b t 0) ⟨0, by decide⟩)).toInt.toNat (128 - 1) + 0 + 0 = _
    congr 6
    funext c
    match c with
    | ⟨0, _⟩ => rfl
    | ⟨1, _⟩ => rfl
    | ⟨2, _⟩ => rfl
    | ⟨3, _⟩ => rfl

theorem gather_ptr (x : Vec Ideal S32x256x32 .f32) (i : IVec S32x256x1x1 32) (b : Fin 32) (t : Fin 256) (h : (i (ix4 b t 0 0)).toNat < 32) :
    Host.gather gather_S32x256x32_S32x256x1x1_S32x256x1_n_2_01_01_2_3_111 x i (ix3 b t 0) = x (ix3 b t (idx 32 (i (ix4 b t 0 0)))) := by
  refine gather_eq _ _ _ _ _ fun a => ?_
  match a with
  | ⟨0, _⟩ =>
    show 0 + b.val + 0 = b.val
    omega
  | ⟨1, _⟩ =>
    show 0 + t.val + 0 = t.val
    omega
  | ⟨2, _⟩ =>
    refine Eq.trans ?_ (clamp_eq (n := 32) (by decide) h)
    show min (i (GatherDims.siIdx gather_S32x256x32_S32x256x1x1_S32x256x1_n_2_01_01_2_3_111 (ix3 b t 0) ⟨0, by decide⟩)).toInt.toNat (32 - 1) + 0 + 0 = _
    congr 6
    funext c
    match c with
    | ⟨0, _⟩ => rfl
    | ⟨1, _⟩ => rfl
    | ⟨2, _⟩ => rfl
    | ⟨3, _⟩ => rfl

/-- A word that is not negative is not wrapped. -/
theorem wrap_eq {n : ℕ} {w : BitVec 32} (hn : n ≤ 4096) (hw : w.toNat < n) (a : BitVec 32) :
    Scalar.select (IntOp.cmpi CmpIPredicate.slt w 0#32) a w = w := by
  have : ¬ w.toInt < 0 := by rw [BitVec.toInt_eq_toNat_of_lt (by omega)]; omega
  simp [IntOp.cmpi, Scalar.select, BitVec.slt, this]

/-- A word in range passes the range's test. -/
theorem inside {n : ℕ} {w u : BitVec 32} (hn : n ≤ 4096) (hw : w.toNat < n) (hu : u.toNat + 1 = n) :
    IntOp.andi (IntOp.cmpi CmpIPredicate.sge w 0#32) (IntOp.cmpi CmpIPredicate.sle w u) = 1#1 := by
  have h1 : w.toInt = w.toNat := BitVec.toInt_eq_toNat_of_lt (by omega)
  have h2 : u.toInt = u.toNat := BitVec.toInt_eq_toNat_of_lt (by omega)
  have h3 : (0 : ℤ) ≤ w.toNat ∧ (w.toNat : ℤ) ≤ u.toNat := by omega
  simp [IntOp.cmpi, IntOp.andi, BitVec.sle, h1, h2, h3]

end Cert.ReferenceIdeal.Ref

end
-- ==== Proof.Reference.Reads.lean ====
/- Each stretch of the reference's lines, read at an index over any contents. -/
module

public import proofs.«01_k».proof.Proof.Reference.Gathers
public import Idealize.ShloMosaic.Lib.DynamicIndex
public import Idealize.ShloMosaic.Lib.WordCmp

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem Idealize.ShloMosaic.StableHlo
open Cert.Maths (Args tm idx)

variable (V : Valuation τ sig (Elt Ideal))

/-- The arguments, off a valuation. -/
def argsV : Args := Args.of (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6))
  (V (Proc.devRef .tc main_arg7)) (V (Proc.devRef .tc main_arg8)) (V (Proc.devRef .tc main_arg9)) (V (Proc.devRef .tc main_arg10))
  (V (Proc.devRef .tc main_arg11)) (V (Proc.devRef .tc main_arg12)) (V (Proc.devRef .tc main_arg13)) (V (Proc.devRef .tc main_arg14))
  (V (Proc.devRef .tc main_arg15)) (V (Proc.devRef .tc main_arg16)) (V (Proc.devRef .tc main_arg17)) (V (Proc.devRef .tc main_arg18))

/-- Two valuations that agree at the arguments give the same arguments. -/
theorem argsV_congr {V W : Valuation τ sig (Elt Ideal)} (h : ∀ b : Ref sig .tc, b ∈ argRefs → V (Proc.devRef .tc b) = W (Proc.devRef .tc b)) :
    argsV V = argsV W := by
  unfold argsV
  rw [h main_arg0 (by decide), h main_arg1 (by decide), h main_arg2 (by decide), h main_arg3 (by decide), h main_arg4 (by decide),
    h main_arg5 (by decide), h main_arg6 (by decide), h main_arg7 (by decide), h main_arg8 (by decide), h main_arg9 (by decide),
    h main_arg10 (by decide), h main_arg11 (by decide), h main_arg12 (by decide), h main_arg13 (by decide), h main_arg14 (by decide),
    h main_arg15 (by decide), h main_arg16 (by decide), h main_arg17 (by decide), h main_arg18 (by decide)]

/-- A stretch that writes no argument leaves the arguments. -/
theorem argsV_after {W : List (Ref sig .tc)} (ops : List (HloOp τ sig (Elt Ideal)))
    (hW : ops.Forall fun op => op.writes ⊆ (W.map (Proc.devRef (τ := τ) .tc)).toFinset) (h : Apart W) : argsV (after ops V) = argsV V :=
  argsV_congr fun b hb => after_of_writes_sub ops V hW (h b hb)

/-! ## Before the loop -/

theorem h0_at (b : Fin 32) (e : Fin 512) :
    afterL preI V (Proc.devRef .tc main_v29_4) (ix2 b e) = Maths.H (argsV V) b 0 e := by
  simp only [preI, afterL_cons, afterL_nil]
  after_reads_at
  simp only [id]
  pointwise
  rfl

theorem emb_at (hA : (argsV V).Ok) (b : Fin 32) (t : Fin 256) (d : Fin 512) :
    after hostOps0 V (Proc.devRef .tc main_v11) (ix3 b t d) = (argsV V).emb (idx 128 ((argsV V).ti b t)) d := by
  after_reads_at
  have hi : (broadcastInDim S32x256x1 ![0, 1] bcast_S32x256_S32x256x1_0_1
      (select (cmpi CmpIPredicate.slt (V (Proc.devRef .tc main_arg14)) (broadcastInDim S32x256 ![] bcast_S_S32x256 (constantI S_ 32 0#32)))
        (addi (V (Proc.devRef .tc main_arg14)) (broadcastInDim S32x256 ![] bcast_S_S32x256 (constantI S_ 32 128#32)))
        (V (Proc.devRef .tc main_arg14))) : IVec S32x256x1 32) (ix3 b t 0) = (argsV V).ti b t := by
    pointwise
    exact wrap_eq (by decide) (hA.ti b t) _
  rw [gather_emb _ _ _ _ _ (by rw [hi]; exact hA.ti b t), hi]
  rfl

theorem scope_at (hA : (argsV V).Ok) (b : Fin 32) (t : Fin 256) (d : Fin 512) :
    after hostOps0 V (Proc.devRef .tc main_v18) (ix3 b t d) = (argsV V).sc b (idx 32 ((argsV V).pi b t)) d := by
  after_reads_at
  have hi : (broadcastInDim S32x256x1 ![0, 1] bcast_S32x256_S32x256x1_0_1
      (select (cmpi CmpIPredicate.slt (V (Proc.devRef .tc main_arg16)) (broadcastInDim S32x256 ![] bcast_S_S32x256 (constantI S_ 32 0#32)))
        (addi (V (Proc.devRef .tc main_arg16)) (broadcastInDim S32x256 ![] bcast_S_S32x256 (constantI S_ 32 32#32)))
        (V (Proc.devRef .tc main_arg16))) : IVec S32x256x1 32) (ix3 b t 0) = (argsV V).pi b t := by
    pointwise
    exact wrap_eq (by decide) (hA.pi b t) _
  rw [gather_scope _ _ _ _ _ (by rw [hi]; exact hA.pi b t), hi]
  rfl

theorem masked_at (b : Fin 32) (t : Fin 256) (d : Fin 512) :
    after hostOps0_1 V (Proc.devRef .tc main_v20) (ix3 b t d)
      = Scalar.select (V (Proc.devRef .tc main_v19) (ix3 b t 0)) (V (Proc.devRef .tc main_v18) (ix3 b t d)) (V (Proc.devRef .tc main_cst) ix0) := by
  after_reads_at
  rfl

theorem mask_at (b : Fin 32) (t : Fin 256) : after hostOps0 V (Proc.devRef .tc main_v19) (ix3 b t 0) = (argsV V).pm b t := by
  after_reads_at
  rfl

theorem zero_at : after hostOps0 V (Proc.devRef .tc main_cst) ix0 = (0 : EReal) := by
  after_reads_at

theorem proj_at (b : Fin 32) (t : Fin 256) (g : Fin 1536) (f f' : Fin 512 → EReal) (h : ∀ d, V (Proc.devRef .tc main_v11) (ix3 b t d) = f d)
    (h' : ∀ d, V (Proc.devRef .tc main_v20) (ix3 b t d) = f' d) :
    after hostOps0_2 V (Proc.devRef .tc main_v29_0) (ix3 t b g)
      = (∑ d : Fin 512, f d * (argsV V).wih g ⟨d.val, by omega⟩) + (∑ d : Fin 512, f' d * (argsV V).wih g ⟨512 + d.val, by omega⟩)
        + (argsV V).bih g := by
  after_reads_at
  simp only [id]
  pointwise
  simp only [show upto hostOps0_2 V 0 = V from rfl, h, h']
  rfl

/-- The input's projection, at the loop's entry. -/
theorem x_at (hA : (argsV V).Ok) (b : Fin 32) (t : Fin 256) (g : Fin 1536) :
    afterL preI V (Proc.devRef .tc main_v29_0) (ix3 t b g) = Maths.X (argsV V) b t g := by
  simp only [preI, afterL_cons, afterL_nil]
  rw [proj_at _ b t g (fun d => (argsV V).emb (idx 128 ((argsV V).ti b t)) d)
      (fun d => if (argsV V).pm b t = 1#1 then (argsV V).sc b (idx 32 ((argsV V).pi b t)) d else 0) (fun d => ?_) (fun d => ?_),
    argsV_after _ hostOps0_1 hostOps0_1_writes hostOps0_1_apart, argsV_after _ hostOps0 hostOps0_writes hostOps0_apart]
  · unfold Maths.X
    refine congrArg₂ _ (congrArg₂ _ rfl ?_) rfl
    by_cases h : (argsV V).pm b t = 1#1
    · simp only [h, if_true]
    · simp only [h, if_false, zero_mul, Finset.sum_const_zero]
  · rw [after_of_writes_sub (r := main_v11) hostOps0_1 _ hostOps0_1_writes (by decide +kernel), emb_at V hA]
  · rw [masked_at, mask_at, scope_at V hA, zero_at]
    rfl

theorem entry_at : (afterL preI V (Proc.devRef .tc main_v29_1) = V (Proc.devRef .tc main_arg6))
    ∧ (afterL preI V (Proc.devRef .tc main_v29_2) = V (Proc.devRef .tc main_arg8))
    ∧ (afterL preI V (Proc.devRef .tc main_v29_3) = fun _ => Scf.iv 0#32 1#32 0) := by
  simp only [preI, afterL_cons, afterL_nil]
  refine ⟨?_, ?_, ?_⟩
  · after_reads_simp
    rfl
  · after_reads_simp
    rfl
  · rw [Scf.iv_zero]
    after_reads_simp
    rfl

/-! ## One trip -/

/-- The trip's starts, as numbers. -/
theorem starts {k : ℕ} (hk : k < 256) (x : Vec Ideal S_ .i32) (hx : x = fun _ => Scf.iv 0#32 1#32 k) (a : Fin 3) :
    BitVec.toInt ((![x, constantI S_ 32 0#32, constantI S_ 32 0#32] : Fin 3 → Vec Ideal S_ .i32) a (Shape.Idx.first h_S_)) = ((![k, 0, 0] : Fin 3 → ℕ) a : ℤ) := by
  subst hx
  match a with
  | ⟨0, _⟩ =>
    show (Scf.iv 0#32 1#32 k).toInt = (k : ℤ)
    rw [show Scf.iv 0#32 1#32 k = BitVec.ofNat 32 k by simp [Scf.iv]]
    exact Idealize.ShloMosaic.toInt_ofNat_of_lt (by omega)
  | ⟨1, _⟩ => rfl
  | ⟨2, _⟩ => rfl

theorem row_at {k : ℕ} (hk : k < 256) (hc : V (Proc.devRef .tc main_v29_3) = fun _ => Scf.iv 0#32 1#32 k) (b : Fin 32) (g : Fin 1536) :
    after while0Ops0 V (Proc.devRef .tc main_while0b_v59) (ix2 b g) = V (Proc.devRef .tc main_v29_0) (ix3 ⟨k, hk⟩ b g) := by
  have hs : S256x32x1536.Slices ![k, 0, 0] S1x32x1536 := ⟨rfl, fun a => by
    match a with
    | ⟨0, _⟩ => show k + 1 ≤ 256; omega
    | ⟨1, _⟩ => show 0 + 32 ≤ 32; omega
    | ⟨2, _⟩ => show 0 + 1536 ≤ 1536; omega⟩
  have e : after while0Ops0 V (Proc.devRef .tc main_while0b_v59) = fun i => shapeCast S32x1536 (extractStridedSlice S1x32x1536 ![k, 0, 0] (V (Proc.devRef .tc main_v29_0)) hs) shapeCasts_S1x32x1536_S32x1536 i := by
    after_results_simp_entrywise; simp only [TRef.ofBuf_toBuf]; simp only [TRef.ofBuf, TRef.toBuf, dropContentsCast]
    rw [Host.dynamicSlice_eq_extractStridedSlice S1x32x1536 _ _ ![k, 0, 0] _ hs (starts hk _ hc)]
    rfl
  rw [e]
  pointwise

theorem cell_at (b : Fin 32) (j : Fin 512) {x c : Fin 1536 → EReal} {w : Fin 1536 → Fin 512 → EReal} {h : Fin 512 → EReal}
    (hx : ∀ g, V (Proc.devRef .tc main_while0b_v59) (ix2 b g) = x g) (hw : ∀ g d, V (Proc.devRef .tc main_v29_1) (ix2 g d) = w g d)
    (hc : ∀ g, V (Proc.devRef .tc main_v29_2) (ix1 g) = c g) (hh : ∀ d, V (Proc.devRef .tc main_v29_4) (ix2 b d) = h d) :
    after while0Ops0_1 V (Proc.devRef .tc main_while0b_v92) (ix2 b j) = Maths.cell x (fun g => (∑ d : Fin 512, h d * w g d) + c g) h j := by
  after_reads_at
  simp only [hx, hw, hc, hh]
  rfl

theorem outs_at {k : ℕ} (hk : k < 256) (hc : V (Proc.devRef .tc main_v29_3) = fun _ => Scf.iv 0#32 1#32 k) (t : Fin 256) (b : Fin 32) (j : Fin 512) :
    after while0Ops0_2 V (Proc.devRef .tc main_while0b_v93) (ix3 t b j)
      = if t.val = k then V (Proc.devRef .tc main_while0b_v92) (ix2 b j) else V (Proc.devRef .tc main_v29_5) (ix3 t b j) := by
  have hs : S256x32x512.Slices ![k, 0, 0] S1x32x512 := ⟨rfl, fun a => by
    match a with
    | ⟨0, _⟩ => show k + 1 ≤ 256; omega
    | ⟨1, _⟩ => show 0 + 32 ≤ 32; omega
    | ⟨2, _⟩ => show 0 + 512 ≤ 512; omega⟩
  have e : after while0Ops0_2 V (Proc.devRef .tc main_while0b_v93) = updateSlice (V (Proc.devRef .tc main_v29_5)) (broadcastInDim S1x32x512 ![1, 2] bcast_S32x512_S1x32x512_1_2 (V (Proc.devRef .tc main_while0b_v92))) ![k, 0, 0] hs := by
    after_results_simp_entrywise; simp only [TRef.ofBuf_toBuf]; simp only [TRef.ofBuf, TRef.toBuf, dropContentsCast]
    exact WordCmp.dynamicUpdateSlice_eq_update (s := S256x32x512) (u := S1x32x512) _ _ _ _ ![k, 0, 0] hs (starts hk _ hc)
  rw [e]
  pointwise
  by_cases h : t.val = k
  · rw [dif_pos (fun a => ?_), if_pos h]
    match a with
    | ⟨0, _⟩ => show k ≤ t.val ∧ t.val < k + 1; omega
    | ⟨1, _⟩ => show 0 ≤ b.val ∧ b.val < 0 + 32; omega
    | ⟨2, _⟩ => show 0 ≤ j.val ∧ j.val < 0 + 512; omega
  · rw [dif_neg (fun hall => ?_), if_neg h]
    have : k ≤ t.val ∧ t.val < k + 1 := hall (0 : Fin 3)
    omega

theorem next_at (b : Fin 32) (j : Fin 512) : after while0Ops0_3 V (Proc.devRef .tc main_v29_4) (ix2 b j) = V (Proc.devRef .tc main_while0b_v92) (ix2 b j) := by
  after_reads_at
  rfl

theorem kept_at (t : Fin 256) (b : Fin 32) (j : Fin 512) : after while0Ops0_3 V (Proc.devRef .tc main_v29_5) (ix3 t b j) = V (Proc.devRef .tc main_while0b_v93) (ix3 t b j) := by
  after_reads_at
  rfl

end Cert.ReferenceIdeal.Ref

end
-- ==== Proof.Reference.Trips.lean ====
/- The recurrent loop: before each trip the state, and the states stored so far. -/
module

public import proofs.«01_k».proof.Proof.Reference.Reads

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem Idealize.ShloMosaic.StableHlo
open Cert.Maths (Args tm idx)

/-- What holds before trip `k`. -/
structure Trip (A : Args) (k : ℕ) (V : Valuation τ sig (Elt Ideal)) : Prop where
  args : argsV V = A
  x : ∀ t b g, V (Proc.devRef .tc main_v29_0) (ix3 t b g) = Maths.X A b t g
  w : ∀ g d, V (Proc.devRef .tc main_v29_1) (ix2 g d) = A.whh g d
  c : ∀ g, V (Proc.devRef .tc main_v29_2) (ix1 g) = A.bhh g
  ctr : V (Proc.devRef .tc main_v29_3) = fun _ => Scf.iv 0#32 1#32 k
  h : ∀ b j, V (Proc.devRef .tc main_v29_4) (ix2 b j) = Maths.H A b k j
  o : ∀ (t : Fin 256), t.val < k → ∀ b j, V (Proc.devRef .tc main_v29_5) (ix3 t b j) = Maths.H A b (t.val + 1) j

theorem entry_trip (V : Valuation τ sig (Elt Ideal)) (hA : (argsV V).Ok) : Trip (argsV V) 0 (afterL preI V) where
  args := argsV_congr fun b hb => pre_keeps V b hb
  x t b g := x_at V hA b t g
  w g d := by rw [(entry_at V).1]; rfl
  c g := by rw [(entry_at V).2.1]; rfl
  ctr := (entry_at V).2.2
  h b j := h0_at V b j
  o t ht := absurd ht (Nat.not_lt_zero _)

theorem cond_trip {A : Args} {k : ℕ} {V : Valuation τ sig (Elt Ideal)} (hV : Trip A k V) : Trip A k (after condOps V) := by
  have keep : ∀ r : Ref sig .tc, r ∉ condOps_W → after condOps V (Proc.devRef .tc r) = V (Proc.devRef .tc r) :=
    fun r hr => after_of_writes_sub condOps V condOps_writes hr
  refine ⟨(argsV_after V condOps condOps_writes condOps_apart).trans hV.args, ?_, ?_, ?_, ?_, ?_, ?_⟩
  · rw [keep main_v29_0 (by decide +kernel)]; exact hV.x
  · rw [keep main_v29_1 (by decide +kernel)]; exact hV.w
  · rw [keep main_v29_2 (by decide +kernel)]; exact hV.c
  · rw [keep main_v29_3 (by decide +kernel)]; exact hV.ctr
  · rw [keep main_v29_4 (by decide +kernel)]; exact hV.h
  · rw [keep main_v29_5 (by decide +kernel)]; exact hV.o

/-- What the body's first stretches leave of a buffer they do not write. -/
theorem keep3 (V : Valuation τ sig (Elt Ideal)) (r : Ref sig .tc) (hr : r ∉ while0Ops0_W ∧ r ∉ while0Ops0_1_W ∧ r ∉ while0Ops0_2_W) :
    after while0Ops0_2 (after while0Ops0_1 (after while0Ops0 V)) (Proc.devRef .tc r) = V (Proc.devRef .tc r) := by
  rw [after_of_writes_sub while0Ops0_2 _ while0Ops0_2_writes hr.2.2, after_of_writes_sub while0Ops0_1 _ while0Ops0_1_writes hr.2.1,
    after_of_writes_sub while0Ops0 _ while0Ops0_writes hr.1]

theorem body_trip {A : Args} {k : ℕ} (hk : k < 256) {V : Valuation τ sig (Elt Ideal)} (hV : Trip A k V) : Trip A (k + 1) (afterL bodyI V) := by
  have hargs : argsV (afterL bodyI V) = A := (argsV_congr fun b hb => body_keeps V b hb).trans hV.args
  revert hargs
  simp only [bodyI, afterL_cons, afterL_nil]
  intro hargs
  have k1 : ∀ r : Ref sig .tc, r ∉ while0Ops0_W → after while0Ops0 V (Proc.devRef .tc r) = V (Proc.devRef .tc r) :=
    fun r hr => after_of_writes_sub while0Ops0 V while0Ops0_writes hr
  have hnew : ∀ b j, after while0Ops0_1 (after while0Ops0 V) (Proc.devRef .tc main_while0b_v92) (ix2 b j) = Maths.H A b (k + 1) j := fun b j => by
    rw [cell_at (after while0Ops0 V) b j (x := Maths.X A b ⟨k, hk⟩) (c := A.bhh) (w := A.whh) (h := Maths.H A b k)
      (fun g => (row_at V hk hV.ctr b g).trans (hV.x _ b g))
      (by rw [k1 main_v29_1 (by decide +kernel)]; exact hV.w) (by rw [k1 main_v29_2 (by decide +kernel)]; exact hV.c)
      (by rw [k1 main_v29_4 (by decide +kernel)]; exact hV.h b)]
    rw [show (⟨k, hk⟩ : Fin 256) = tm k from Fin.ext (Nat.mod_eq_of_lt hk).symm]
    rfl
  have k3 : ∀ r : Ref sig .tc, r ∉ while0Ops0_3_W → r ∉ while0Ops0_W ∧ r ∉ while0Ops0_1_W ∧ r ∉ while0Ops0_2_W →
      after while0Ops0_3 (after while0Ops0_2 (after while0Ops0_1 (after while0Ops0 V))) (Proc.devRef .tc r) = V (Proc.devRef .tc r) :=
    fun r hr h => (after_of_writes_sub while0Ops0_3 _ while0Ops0_3_writes hr).trans (keep3 V r h)
  refine ⟨hargs, ?_, ?_, ?_, ?_, ?_, ?_⟩
  · rw [k3 main_v29_0 (by decide +kernel) (by decide +kernel)]; exact hV.x
  · rw [k3 main_v29_1 (by decide +kernel) (by decide +kernel)]; exact hV.w
  · rw [k3 main_v29_2 (by decide +kernel) (by decide +kernel)]; exact hV.c
  · rw [ctr_step, keep3 V main_v29_3 (by decide +kernel), hV.ctr, Scf.iv_succ]
    rfl
  · intro b j
    rw [next_at, after_of_writes_sub (r := main_while0b_v92) while0Ops0_2 _ while0Ops0_2_writes (by decide +kernel)]
    exact hnew b j
  · intro t ht b j
    rw [kept_at, outs_at _ hk (by
      rw [after_of_writes_sub (r := main_v29_3) while0Ops0_1 _ while0Ops0_1_writes (by decide +kernel), k1 main_v29_3 (by decide +kernel)]
      exact hV.ctr)]
    by_cases h : t.val = k
    · rw [if_pos h, h]
      exact hnew b j
    · rw [if_neg h, after_of_writes_sub (r := main_v29_5) while0Ops0_1 _ while0Ops0_1_writes (by decide +kernel), k1 main_v29_5 (by decide +kernel)]
      exact hV.o t (by omega) b j

variable (m : (ℓ : Loc nD τ sig) → Buf (Elt Ideal) ℓ) (c : Dev nD)

/-- The arguments, as the memory holds them. -/
def args : Args := argsV fun b => m (c, b)

theorem atK_trip (hA : (args m c).Ok) : ∀ k, k ≤ 256 → Trip (args m c) k (atK m k c)
  | 0, _ => entry_trip _ hA
  | k + 1, hk => body_trip hk (cond_trip (atK_trip hA k (Nat.le_of_lt hk)))

end Cert.ReferenceIdeal.Ref

end
-- ==== Proof.Reference.Tail.lean ====
/- The lines after the loop, read at an index: the scores, their log-softmax at the target, and the sums over time. -/
module

public import proofs.«01_k».proof.Proof.Reference.Trips

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem Idealize.ShloMosaic.StableHlo
open Cert.Maths (Args tm idx)

variable (V : Valuation τ sig (Elt Ideal))

theorem low_eq : Ideal.ofBits FTy.f32 4286578688#32 = (⊥ : EReal) := by
  simp [Ideal.ofBits, Ideal.ieee]

/-- A conjunction of ones. -/
theorem all_one {ι : Type} [DecidableEq ι] (s : Finset ι) : Finset.fold IntOp.andi (1#1) (fun _ : ι => 1#1) s = 1#1 := by
  induction s using Finset.induction_on with
  | empty => rfl
  | insert a s ha ih => rw [Finset.fold_insert ha, ih]; rfl

section
variable (b : Fin 32) (t : Fin 256)

theorem states_at (j : Fin 512) : after hostOps0_3 V (Proc.devRef .tc main_v30) (ix3 b t j) = V (Proc.devRef .tc main_v29_5) (ix3 t b j) := by
  after_reads_at

theorem logits_at {h : Fin 512 → EReal} (hh : ∀ j, V (Proc.devRef .tc main_v29_5) (ix3 t b j) = h j) (v : Fin 128) :
    after hostOps0_3 V (Proc.devRef .tc main_v35) (ix3 b t v) = Maths.tokOf (argsV V) h v := by
  after_reads_at
  simp only [hh]
  rfl

theorem tokLsm_at {f : Fin 128 → EReal} (hf : ∀ v, V (Proc.devRef .tc main_v35) (ix3 b t v) = f v) (v : Fin 128) :
    after hostOps0_4 V (Proc.devRef .tc main_v36) (ix3 b t v) = Maths.lsm f v := by
  after_reads_at
  simp only [hf, low_eq, max_eq_right bot_le]
  rfl

theorem ptrLsm_at {f : Fin 32 → EReal} (hf : ∀ v, V (Proc.devRef .tc main_v51) (ix3 b t v) = f v) (v : Fin 32) :
    after hostOps0_8 V (Proc.devRef .tc main_v52) (ix3 b t v) = Maths.lsm f v := by
  after_reads_at
  simp only [hf, low_eq, max_eq_right bot_le]
  rfl

theorem tokId_at : after hostOps0_5 V (Proc.devRef .tc main_v37) (ix3 b t 0) = (argsV V).tt b t := by
  after_reads_at
  rfl

theorem ptrId_at : after hostOps0_9 V (Proc.devRef .tc main_v53) (ix3 b t 0) = (argsV V).pt b t := by
  after_reads_at
  rfl

theorem tokTake_at {w : BitVec 32} (hw : w.toNat < 128) (hi : V (Proc.devRef .tc main_v37) (ix3 b t 0) = w) :
    after hostOps0_6 V (Proc.devRef .tc main_v38) (ix3 b t 0) = V (Proc.devRef .tc main_v36) (ix3 b t (idx 128 w)) := by
  after_reads_at
  simp only [hi, wrap_eq (show 128 ≤ 4096 by decide) hw, inside (n := 128) (by decide) hw (show (127#32).toNat + 1 = 128 by decide), all_one]
  have e : Scalar.select (IntOp.cmpi CmpIPredicate.slt (V (Proc.devRef .tc main_v37) (ix3 b t 0)) 0#32)
      (IntOp.addi (V (Proc.devRef .tc main_v37) (ix3 b t 0)) 128#32) (V (Proc.devRef .tc main_v37) (ix3 b t 0)) = w := by
    rw [hi]
    exact wrap_eq (by decide) hw _
  refine Eq.trans (b := V (Proc.devRef .tc main_v36) (ix3 b t (idx 128 (Scalar.select (IntOp.cmpi CmpIPredicate.slt (V (Proc.devRef .tc main_v37) (ix3 b t 0)) 0#32)
      (IntOp.addi (V (Proc.devRef .tc main_v37) (ix3 b t 0)) 128#32) (V (Proc.devRef .tc main_v37) (ix3 b t 0)))))) ?_ (by rw [e])
  exact gather_tok _ _ b t (by show BitVec.toNat (Scalar.select (IntOp.cmpi CmpIPredicate.slt (V (Proc.devRef .tc main_v37) (ix3 b t 0)) 0#32)
      (IntOp.addi (V (Proc.devRef .tc main_v37) (ix3 b t 0)) 128#32) (V (Proc.devRef .tc main_v37) (ix3 b t 0))) < 128; rw [e]; exact hw)

theorem ptrTake_at {w : BitVec 32} (hw : w.toNat < 32) (hi : V (Proc.devRef .tc main_v53) (ix3 b t 0) = w) :
    after hostOps0_10 V (Proc.devRef .tc main_v54) (ix3 b t 0) = V (Proc.devRef .tc main_v52) (ix3 b t (idx 32 w)) := by
  after_reads_at
  simp only [hi, wrap_eq (show 32 ≤ 4096 by decide) hw, inside (n := 32) (by decide) hw (show (31#32).toNat + 1 = 32 by decide), all_one]
  have e : Scalar.select (IntOp.cmpi CmpIPredicate.slt (V (Proc.devRef .tc main_v53) (ix3 b t 0)) 0#32)
      (IntOp.addi (V (Proc.devRef .tc main_v53) (ix3 b t 0)) 32#32) (V (Proc.devRef .tc main_v53) (ix3 b t 0)) = w := by
    rw [hi]
    exact wrap_eq (by decide) hw _
  refine Eq.trans (b := V (Proc.devRef .tc main_v52) (ix3 b t (idx 32 (Scalar.select (IntOp.cmpi CmpIPredicate.slt (V (Proc.devRef .tc main_v53) (ix3 b t 0)) 0#32)
      (IntOp.addi (V (Proc.devRef .tc main_v53) (ix3 b t 0)) 32#32) (V (Proc.devRef .tc main_v53) (ix3 b t 0)))))) ?_ (by rw [e])
  exact gather_ptr _ _ b t (by show BitVec.toNat (Scalar.select (IntOp.cmpi CmpIPredicate.slt (V (Proc.devRef .tc main_v53) (ix3 b t 0)) 0#32)
      (IntOp.addi (V (Proc.devRef .tc main_v53) (ix3 b t 0)) 32#32) (V (Proc.devRef .tc main_v53) (ix3 b t 0))) < 32; rw [e]; exact hw)

theorem atts_at {h : Fin 512 → EReal} (hh : ∀ j, V (Proc.devRef .tc main_v30) (ix3 b t j) = h j) (s : Fin 32) :
    after hostOps0_7 V (Proc.devRef .tc main_v51) (ix3 b t s) = Maths.attOf (argsV V) b h s := by
  after_reads_at
  simp only [hh]
  rfl

theorem ptrMask_at : after hostOps0_12 (after hostOps0_11 V) (Proc.devRef .tc main_v56) (ix2 b t)
    = Scalar.select ((argsV V).pm b t) (V (Proc.devRef .tc main_v54) (ix3 b t 0)) (0 : EReal) := by
  after_reads_at
  simp only [id]
  pointwise
  rfl

end

theorem tokSum_at (b : Fin 32) {f : Fin 256 → EReal} (hf : ∀ t, V (Proc.devRef .tc main_v38) (ix3 b t 0) = f t) :
    after hostOps0_7 V (Proc.devRef .tc main_v40) (ix1 b) = ∑ t : Fin 256, f t := by
  after_reads_at
  simp only [hf]

theorem total_at (b : Fin 32) {x : EReal} {f : Fin 256 → EReal} (hx : V (Proc.devRef .tc main_v40) (ix1 b) = x)
    (hf : ∀ t, V (Proc.devRef .tc main_v56) (ix2 b t) = f t) :
    after hostOps0_13 V (Proc.devRef .tc main_v58) (ix1 b) = x + ∑ t : Fin 256, f t := by
  after_reads_at
  simp only [hx, hf]

end Cert.ReferenceIdeal.Ref

end
-- ==== Proof.Reference.Result.lean ====
/- The reference's value: each row's result is the sum of the token and the pointer log-likelihoods. -/
module

public import proofs.«01_k».proof.Proof.Reference.Tail

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem Idealize.ShloMosaic.StableHlo
open Cert.Maths (Args tm idx)

/-- What the lines after the loop leave, off the arguments and the states the loop stored. -/
theorem post_at {A : Args} {V : Valuation τ sig (Elt Ideal)} (hA : A.Ok) (hargs : argsV V = A)
    (ho : ∀ (t : Fin 256) b j, V (Proc.devRef .tc main_v29_5) (ix3 t b j) = Maths.H A b (t.val + 1) j) (b : Fin 32) :
    afterL postI V (Proc.devRef .tc main_v58) (ix1 b) = Maths.R A b := by
  simp only [postI, afterL_cons, afterL_nil]
  have a3 := (argsV_after V hostOps0_3 hostOps0_3_writes hostOps0_3_apart).trans hargs
  have hs : ∀ t j, after hostOps0_3 V (Proc.devRef .tc main_v30) (ix3 b t j) = Maths.H A b (t.val + 1) j :=
    fun t j => (states_at V b t j).trans (ho t b j)
  have hl : ∀ t v, after hostOps0_3 V (Proc.devRef .tc main_v35) (ix3 b t v) = Maths.tokOf A (Maths.H A b (t.val + 1)) v :=
    fun t v => (logits_at V b t (ho t b) v).trans (by rw [hargs])
  clear ho hargs
  generalize after hostOps0_3 V = V3 at a3 hs hl ⊢
  have a4 := (argsV_after V3 hostOps0_4 hostOps0_4_writes hostOps0_4_apart).trans a3
  have s4 : ∀ t j, after hostOps0_4 V3 (Proc.devRef .tc main_v30) (ix3 b t j) = Maths.H A b (t.val + 1) j := by
    rw [after_of_writes_sub (r := main_v30) hostOps0_4 _ hostOps0_4_writes (by decide +kernel)]; exact hs
  have l4 : ∀ t v, after hostOps0_4 V3 (Proc.devRef .tc main_v36) (ix3 b t v) = Maths.lsm (Maths.tokOf A (Maths.H A b (t.val + 1))) v :=
    fun t v => tokLsm_at V3 b t (hl t) v
  clear hs hl a3
  generalize after hostOps0_4 V3 = V4 at a4 s4 l4 ⊢
  have a5 := (argsV_after V4 hostOps0_5 hostOps0_5_writes hostOps0_5_apart).trans a4
  have s5 : ∀ t j, after hostOps0_5 V4 (Proc.devRef .tc main_v30) (ix3 b t j) = Maths.H A b (t.val + 1) j := by
    rw [after_of_writes_sub (r := main_v30) hostOps0_5 _ hostOps0_5_writes (by decide +kernel)]; exact s4
  have l5 : ∀ t v, after hostOps0_5 V4 (Proc.devRef .tc main_v36) (ix3 b t v) = Maths.lsm (Maths.tokOf A (Maths.H A b (t.val + 1))) v := by
    rw [after_of_writes_sub (r := main_v36) hostOps0_5 _ hostOps0_5_writes (by decide +kernel)]; exact l4
  have i5 : ∀ t, after hostOps0_5 V4 (Proc.devRef .tc main_v37) (ix3 b t 0) = A.tt b t :=
    fun t => (tokId_at V4 b t).trans (by rw [a4])
  clear s4 l4 a4
  generalize after hostOps0_5 V4 = V5 at a5 s5 l5 i5 ⊢
  have a6 := (argsV_after V5 hostOps0_6 hostOps0_6_writes hostOps0_6_apart).trans a5
  have s6 : ∀ t j, after hostOps0_6 V5 (Proc.devRef .tc main_v30) (ix3 b t j) = Maths.H A b (t.val + 1) j := by
    rw [after_of_writes_sub (r := main_v30) hostOps0_6 _ hostOps0_6_writes (by decide +kernel)]; exact s5
  have l6 : ∀ t, after hostOps0_6 V5 (Proc.devRef .tc main_v38) (ix3 b t 0) = Maths.tokLL A b t :=
    fun t => (tokTake_at V5 b t (hA.tt b t) (i5 t)).trans (l5 t _)
  clear s5 l5 a5 i5
  generalize after hostOps0_6 V5 = V6 at a6 s6 l6 ⊢
  have a7 := (argsV_after V6 hostOps0_7 hostOps0_7_writes hostOps0_7_apart).trans a6
  have t7 : after hostOps0_7 V6 (Proc.devRef .tc main_v40) (ix1 b) = ∑ t : Fin 256, Maths.tokLL A b t := tokSum_at V6 b l6
  have p7 : ∀ t v, after hostOps0_7 V6 (Proc.devRef .tc main_v51) (ix3 b t v) = Maths.attOf A b (Maths.H A b (t.val + 1)) v :=
    fun t v => (atts_at V6 b t (s6 t) v).trans (by rw [a6])
  clear s6 l6 a6
  generalize after hostOps0_7 V6 = V7 at a7 t7 p7 ⊢
  have a8 := (argsV_after V7 hostOps0_8 hostOps0_8_writes hostOps0_8_apart).trans a7
  have t8 : after hostOps0_8 V7 (Proc.devRef .tc main_v40) (ix1 b) = ∑ t : Fin 256, Maths.tokLL A b t := by
    rw [after_of_writes_sub (r := main_v40) hostOps0_8 _ hostOps0_8_writes (by decide +kernel)]; exact t7
  have p8 : ∀ t v, after hostOps0_8 V7 (Proc.devRef .tc main_v52) (ix3 b t v) = Maths.lsm (Maths.attOf A b (Maths.H A b (t.val + 1))) v :=
    fun t v => ptrLsm_at V7 b t (p7 t) v
  clear a7 t7 p7
  generalize after hostOps0_8 V7 = V8 at a8 t8 p8 ⊢
  have a9 := (argsV_after V8 hostOps0_9 hostOps0_9_writes hostOps0_9_apart).trans a8
  have t9 : after hostOps0_9 V8 (Proc.devRef .tc main_v40) (ix1 b) = ∑ t : Fin 256, Maths.tokLL A b t := by
    rw [after_of_writes_sub (r := main_v40) hostOps0_9 _ hostOps0_9_writes (by decide +kernel)]; exact t8
  have p9 : ∀ t v, after hostOps0_9 V8 (Proc.devRef .tc main_v52) (ix3 b t v) = Maths.lsm (Maths.attOf A b (Maths.H A b (t.val + 1))) v := by
    rw [after_of_writes_sub (r := main_v52) hostOps0_9 _ hostOps0_9_writes (by decide +kernel)]; exact p8
  have i9 : ∀ t, after hostOps0_9 V8 (Proc.devRef .tc main_v53) (ix3 b t 0) = A.pt b t :=
    fun t => (ptrId_at V8 b t).trans (by rw [a8])
  clear a8 t8 p8
  generalize after hostOps0_9 V8 = V9 at a9 t9 p9 i9 ⊢
  have a10 := (argsV_after V9 hostOps0_10 hostOps0_10_writes hostOps0_10_apart).trans a9
  have t10 : after hostOps0_10 V9 (Proc.devRef .tc main_v40) (ix1 b) = ∑ t : Fin 256, Maths.tokLL A b t := by
    rw [after_of_writes_sub (r := main_v40) hostOps0_10 _ hostOps0_10_writes (by decide +kernel)]; exact t9
  have p10 : ∀ t, after hostOps0_10 V9 (Proc.devRef .tc main_v54) (ix3 b t 0)
      = Maths.lsm (Maths.attOf A b (Maths.H A b (t.val + 1))) (idx 32 (A.pt b t)) :=
    fun t => (ptrTake_at V9 b t (hA.pt b t) (i9 t)).trans (p9 t _)
  clear a9 t9 p9 i9
  generalize after hostOps0_10 V9 = V10 at a10 t10 p10 ⊢
  refine total_at _ b ?_ fun t => ?_
  · rw [after_of_writes_sub (r := main_v40) hostOps0_12 _ hostOps0_12_writes (by decide +kernel),
      after_of_writes_sub (r := main_v40) hostOps0_11 _ hostOps0_11_writes (by decide +kernel)]
    exact t10
  · rw [ptrMask_at, a10, p10]
    rfl

variable (m : (ℓ : Loc nD τ sig) → Buf (Elt Ideal) ℓ) (c : Dev nD)

theorem final_at (hA : (args m c).Ok) :
    finalContents condOps preI bodyI postI 256 m c (Proc.devRef .tc main_v58) = fun j : S32.Idx => (Maths.R (args m c) (j 0) : EReal) := by
  funext j
  idx_vars j
  have h := cond_trip (atK_trip m c hA 256 le_rfl)
  exact post_at hA h.args (fun t => h.o t t.isLt) _

/-- The reference's run: each row's result. -/
theorem run_result (ρ : Dev nD → PrngReg) (hA : ∀ c, (args m c).Ok) :
    θ_run defs (onTc (τ := τ) (main (F := Ideal))) ⟨m, fun _ => 0, ρ⟩ (fun r => ∀ c : Dev nD,
      r.2.mem ((c.tc : Thread nD τ).loc main_v58) = fun j : S32.Idx => (Maths.R (args m c) (j 0) : EReal)) :=
  (θ_run defs _ _).mono (fun _ h c => (h c main_v58 rfl).trans (final_at m c (hA c))) (run_fold m ρ)

end Cert.ReferenceIdeal.Ref

end
-- ==== Proof.Reference.Frame.lean ====
/- The reference's frame: the arguments end unchanged and every counter at zero. -/
module

public import proofs.«01_k».proof.Proof.Reference.Fold
public import proofs.«01_k».proof.Defs

@[expose] public section

noncomputable section

namespace Cert.ReferenceIdeal.Ref

open Idealize.ShloMosaic Idealize.ShloMosaic.TcCoe Idealize.SL.Sem
open Cert.ReferenceIdeal Cert.ReferenceIdeal.Gen

theorem quiescent : Cert.quiescent_ReferenceIdeal (hReferenceIdeal := facts) := fun m ρ _ =>
  (θ_run defs _ _).mono (fun r h => ⟨fun c => by
      have k : ∀ b ∈ argRefs, (Proc.devRef .tc b : DevRef τ sig).isScoped = false →
          r.2.mem ((c.tc : Thread nD τ).loc b) = m ((c.tc : Thread nD τ).loc b) :=
        fun b hb hs => (h c b hs).trans (final_keeps m c b hb)
      exact ⟨k main_arg0 (by decide +kernel) rfl, k main_arg1 (by decide +kernel) rfl, k main_arg2 (by decide +kernel) rfl, k main_arg3 (by decide +kernel) rfl, k main_arg4 (by decide +kernel) rfl, k main_arg5 (by decide +kernel) rfl, k main_arg6 (by decide +kernel) rfl, k main_arg7 (by decide +kernel) rfl, k main_arg8 (by decide +kernel) rfl, k main_arg9 (by decide +kernel) rfl, k main_arg10 (by decide +kernel) rfl, k main_arg11 (by decide +kernel) rfl, k main_arg12 (by decide +kernel) rfl, k main_arg13 (by decide +kernel) rfl, k main_arg14 (by decide +kernel) rfl, k main_arg15 (by decide +kernel) rfl, k main_arg16 (by decide +kernel) rfl, k main_arg17 (by decide +kernel) rfl, k main_arg18 (by decide +kernel) rfl⟩,
    Idealize.ShloMosaic.sem_eq_zero_of_no_sems (by decide) r.2⟩) (run_fold m ρ)

end Cert.ReferenceIdeal.Ref

end
-- ==== Proof.Value.Algebraic.lean ====
/- The kernel's and the reference's idealized programs return the same array. -/
module

public import proofs.«01_k».proof.Proof.Value.Range
public import proofs.«01_k».proof.Proof.KernelIdeal.Result
public import proofs.«01_k».proof.Proof.KernelIdeal.Frame
public import proofs.«01_k».proof.Proof.Reference.Result
public import proofs.«01_k».proof.Proof.Reference.Frame

@[expose] public section

noncomputable section

namespace Cert.Value

open Idealize.ShloMosaic Idealize.ShloMosaic.TcCoe Idealize.SL.Sem Cert.Maths

theorem algebraic : Cert.algebraic_KernelIdeal_ReferenceIdeal_pre_within_range (hKernelIdeal := Cert.KernelIdeal.Gen.facts)
    (hReferenceIdeal := Cert.ReferenceIdeal.Gen.facts) (hPre_within_range := range_facts) := fun m g m' g' hPre hEq => by
  have hK := ok_of_pre m hPre
  have hArgs : ∀ c : Dev Cert.ReferenceIdeal.nD, Cert.ReferenceIdeal.Ref.args m' c = Cert.KernelIdeal.Hand.args m c := fun c => by
    obtain ⟨e0, e1, e2, e3, e4, e5, e6, e7, e8, e9, e10, e11, e12, e13, e14, e15, e16, e17, e18⟩ := hEq c
    unfold Cert.KernelIdeal.Hand.args
    rw [← e0, ← e1, ← e2, ← e3, ← e4, ← e5, ← e6, ← e7, ← e8, ← e9, ← e10, ← e11, ← e12, ← e13, ← e14, ← e15, ← e16, ← e17, ← e18]
    rfl
  refine ⟨fun c j => (Maths.R (Cert.KernelIdeal.Hand.args m c) (j 0) : EReal), ?_, ?_⟩
  · exact (θ_run Cert.KernelIdeal.defs _ _).mono (fun r h c => ⟨h.1 c, h.2.1 c⟩)
      (θ_run_and (Cert.KernelIdeal.Hand.run_result g hK) (Cert.KernelIdeal.Hand.quiescent m g trivial))
  · exact (θ_run Cert.ReferenceIdeal.defs _ _).mono (fun r h c => ⟨(h.1 c).trans (by rw [hArgs c]; rfl), h.2.1 c⟩)
      (θ_run_and (Cert.ReferenceIdeal.Ref.run_result m' g' fun c => (hArgs c) ▸ hK c) (Cert.ReferenceIdeal.Ref.quiescent m' g' trivial))

end Cert.Value

end
-- ==== Proof.lean ====
/- The claim: the kernel and its idealized program leave their arguments unchanged, the reference does too,
   and the idealized kernel and the reference return the same array. -/
module

public import proofs.«01_k».proof.Defs
public import proofs.«01_k».proof.Proof.Kernel.Frame
public import proofs.«01_k».proof.Proof.Value.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Maths.range_facts,
    Cert.Kernel.Hand.quiescent,
    Cert.KernelIdeal.Hand.quiescent, fun m g _ => Cert.KernelIdeal.Hand.quiescent m g trivial,
    Cert.ReferenceIdeal.Ref.quiescent, fun m g _ => Cert.ReferenceIdeal.Ref.quiescent m g trivial,
    trivial,
    Cert.Value.algebraic⟩

end Cert.Proof

end
